-- ==== Defs.lean ====
def Pre_Kernel [hPre_counted : Cert.Pre_counted.Facts] (m : (ℓ : Loc Cert.Kernel.nD Cert.Kernel.τ Cert.Kernel.sig) → Buf (Elt Bits) ℓ) : Prop :=
  ∀ c : Dev Cert.Kernel.nD,
    (Cert.Pre_counted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_counted : Cert.Pre_counted.Facts] (m : (ℓ : Loc Cert.KernelIdeal.nD Cert.KernelIdeal.τ Cert.KernelIdeal.sig) → Buf (Elt Ideal) ℓ) : Prop :=
  ∀ c : Dev Cert.KernelIdeal.nD,
    (Cert.Pre_counted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_counted : Cert.Pre_counted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_counted : Cert.Pre_counted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_counted : Cert.Pre_counted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_counted : Cert.Pre_counted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counted : Cert.Pre_counted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27_0) = v0 c
          ∧ r.2.mem ((c.tc : Thread Cert.ReferenceIdeal.nD Cert.ReferenceIdeal.τ).loc Cert.ReferenceIdeal.main_v27_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_counted : Cert.Pre_counted.Facts),
    quiescent_Kernel (hKernel := hKernel) (hPre_counted := hPre_counted)
    ∧ quiescent_KernelIdeal (hKernelIdeal := hKernelIdeal) (hPre_counted := hPre_counted)
    ∧ quiescent_ReferenceIdeal (hReferenceIdeal := hReferenceIdeal) (hPre_counted := hPre_counted)
    ∧ preserves_Kernel_KernelIdeal
    ∧ algebraic_KernelIdeal_ReferenceIdeal (hKernelIdeal := hKernelIdeal) (hReferenceIdeal := hReferenceIdeal) (hPre_counted := hPre_counted)
-- ==== Pre_counted.lean ====
abbrev S3x640x448 : Shape := ⟨3, ![3, 640, 448]⟩
abbrev S1720320 : Shape := ⟨1, ![1720320]⟩
abbrev S3x640 : Shape := ⟨2, ![3, 640]⟩
abbrev S3x640x18944 : Shape := ⟨3, ![3, 640, 18944]⟩
abbrev S3x640x448x1 : Shape := ⟨4, ![3, 640, 448, 1]⟩
abbrev S8 : Shape := ⟨1, ![8]⟩
abbrev S1x1x1x8 : Shape := ⟨4, ![1, 1, 1, 8]⟩
abbrev S3x640x448x8 : Shape := ⟨4, ![3, 640, 448, 8]⟩
abbrev S_ : Shape := ⟨0, ![]⟩
abbrev S3x640x3584 : Shape := ⟨3, ![3, 640, 3584]⟩

class Facts : Prop where
  bcast_S3x640x448_S3x640x448x1_0_1_2 : S3x640x448.BroadcastsInDim S3x640x448x1 (![0, 1, 2] : Fin 3 → Fin S3x640x448x1.rank)
  natLt_8_32 : 8 < 32
  bcast_S8_S1x1x1x8_3 : S8.BroadcastsInDim S1x1x1x8 (![3] : Fin 1 → Fin S1x1x1x8.rank)
  bcast_S3x640x448x1_S3x640x448x8_0_1_2_3 : S3x640x448x1.BroadcastsInDim S3x640x448x8 (![0, 1, 2, 3] : Fin 4 → Fin S3x640x448x8.rank)
  bcast_S1x1x1x8_S3x640x448x8_0_1_2_3 : S1x1x1x8.BroadcastsInDim S3x640x448x8 (![0, 1, 2, 3] : Fin 4 → Fin S3x640x448x8.rank)
  bcast_S_S3x640x448x8 : S_.BroadcastsInDim S3x640x448x8 (![] : Fin 0 → Fin S3x640x448x8.rank)
  shapeCasts_S3x640x448x8_S3x640x3584 : S3x640x448x8.ShapeCasts S3x640x3584
  reducesTo_S3x640x3584_S3x640_d2 : S3x640x3584.ReducesTo [2] S3x640
  h_S_ : 0 < S_.numel
  bcast_S_S3x640 : S_.BroadcastsInDim S3x640 (![] : Fin 0 → Fin S3x640.rank)

variable [Facts]

def fn {F : FTy → Type} [FloatOps F] (main_arg0 : IVec S3x640x448 8) (main_arg1 : IVec S1720320 8) (main_arg2 : IVec S3x640 32) (main_arg3 : FVec F S3x640 .f32) (main_arg4 : FVec F S3x640x18944 .fp8e5m2) (main_arg5 : FVec F S3x640 .f32) : IVec S3x640 1 :=
  let main_v0 : IVec S3x640x448x1 8 := broadcastInDim S3x640x448x1 ![0, 1, 2] bcast_S3x640x448_S3x640x448x1_0_1_2 main_arg0
  let main_v1 : IVec S3x640x448x1 32 := (extui 32 · natLt_8_32) main_v0
  let main_v2 : IVec S8 32 := iotaInDim S8 32 0
  let main_v3 : IVec S1x1x1x8 32 := broadcastInDim S1x1x1x8 ![3] bcast_S8_S1x1x1x8_3 main_v2
  let main_v4 : IVec S3x640x448x8 32 := broadcastInDim S3x640x448x8 ![0, 1, 2, 3] bcast_S3x640x448x1_S3x640x448x8_0_1_2_3 main_v1
  let main_v5 : IVec S3x640x448x8 32 := broadcastInDim S3x640x448x8 ![0, 1, 2, 3] bcast_S1x1x1x8_S3x640x448x8_0_1_2_3 main_v3
  let main_v6 : IVec S3x640x448x8 32 := Host.shrsi main_v4 main_v5
  let main_c : IVec S_ 32 := constantI S_ 32 1#32
  let main_v7 : IVec S3x640x448x8 32 := broadcastInDim S3x640x448x8 ![] bcast_S_S3x640x448x8 main_c
  let main_v8 : IVec S3x640x448x8 32 := andi main_v6 main_v7
  let main_v9 : IVec S3x640x3584 32 := shapeCast S3x640x3584 main_v8 shapeCasts_S3x640x448x8_S3x640x3584
  let main_c_0 : IVec S_ 32 := constantI S_ 32 0#32
  let main_v10 : IVec S3x640 32 := (fun x v => Host.reduce IntOp.addi x v reducesTo_S3x640x3584_S3x640_d2 h_S_) main_v9 main_c_0
  let main_v11 : IVec S3x640 1 := cmpi .sle main_v10 main_arg2
  let main_c_1 : IVec S_ 32 := constantI S_ 32 896#32
  let main_v12 : IVec S3x640 32 := broadcastInDim S3x640 ![] bcast_S_S3x640 main_c_1
  let main_v13 : IVec S3x640 1 := cmpi .sle main_arg2 main_v12
  let main_v14 : IVec S3x640 1 := andi main_v11 main_v13
  main_v14
-- ==== Kernel.lean ====
abbrev S3x640x448 : Shape := ⟨3, ![3, 640, 448]⟩
abbrev S1720320 : Shape := ⟨1, ![1720320]⟩
abbrev S3x640 : Shape := ⟨2, ![3, 640]⟩
abbrev S3x640x18944 : Shape := ⟨3, ![3, 640, 18944]⟩
abbrev S1920x448 : Shape := ⟨2, ![1920, 448]⟩
abbrev S13440x128 : Shape := ⟨2, ![13440, 128]⟩
abbrev S1920x3584 : Shape := ⟨2, ![1920, 3584]⟩
abbrev S3584x1920 : Shape := ⟨2, ![3584, 1920]⟩
abbrev S1920x128 : Shape := ⟨2, ![1920, 128]⟩
abbrev S128x448 : Shape := ⟨2, ![128, 448]⟩
abbrev S128x3584 : Shape := ⟨2, ![128, 3584]⟩
abbrev S3584x128 : Shape := ⟨2, ![3584, 128]⟩
abbrev S128x128 : Shape := ⟨2, ![128, 128]⟩
abbrev S1 : Shape := ⟨1, ![1]⟩
abbrev S3360x128 : Shape := ⟨2, ![3360, 128]⟩
abbrev S512x128 : Shape := ⟨2, ![512, 128]⟩
abbrev S128x512 : Shape := ⟨2, ![128, 512]⟩
abbrev S448x448 : Shape := ⟨2, ![448, 448]⟩
abbrev S3x128 : Shape := ⟨2, ![3, 128]⟩
abbrev S1x128 : Shape := ⟨2, ![1, 128]⟩
abbrev S4x128 : Shape := ⟨2, ![4, 128]⟩
abbrev S1x1 : Shape := ⟨2, ![1, 1]⟩
abbrev S8x128 : Shape := ⟨2, ![8, 128]⟩
abbrev S8x64 : Shape := ⟨2, ![8, 64]⟩
abbrev S8x128x1 : Shape := ⟨3, ![8, 128, 1]⟩
abbrev S32x128 : Shape := ⟨2, ![32, 128]⟩
abbrev S128x256 : Shape := ⟨2, ![128, 256]⟩
abbrev S256x128 : Shape := ⟨2, ![256, 128]⟩
abbrev S1920x18944 : Shape := ⟨2, ![1920, 18944]⟩
abbrev S3584x18944 : Shape := ⟨2, ![3584, 18944]⟩
abbrev S1920x512 : Shape := ⟨2, ![1920, 512]⟩
abbrev S3584x512 : Shape := ⟨2, ![3584, 512]⟩
abbrev S3x640x3584 : Shape := ⟨3, ![3, 640, 3584]⟩

abbrev nBuf : Space → Nat
  | .hbm => 14
  | .vmem => 21
  | .smem => 4
  | _ => 0

abbrev bufTy : (tb : Table) → Fin (tcTables nBuf tb) → BufTy
  | .hbm, ⟨0, _⟩ => ⟨S3x640x448, .i8⟩
  | .hbm, ⟨1, _⟩ => ⟨S1720320, .i8⟩
  | .hbm, ⟨2, _⟩ => ⟨S3x640, .i32⟩
  | .hbm, ⟨3, _⟩ => ⟨S3x640, .f32⟩
  | .hbm, ⟨4, _⟩ => ⟨S3x640x18944, .fp8e5m2⟩
  | .hbm, ⟨5, _⟩ => ⟨S3x640, .f32⟩
  | .hbm, ⟨6, _⟩ => ⟨S1920x448, .i8⟩
  | .hbm, ⟨7, _⟩ => ⟨S13440x128, .i8⟩
  | .hbm, ⟨8, _⟩ => ⟨S1920x3584, .bf16⟩
  | .hbm, ⟨9, _⟩ => ⟨S3584x1920, .bf16⟩
  | .hbm, ⟨10, _⟩ => ⟨S1920x128, .f32⟩
  | .hbm, ⟨11, _⟩ => ⟨S1920x18944, .fp8e5m2⟩
  | .hbm, ⟨12, _⟩ => ⟨S3584x18944, .f32⟩
  | .hbm, ⟨13, _⟩ => ⟨S3x640x3584, .bf16⟩
  | .local _ .vmem, ⟨0, _⟩ => ⟨S128x448, .i8⟩
  | .local _ .vmem, ⟨1, _⟩ => ⟨S128x448, .i8⟩
  | .local _ .vmem, ⟨2, _⟩ => ⟨S13440x128, .i8⟩
  | .local _ .vmem, ⟨3, _⟩ => ⟨S128x3584, .bf16⟩
  | .local _ .vmem, ⟨4, _⟩ => ⟨S128x3584, .bf16⟩
  | .local _ .vmem, ⟨5, _⟩ => ⟨S3584x128, .bf16⟩
  | .local _ .vmem, ⟨6, _⟩ => ⟨S3584x128, .bf16⟩
  | .local _ .vmem, ⟨7, _⟩ => ⟨S128x128, .f32⟩
  | .local _ .vmem, ⟨8, _⟩ => ⟨S128x128, .f32⟩
  | .local _ .vmem, ⟨9, _⟩ => ⟨S3360x128, .i32⟩
  | .local _ .vmem, ⟨10, _⟩ => ⟨S512x128, .i32⟩
  | .local _ .vmem, ⟨11, _⟩ => ⟨S128x128, .f32⟩
  | .local _ .vmem, ⟨12, _⟩ => ⟨S128x512, .i32⟩
  | .local _ .vmem, ⟨13, _⟩ => ⟨S448x448, .bf16⟩
  | .local _ .vmem, ⟨14, _⟩ => ⟨S3584x1920, .bf16⟩
  | .local _ .vmem, ⟨15, _⟩ => ⟨S1920x512, .fp8e5m2⟩
  | .local _ .vmem, ⟨16, _⟩ => ⟨S1920x512, .fp8e5m2⟩
  | .local _ .vmem, ⟨17, _⟩ => ⟨S1920x128, .f32⟩
  | .local _ .vmem, ⟨18, _⟩ => ⟨S3584x512, .f32⟩
  | .local _ .vmem, ⟨19, _⟩ => ⟨S3584x512, .f32⟩
  | .local _ .vmem, ⟨20, _⟩ => ⟨S1920x512, .bf16⟩
  | .local _ .smem, ⟨0, _⟩ => ⟨S3x640, .i32⟩
  | .local _ .smem, ⟨1, _⟩ => ⟨S3x640, .f32⟩
  | .local _ .smem, ⟨2, _⟩ => ⟨S3x640, .f32⟩
  | .local _ .smem, ⟨3, _⟩ => ⟨S1, .i32⟩
  | _, _ => ⟨S3x640x448, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_scratch0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![15], ![false]⟩

@[reducible] def k0_t1_loop : Scf.Loop 32 :=
  let c0_i32_12 : BitVec 32 := 0#32
  let c128_i32_13 : BitVec 32 := 128#32
  let v32 : BitVec 32 := Scalar.addi c0_i32_12 c128_i32_13
  let c1_i32_14 : BitVec 32 := 1#32
  ⟨c0_i32_12, v32, c1_i32_14⟩
def k0_off1 (arg16 : BitVec 32) : Fin 2 → Nat :=
  let c0_i32_215 : BitVec 32 := 0#32
  let v663 : BitVec 1 := Scalar.cmpi .sgt arg16 c0_i32_215
  let v664 : BitVec 32 := Scalar.extui v663
  let c0_i32_216 : BitVec 32 := 0#32
  let v665 : BitVec 1 := Scalar.cmpi .slt arg16 c0_i32_216
  let v666 : BitVec 32 := Scalar.extui v665
  let v667 : BitVec 32 := Scalar.subi v664 v666
  let c512_i32 : BitVec 32 := 512#32
  let c0_i32_217 : BitVec 32 := 0#32
  let v668 : BitVec 1 := Scalar.cmpi .sgt c512_i32 c0_i32_217
  let v669 : BitVec 32 := Scalar.extui v668
  let c0_i32_218 : BitVec 32 := 0#32
  let v670 : BitVec 1 := Scalar.cmpi .slt c512_i32 c0_i32_218
  let v671 : BitVec 32 := Scalar.extui v670
  let v672 : BitVec 32 := Scalar.subi v669 v671
  let v673 : BitVec 1 := Scalar.cmpi .ne v667 v672
  let v674 : BitVec 32 := Scalar.remsi arg16 c512_i32
  let c0_i32_219 : BitVec 32 := 0#32
  let v675 : BitVec 1 := Scalar.cmpi .ne v674 c0_i32_219
  let v676 : BitVec 1 := Scalar.andi v673 v675
  let v662 : BitVec 32 := Scalar.divsi arg16 c512_i32
  let c1_i32_220 : BitVec 32 := 1#32
  let v677 : BitVec 32 := Scalar.subi v662 c1_i32_220
  let v678 : BitVec 32 := Scalar.select v676 v677 v662
  let c3357_i32 : BitVec 32 := 3357#32
  let v679 : BitVec 32 := Scalar.minsi v678 c3357_i32
  let v680 : Index := Scalar.indexCast v679
  let c0_221 : Index := 0#32
  ![v680.toNat, 0]

def k0_chk1 (arg16 : BitVec 32) : Prop :=
  (∀ a, (k0_off1 arg16) a + S3x128.size a ≤ S3360x128.size a)
theorem k0_off1_inb : ∀ (arg16 : BitVec 32) (k0_hw1 : k0_chk1 arg16), ∀ a, (k0_off1 arg16) a + S3x128.size a ≤ S3360x128.size a := fun arg16 k0_hw1 => k0_hw1

def k0_off2 (k0_t1 : Fin k0_t1_loop.trips) : Fin 2 → Nat :=
  let c4_i32 : BitVec 32 := 4#32
  let c0_i32_12 : BitVec 32 := 0#32
  let c1_i32_14 : BitVec 32 := 1#32
  let arg15 : BitVec 32 := Scf.iv c0_i32_12 c1_i32_14 k0_t1
  let v686 : BitVec 32 := Scalar.muli c4_i32 arg15
  let v687 : Index := Scalar.indexCast v686
  let c0_223 : Index := 0#32
  ![v687.toNat, 0]
def k0_off3 (i : grid0.Coords) (k0_t1 : Fin k0_t1_loop.trips) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c5_i32 : BitVec 32 := 5#32
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let v0 : BitVec 32 := Scalar.divsi arg0 c5_i32
  let c1_i32 : BitVec 32 := 1#32
  let v15 : BitVec 32 := Scalar.subi v0 c1_i32
  let v16 : BitVec 32 := Scalar.select v14 v15 v0
  let v692 : Index := Scalar.indexCast v16
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c128_i32 : BitVec 32 := 128#32
  let v27 : BitVec 32 := Scalar.muli v26 c128_i32
  let c0_i32_12 : BitVec 32 := 0#32
  let c1_i32_14 : BitVec 32 := 1#32
  let arg15 : BitVec 32 := Scf.iv c0_i32_12 c1_i32_14 k0_t1
  let v691 : BitVec 32 := Scalar.addi v27 arg15
  let v693 : Index := Scalar.indexCast v691
  ![v692.toNat, v693.toNat]
def k0_off4 (k0_t1 : Fin k0_t1_loop.trips) : Fin 2 → Nat :=
  let c0_i32_12 : BitVec 32 := 0#32
  let c1_i32_14 : BitVec 32 := 1#32
  let arg15 : BitVec 32 := Scf.iv c0_i32_12 c1_i32_14 k0_t1
  let v696 : Index := Scalar.indexCast arg15
  let c0_224 : Index := 0#32
  ![v696.toNat, 0]
@[reducible] def k0_t2_loop : Scf.Loop 32 :=
  let c0_i32_212 : BitVec 32 := 0#32
  let c14_i32 : BitVec 32 := 14#32
  let v661 : BitVec 32 := Scalar.addi c0_i32_212 c14_i32
  let c1_i32_213 : BitVec 32 := 1#32
  ⟨c0_i32_212, v661, c1_i32_213⟩
def k0_mult1 (k0_t2 : Fin k0_t2_loop.trips) : BitVec 32 :=
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  v679
def k0_mult2 (k0_t2 : Fin k0_t2_loop.trips) : BitVec 32 :=
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  v692
def k0_off5 (k0_t2 : Fin k0_t2_loop.trips) : Fin 2 → Nat :=
  let c0_228 : Index := 0#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v694 : Index := Scalar.indexCast v680
  ![0, v694.toNat]
def k0_off6 (k0_t2 : Fin k0_t2_loop.trips) : Fin 2 → Nat :=
  let c8_262 : Index := 8#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v810 : Index := Scalar.indexCast v680
  ![8, v810.toNat]
def k0_off7 (k0_t2 : Fin k0_t2_loop.trips) : Fin 2 → Nat :=
  let c16_302 : Index := 16#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v926 : Index := Scalar.indexCast v680
  ![16, v926.toNat]
def k0_off8 (k0_t2 : Fin k0_t2_loop.trips) : Fin 2 → Nat :=
  let c24_342 : Index := 24#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v1042 : Index := Scalar.indexCast v680
  ![24, v1042.toNat]
def k0_mult3 (k0_t2 : Fin k0_t2_loop.trips) : BitVec 32 :=
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let c0_i32_384 : BitVec 32 := 0#32
  let v1165 : BitVec 32 := Scalar.addi v693 c0_i32_384
  v1165
def k0_off9 (k0_t2 : Fin k0_t2_loop.trips) (c0_i32_384 : BitVec 32) : Fin 2 → Nat :=
  let c0_385 : Index := 0#32
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let v1165 : BitVec 32 := Scalar.addi v693 c0_i32_384
  let v1166 : BitVec 32 := v1165
  let v1167 : Index := Scalar.indexCast v1166
  ![0, v1167.toNat]
def k0_mult4 (k0_t2 : Fin k0_t2_loop.trips) : BitVec 32 :=
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let c128_i32_386 : BitVec 32 := 128#32
  let v1174 : BitVec 32 := Scalar.addi v693 c128_i32_386
  v1174
def k0_off10 (k0_t2 : Fin k0_t2_loop.trips) : Fin 2 → Nat :=
  let c32_388 : Index := 32#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v1178 : Index := Scalar.indexCast v680
  ![32, v1178.toNat]
def k0_off11 (k0_t2 : Fin k0_t2_loop.trips) : Fin 2 → Nat :=
  let c40_428 : Index := 40#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v1294 : Index := Scalar.indexCast v680
  ![40, v1294.toNat]
def k0_off12 (k0_t2 : Fin k0_t2_loop.trips) : Fin 2 → Nat :=
  let c48_467 : Index := 48#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v1410 : Index := Scalar.indexCast v680
  ![48, v1410.toNat]
def k0_off13 (k0_t2 : Fin k0_t2_loop.trips) : Fin 2 → Nat :=
  let c56_506 : Index := 56#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v1526 : Index := Scalar.indexCast v680
  ![56, v1526.toNat]
def k0_mult5 (k0_t2 : Fin k0_t2_loop.trips) : BitVec 32 :=
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let c0_i32_547 : BitVec 32 := 0#32
  let v1649 : BitVec 32 := Scalar.addi v693 c0_i32_547
  v1649
def k0_off14 (k0_t2 : Fin k0_t2_loop.trips) (c0_i32_547 : BitVec 32) : Fin 2 → Nat :=
  let c32_548 : Index := 32#32
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let v1649 : BitVec 32 := Scalar.addi v693 c0_i32_547
  let v1650 : BitVec 32 := v1649
  let v1651 : Index := Scalar.indexCast v1650
  ![32, v1651.toNat]
def k0_mult6 (k0_t2 : Fin k0_t2_loop.trips) : BitVec 32 :=
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let c128_i32_549 : BitVec 32 := 128#32
  let v1658 : BitVec 32 := Scalar.addi v693 c128_i32_549
  v1658
def k0_off15 (k0_t2 : Fin k0_t2_loop.trips) : Fin 2 → Nat :=
  let c64_551 : Index := 64#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v1662 : Index := Scalar.indexCast v680
  ![64, v1662.toNat]
def k0_off16 (k0_t2 : Fin k0_t2_loop.trips) : Fin 2 → Nat :=
  let c72_591 : Index := 72#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v1778 : Index := Scalar.indexCast v680
  ![72, v1778.toNat]
def k0_off17 (k0_t2 : Fin k0_t2_loop.trips) : Fin 2 → Nat :=
  let c80_630 : Index := 80#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v1894 : Index := Scalar.indexCast v680
  ![80, v1894.toNat]
def k0_off18 (k0_t2 : Fin k0_t2_loop.trips) : Fin 2 → Nat :=
  let c88_669 : Index := 88#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v2010 : Index := Scalar.indexCast v680
  ![88, v2010.toNat]
def k0_mult7 (k0_t2 : Fin k0_t2_loop.trips) : BitVec 32 :=
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let c0_i32_710 : BitVec 32 := 0#32
  let v2133 : BitVec 32 := Scalar.addi v693 c0_i32_710
  v2133
def k0_off19 (k0_t2 : Fin k0_t2_loop.trips) (c0_i32_710 : BitVec 32) : Fin 2 → Nat :=
  let c64_711 : Index := 64#32
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let v2133 : BitVec 32 := Scalar.addi v693 c0_i32_710
  let v2134 : BitVec 32 := v2133
  let v2135 : Index := Scalar.indexCast v2134
  ![64, v2135.toNat]
def k0_mult8 (k0_t2 : Fin k0_t2_loop.trips) : BitVec 32 :=
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let c128_i32_712 : BitVec 32 := 128#32
  let v2142 : BitVec 32 := Scalar.addi v693 c128_i32_712
  v2142
def k0_off20 (k0_t2 : Fin k0_t2_loop.trips) : Fin 2 → Nat :=
  let c96_714 : Index := 96#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v2146 : Index := Scalar.indexCast v680
  ![96, v2146.toNat]
def k0_off21 (k0_t2 : Fin k0_t2_loop.trips) : Fin 2 → Nat :=
  let c104_754 : Index := 104#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v2262 : Index := Scalar.indexCast v680
  ![104, v2262.toNat]
def k0_off22 (k0_t2 : Fin k0_t2_loop.trips) : Fin 2 → Nat :=
  let c112_793 : Index := 112#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v2378 : Index := Scalar.indexCast v680
  ![112, v2378.toNat]
def k0_off23 (k0_t2 : Fin k0_t2_loop.trips) : Fin 2 → Nat :=
  let c120_832 : Index := 120#32
  let c0_i32_212 : BitVec 32 := 0#32
  let c1_i32_213 : BitVec 32 := 1#32
  let arg15 : BitVec 32 := Scf.iv c0_i32_212 c1_i32_213 k0_t2
  let c0_i32_215 : BitVec 32 := 0#32
  let v663 : BitVec 1 := Scalar.cmpi .sgt arg15 c0_i32_215
  let v664 : BitVec 32 := Scalar.extui v663
  let c0_i32_216 : BitVec 32 := 0#32
  let v665 : BitVec 1 := Scalar.cmpi .slt arg15 c0_i32_216
  let v666 : BitVec 32 := Scalar.extui v665
  let v667 : BitVec 32 := Scalar.subi v664 v666
  let c4_i32 : BitVec 32 := 4#32
  let c0_i32_217 : BitVec 32 := 0#32
  let v668 : BitVec 1 := Scalar.cmpi .sgt c4_i32 c0_i32_217
  let v669 : BitVec 32 := Scalar.extui v668
  let c0_i32_218 : BitVec 32 := 0#32
  let v670 : BitVec 1 := Scalar.cmpi .slt c4_i32 c0_i32_218
  let v671 : BitVec 32 := Scalar.extui v670
  let v672 : BitVec 32 := Scalar.subi v669 v671
  let v673 : BitVec 1 := Scalar.cmpi .ne v667 v672
  let v674 : BitVec 32 := Scalar.remsi arg15 c4_i32
  let c0_i32_219 : BitVec 32 := 0#32
  let v675 : BitVec 1 := Scalar.cmpi .ne v674 c0_i32_219
  let v676 : BitVec 1 := Scalar.andi v673 v675
  let v662 : BitVec 32 := Scalar.divsi arg15 c4_i32
  let c1_i32_220 : BitVec 32 := 1#32
  let v677 : BitVec 32 := Scalar.subi v662 c1_i32_220
  let v678 : BitVec 32 := Scalar.select v676 v677 v662
  let c128_i32_221 : BitVec 32 := 128#32
  let v679 : BitVec 32 := Scalar.muli v678 c128_i32_221
  let v680 : BitVec 32 := v679
  let v2494 : Index := Scalar.indexCast v680
  ![120, v2494.toNat]
def k0_mult9 (k0_t2 : Fin k0_t2_loop.trips) : BitVec 32 :=
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let c0_i32_873 : BitVec 32 := 0#32
  let v2617 : BitVec 32 := Scalar.addi v693 c0_i32_873
  v2617
def k0_off24 (k0_t2 : Fin k0_t2_loop.trips) (c0_i32_873 : BitVec 32) : Fin 2 → Nat :=
  let c96_874 : Index := 96#32
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let v2617 : BitVec 32 := Scalar.addi v693 c0_i32_873
  let v2618 : BitVec 32 := v2617
  let v2619 : Index := Scalar.indexCast v2618
  ![96, v2619.toNat]
def k0_mult10 (k0_t2 : Fin k0_t2_loop.trips) : BitVec 32 :=
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let c128_i32_875 : BitVec 32 := 128#32
  let v2626 : BitVec 32 := Scalar.addi v693 c128_i32_875
  v2626
def k0_off25 (k0_t2 : Fin k0_t2_loop.trips) : Fin 2 → Nat :=
  let c0_877 : Index := 0#32
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let v2630 : Index := Scalar.indexCast v693
  ![0, v2630.toNat]
def k0_off26 (k0_t2 : Fin k0_t2_loop.trips) : Fin 2 → Nat :=
  let c0_i32_212 : BitVec 32 := 0#32
  let c1_i32_213 : BitVec 32 := 1#32
  let arg15 : BitVec 32 := Scf.iv c0_i32_212 c1_i32_213 k0_t2
  let c256_i32 : BitVec 32 := 256#32
  let v692 : BitVec 32 := Scalar.muli arg15 c256_i32
  let v693 : BitVec 32 := v692
  let v2634 : Index := Scalar.indexCast v693
  let c0_878 : Index := 0#32
  ![v2634.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S3x640 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S3x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S3x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x448 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S13440x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3584x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![37], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S3584x1920 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1920x512 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1920x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S3584x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S3x640x448 : Shape := ⟨3, ![3, 640, 448]⟩
abbrev S1720320 : Shape := ⟨1, ![1720320]⟩
abbrev S3x640 : Shape := ⟨2, ![3, 640]⟩
abbrev S3x640x18944 : Shape := ⟨3, ![3, 640, 18944]⟩
abbrev S3x640x448x1 : Shape := ⟨4, ![3, 640, 448, 1]⟩
abbrev S8 : Shape := ⟨1, ![8]⟩
abbrev S1x1x1x8 : Shape := ⟨4, ![1, 1, 1, 8]⟩
abbrev S3x640x448x8 : Shape := ⟨4, ![3, 640, 448, 8]⟩
abbrev S_ : Shape := ⟨0, ![]⟩
abbrev S1920x3584 : Shape := ⟨2, ![1920, 3584]⟩
abbrev S1920 : Shape := ⟨1, ![1920]⟩
abbrev S1920x1 : Shape := ⟨2, ![1920, 1]⟩
abbrev S1920x3584x1 : Shape := ⟨3, ![1920, 3584, 1]⟩
abbrev S3x640x1 : Shape := ⟨3, ![3, 640, 1]⟩
abbrev S3584x18944 : Shape := ⟨2, ![3584, 18944]⟩
abbrev S3x640x3584 : Shape := ⟨3, ![3, 640, 3584]⟩
abbrev S1920x18944 : Shape := ⟨2, ![1920, 18944]⟩

abbrev nBuf : Space → Nat
  | .hbm => 42
  | .vmem => 7
  | .smem => 0
  | _ => 0

abbrev bufTy : (tb : Table) → Fin (tcTables nBuf tb) → BufTy
  | .hbm, ⟨0, _⟩ => ⟨S3x640x448, .i8⟩
  | .hbm, ⟨1, _⟩ => ⟨S1720320, .i8⟩
  | .hbm, ⟨2, _⟩ => ⟨S3x640, .i32⟩
  | .hbm, ⟨3, _⟩ => ⟨S3x640, .f32⟩
  | .hbm, ⟨4, _⟩ => ⟨S3x640x18944, .fp8e5m2⟩
  | .hbm, ⟨5, _⟩ => ⟨S3x640, .f32⟩
  | .hbm, ⟨6, _⟩ => ⟨S3x640x448x1, .i8⟩
  | .hbm, ⟨7, _⟩ => ⟨S3x640x448x1, .i32⟩
  | .hbm, ⟨8, _⟩ => ⟨S8, .i32⟩
  | .hbm, ⟨9, _⟩ => ⟨S1x1x1x8, .i32⟩
  | .hbm, ⟨10, _⟩ => ⟨S3x640x448x8, .i32⟩
  | .hbm, ⟨11, _⟩ => ⟨S3x640x448x8, .i32⟩
  | .hbm, ⟨12, _⟩ => ⟨S3x640x448x8, .i32⟩
  | .hbm, ⟨13, _⟩ => ⟨S_, .i32⟩
  | .hbm, ⟨14, _⟩ => ⟨S3x640x448x8, .i32⟩
  | .hbm, ⟨15, _⟩ => ⟨S3x640x448x8, .i32⟩
  | .hbm, ⟨16, _⟩ => ⟨S1920x3584, .i32⟩
  | .hbm, ⟨17, _⟩ => ⟨S1920, .i32⟩
  | .hbm, ⟨18, _⟩ => ⟨S_, .i32⟩
  | .hbm, ⟨19, _⟩ => ⟨S_, .i32⟩
  | .hbm, ⟨20, _⟩ => ⟨S1920, .i32⟩
  | .hbm, ⟨21, _⟩ => ⟨S1920, .i32⟩
  | .hbm, ⟨22, _⟩ => ⟨S_, .i32⟩
  | .hbm, ⟨23, _⟩ => ⟨S_, .i32⟩
  | .hbm, ⟨24, _⟩ => ⟨S1920x3584, .i32⟩
  | .hbm, ⟨25, _⟩ => ⟨S1920x3584, .i32⟩
  | .hbm, ⟨26, _⟩ => ⟨S1920x1, .i32⟩
  | .hbm, ⟨27, _⟩ => ⟨S1920x3584, .i32⟩
  | .hbm, ⟨28, _⟩ => ⟨S1920x3584, .i32⟩
  | .hbm, ⟨29, _⟩ => ⟨S_, .i32⟩
  | .hbm, ⟨30, _⟩ => ⟨S1920x3584, .i32⟩
  | .hbm, ⟨31, _⟩ => ⟨S1920x3584, .i1⟩
  | .hbm, ⟨32, _⟩ => ⟨S_, .i32⟩
  | .hbm, ⟨33, _⟩ => ⟨S1920x3584, .i32⟩
  | .hbm, ⟨34, _⟩ => ⟨S1920x3584, .i32⟩
  | .hbm, ⟨35, _⟩ => ⟨S1920x3584, .i32⟩
  | .hbm, ⟨36, _⟩ => ⟨S1920x3584x1, .i32⟩
  | .hbm, ⟨37, _⟩ => ⟨S1920x3584, .i8⟩
  | .hbm, ⟨38, _⟩ => ⟨S1920x1, .f32⟩
  | .hbm, ⟨39, _⟩ => ⟨S3x640x1, .f32⟩
  | .hbm, ⟨40, _⟩ => ⟨S3584x18944, .f32⟩
  | .hbm, ⟨41, _⟩ => ⟨S3x640x3584, .bf16⟩
  | .local _ .vmem, ⟨0, _⟩ => ⟨S1920x3584, .i32⟩
  | .local _ .vmem, ⟨1, _⟩ => ⟨S1920x3584, .i8⟩
  | .local _ .vmem, ⟨2, _⟩ => ⟨S1920x1, .f32⟩
  | .local _ .vmem, ⟨3, _⟩ => ⟨S3x640x18944, .fp8e5m2⟩
  | .local _ .vmem, ⟨4, _⟩ => ⟨S3x640x1, .f32⟩
  | .local _ .vmem, ⟨5, _⟩ => ⟨S3584x18944, .f32⟩
  | .local _ .vmem, ⟨6, _⟩ => ⟨S3x640x3584, .bf16⟩
  | _, _ => ⟨S3x640x448, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_call1_c : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1920x3584 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x3584 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x18944 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x18944 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Same.lean ====
module

public import proofs.«01_k».proof.Kernel
public import proofs.«01_k».proof.KernelIdeal
public import proofs.«01_k».proof.Proof.Gen.Kernel
public import proofs.«01_k».proof.Proof.Gen.KernelIdeal
public import Idealize.ShloMosaic.Lib.Tactic

@[expose] public section

noncomputable section

namespace Cert.Same

open Idealize.ShloMosaic Idealize.SL.Sem

variable {F : FTy → Type} [FloatOps F]

set_option maxHeartbeats 4000000 in
/-- The two programs have the same main function. -/
theorem same_main : (Cert.Kernel.main (F := F)) = Cert.KernelIdeal.main (F := F) := by sl_kernel_rfl
set_option maxHeartbeats 4000000 in
/-- The two programs have the same function table. -/
theorem same_defs : (Cert.Kernel.defs (F := F)) = Cert.KernelIdeal.defs (F := F) := by sl_kernel_rfl

end Cert.Same

end
-- ==== Proof.Words.lean ====
module

public import Idealize.ShloMosaic.Lib.Tactic
public import Idealize.ShloMosaic.Lib.ValueIdx

@[expose] public section

noncomputable section

namespace Cert.Words

open Idealize.ShloMosaic

/-- The entry of a matrix at a pair of naturals, each taken modulo its axis. -/
def at2 {α : Type} {A B : ℕ} [NeZero A] [NeZero B] (X : (⟨2, ![A, B]⟩ : Shape).Idx → α) (r l : ℕ) : α :=
  X (ValueIdx.ix2 (Fin.ofNat A r) (Fin.ofNat B l))

/-- An entry read at an index is the entry at the index's two coordinates. -/
theorem eq_at2 {α : Type} {A B : ℕ} [NeZero A] [NeZero B] (X : (⟨2, ![A, B]⟩ : Shape).Idx → α) (j : (⟨2, ![A, B]⟩ : Shape).Idx)
    (r l : ℕ) (hr : (j 0).val = r) (hl : (j 1).val = l) : X j = at2 X r l := by
  subst hr; subst hl
  unfold at2
  congr 1
  funext a
  match a with
  | ⟨0, _⟩ => exact Fin.ext (Nat.mod_eq_of_lt (j 0).isLt).symm
  | ⟨1, _⟩ => exact Fin.ext (Nat.mod_eq_of_lt (j 1).isLt).symm

/-- Where the codes of the token in place `n` begin: the sum of the counts of the tokens before it. -/
def startN (cnt : ℕ → BitVec 32) : ℕ → BitVec 32
  | 0 => 0#32
  | n + 1 => startN cnt n + cnt n

/-- The first row of words fetched for a token whose codes begin at `s`. -/
def firstN (s : BitVec 32) : ℕ := min (s.toNat / 512) 3357

/-- Row `r` of the window of fetched words: three rows of words for each token, then the place in them where its codes begin. -/
def winN (wd : ℕ → ℕ → BitVec 32) (st : ℕ → BitVec 32) (r l : ℕ) : BitVec 32 :=
  if r % 4 < 3 then wd (firstN (st (r / 4)) + r % 4) l else st (r / 4) - BitVec.ofNat 32 (512 * firstN (st (r / 4)))

/-- The count of token `n`, in a table of three rows of 640. -/
def cntN {α : Type} (C : (⟨2, ![3, 640]⟩ : Shape).Idx → α) (n : ℕ) : α := at2 C (n / 640) (n % 640)

/-- A load at a unit-stride rectangle of a matrix reads the entry its offset and the local index name. -/
theorem readAt_at2 {sig : RefSig} {κ : Kind} {sp : Space} {e : EltTy} {Val : EltTy → Type} {A B : ℕ} [NeZero A] [NeZero B]
    (v : View sig κ sp ⟨2, ![A, B]⟩ e) (f : v.ty.Contents Val) {off size : Fin 2 → ℕ} (inb : ∀ a, off a + size a ≤ (⟨2, ![A, B]⟩ : Shape).size a)
    (o0 o1 : ℕ) (h : off = ![o0, o1]) (x : (Rect.unit (s := ⟨2, ![A, B]⟩) off size inb).shape.Idx) :
    v.readAt Val (Rect.unit (s := ⟨2, ![A, B]⟩) off size inb).toLoadRect f x = at2 (v.read Val f) (o0 + (x 0).val) (o1 + (x 1).val) := by
  subst h
  exact eq_at2 (v.read Val f) ((Rect.unit (s := ⟨2, ![A, B]⟩) ![o0, o1] size inb).emb x) _ _
    (show o0 + 1 * (x 0).val = o0 + (x 0).val by omega) (show o1 + 1 * (x 1).val = o1 + (x 1).val by omega)

/-- The same of a load that takes every fourth row. -/
theorem readAt_at2_fourth {sig : RefSig} {κ : Kind} {sp : Space} {e : EltTy} {Val : EltTy → Type} {A B : ℕ} [NeZero A] [NeZero B]
    (v : View sig κ sp ⟨2, ![A, B]⟩ e) (f : v.ty.Contents Val) (R : LoadRect ⟨2, ![A, B]⟩) (o0 : ℕ)
    (h0 : R.off = ![o0, 0]) (h1 : R.stride = ![4, 1]) (x : R.shape.Idx) :
    v.readAt Val R f x = at2 (v.read Val f) (o0 + 4 * (x (0 : Fin 2)).val) (x (1 : Fin 2)).val := by
  refine eq_at2 (v.read Val f) (R.idx x) _ _ ?_ ?_
  · show R.off (0 : Fin 2) + R.stride (0 : Fin 2) * _ = _
    rw [h0, h1]; rfl
  · show R.off (1 : Fin 2) + R.stride (1 : Fin 2) * _ = _
    rw [h0, h1]; show 0 + 1 * _ = _; omega

/-- The entry of a row of 128 at a computed place. -/
def takeN (x : ℕ → BitVec 32) (i : BitVec 32) : BitVec 32 :=
  x ((Scalar.select (IntOp.cmpi .slt i 0#32) (IntOp.addi i 128#32) i).toNat % 128)

/-- A lane of the words whose bytes are the 512 codes that begin `b` rows of bytes into three rows of words. -/
def groupS (b a0 a1 a2 : BitVec 32) : BitVec 32 :=
  IntOp.ori
    (IntOp.shrui .vector (Scalar.select (IntOp.cmpi .eq (IntOp.shrsi .vector b 2#32) 0#32) a0
      (Scalar.select (IntOp.cmpi .eq (IntOp.shrsi .vector b 2#32) 1#32) a1 a2)) (IntOp.shli .vector (IntOp.andi b 3#32) 3#32))
    (IntOp.shli .vector (IntOp.shli .vector (Scalar.select (IntOp.cmpi .eq (IntOp.shrsi .vector b 2#32) 0#32) a1 a2) 1#32)
      (IntOp.subi 31#32 (IntOp.shli .vector (IntOp.andi b 3#32) 3#32)))

/-- The bit of channel `l` in its mask byte. -/
def bitS (l : ℕ) : BitVec 32 := IntOp.shli .vector 1#32 (IntOp.andi (BitVec.ofNat 32 l) 7#32)

/-- The place of channel `l`'s code among those from row of bytes `b` on, given its word of mask byte and rank. -/
def posS (l : ℕ) (b w : BitVec 32) : BitVec 32 :=
  IntOp.subi (IntOp.addi (IntOp.shrsi .vector w 8#32) (IntOp.ctpop (IntOp.andi w (IntOp.subi (bitS l) 1#32)))) (IntOp.shli .vector b 7#32)

/-- The code of channel `l`, zero where its mask bit is off. -/
def codeS (l : ℕ) (b w : BitVec 32) (grp : ℕ → BitVec 32) : BitVec 32 :=
  Scalar.select (IntOp.cmpi .ne (IntOp.andi w (bitS l)) 0#32)
    (IntOp.shrui .vector (takeN grp (IntOp.andi (posS l b w) 127#32)) (IntOp.andi (IntOp.shrsi .vector (posS l b w) 4#32) 24#32)) 0#32

/-- Where the group of 256 channels that holds channel `ch` begins in token `r`'s window, in rows of bytes. -/
def baseN (W : ℕ → ℕ → BitVec 32) (r ch : ℕ) : BitVec 32 := IntOp.shrsi .vector (W r (32 * (ch / 256))) 15#32

/-- The code of channel `ch` of token `r`, from the table of mask bytes and ranks and the window of words. -/
def codeN (W win : ℕ → ℕ → BitVec 32) (r ch : ℕ) : BitVec 32 :=
  codeS (ch % 128) (baseN W r ch) (W r (ch / 8)) (fun l => groupS (baseN W r ch) (win (4 * r) l) (win (4 * r + 1) l) (win (4 * r + 2) l))

/-- The rebuilt entry: the code as a float, times the token's scale. -/
def expandN {F : FTy → Type} [FloatOps F] (W win : ℕ → ℕ → BitVec 32) (xs : ℕ → ℕ → F .f32) (r ch : ℕ) : F .bf16 :=
  FloatOps.mulf (FloatOps.extf .bf16 (by decide) (FloatOps.ofBits .fp8e4m3 ((codeN W win r ch).setWidth 8))) (FloatOps.truncf .bf16 (by decide) (xs r (ch % 128)))

end Cert.Words

end
-- ==== Proof.Code.lean ====
module

public import proofs.«01_k».proof.Proof.Words

@[expose] public section

noncomputable section

namespace Cert.Words

open Idealize.ShloMosaic

/-- The mask bit of a channel, as zero or one. -/
def bitN (m : ℕ → BitVec 8) (ch : ℕ) : ℕ := if (m (ch / 8)).getLsbD (ch % 8) then 1 else 0

/-- How many channels before channel `ch` are kept. -/
def rankN (m : ℕ → BitVec 8) (ch : ℕ) : ℕ := ∑ i ∈ Finset.range ch, bitN m i

/-- How many of a byte's bits below bit `k` are set. -/
def popN (M k : ℕ) : ℕ := ∑ i ∈ Finset.range k, if M.testBit i then 1 else 0

/-- A mask bit is at most one. -/
theorem bitN_le (m : ℕ → BitVec 8) (ch : ℕ) : bitN m ch ≤ 1 := by
  unfold bitN; split <;> omega

/-- A rank is at most the channel. -/
theorem rankN_le (m : ℕ → BitVec 8) (ch : ℕ) : rankN m ch ≤ ch := by
  unfold rankN
  refine (Finset.sum_le_sum fun i _ => bitN_le m i).trans ?_
  simp

/-- The rank after one more channel. -/
theorem rankN_succ (m : ℕ → BitVec 8) (ch : ℕ) : rankN m (ch + 1) = rankN m ch + bitN m ch := Finset.sum_range_succ _ _

/-- Ranks do not decrease. -/
theorem rankN_mono (m : ℕ → BitVec 8) {a b : ℕ} (h : a ≤ b) : rankN m a ≤ rankN m b :=
  Finset.sum_le_sum_of_subset (Finset.range_mono h)

/-- Over `d` channels the rank grows by at most `d`. -/
theorem rankN_add_le (m : ℕ → BitVec 8) (a d : ℕ) : rankN m (a + d) ≤ rankN m a + d := by
  induction d with
  | zero => rfl
  | succ d ih =>
    have h := bitN_le m (a + d)
    rw [← Nat.add_assoc, rankN_succ]; omega

/-- Within a mask byte the rank is that of the byte's first channel and the set bits below. -/
theorem rankN_byte (m : ℕ → BitVec 8) (c : ℕ) : ∀ k ≤ 8, rankN m (8 * c + k) = rankN m (8 * c) + popN (m c).toNat k
  | 0, _ => by simp [popN]
  | k + 1, h => by
    rw [← Nat.add_assoc, rankN_succ, rankN_byte m c k (by omega)]
    unfold popN
    rw [Finset.sum_range_succ, Nat.add_assoc]
    congr 2
    unfold bitN
    rw [show (8 * c + k) / 8 = c by omega, show (8 * c + k) % 8 = k by omega]
    rfl

/-- The rank of a channel, from its mask byte. -/
theorem rankN_split (m : ℕ → BitVec 8) (ch : ℕ) : rankN m ch = rankN m (8 * (ch / 8)) + popN (m (ch / 8)).toNat (ch % 8) := by
  conv_lhs => rw [show ch = 8 * (ch / 8) + ch % 8 by omega]
  exact rankN_byte m _ _ (by omega)

/-- A small word shifted right is its number divided. -/
theorem shrsi_ofNat (n k : ℕ) (hn : n < 2 ^ 31) (hk : k < 32) :
    IntOp.shrsi .vector (BitVec.ofNat 32 n) (BitVec.ofNat 32 k) = BitVec.ofNat 32 (n / 2 ^ k) := by
  have hk' : (BitVec.ofNat 32 k).toNat = k := by rw [BitVec.toNat_ofNat, Nat.mod_eq_of_lt (by omega)]
  have hn' : (BitVec.ofNat 32 n).toNat = n := by rw [BitVec.toNat_ofNat, Nat.mod_eq_of_lt (by omega)]
  have hm : (BitVec.ofNat 32 n).msb = false := by rw [BitVec.msb_eq_false_iff_two_mul_lt, hn']; omega
  unfold IntOp.shrsi
  rw [if_pos (by omega)]
  show (BitVec.ofNat 32 n).sshiftRight (BitVec.ofNat 32 k).toNat = _
  rw [hk', BitVec.sshiftRight_eq_of_msb_false hm]
  apply BitVec.eq_of_toNat_eq
  have : n / 2 ^ k ≤ n := Nat.div_le_self _ _
  rw [BitVec.toNat_ushiftRight, hn', Nat.shiftRight_eq_div_pow, BitVec.toNat_ofNat, Nat.mod_eq_of_lt (by omega)]

/-- The word-wise and of two small numbers. -/
theorem andi_ofNat (a b : ℕ) (ha : a < 2 ^ 32) (hb : b < 2 ^ 32) : IntOp.andi (BitVec.ofNat 32 a) (BitVec.ofNat 32 b) = BitVec.ofNat 32 (a &&& b) := by
  apply BitVec.eq_of_toNat_eq
  have h : a &&& b ≤ a := Nat.and_le_left
  show ((BitVec.ofNat 32 a) &&& (BitVec.ofNat 32 b)).toNat = _
  rw [BitVec.toNat_and, BitVec.toNat_ofNat, BitVec.toNat_ofNat, BitVec.toNat_ofNat, Nat.mod_eq_of_lt ha, Nat.mod_eq_of_lt hb, Nat.mod_eq_of_lt (by omega)]

/-- The word difference of two numbers, where it does not go below zero. -/
theorem subi_ofNat (a b : ℕ) (h : b ≤ a) : IntOp.subi (BitVec.ofNat 32 a) (BitVec.ofNat 32 b) = BitVec.ofNat 32 (a - b) := by
  show BitVec.ofNat 32 a - BitVec.ofNat 32 b = _
  rw [BitVec.sub_eq_iff_eq_add, ← BitVec.ofNat_add, Nat.sub_add_cancel h]

/-- The mask that a lane tests has the one bit of the lane within its byte. -/
theorem bitS_eq : ∀ l < 128, bitS l = BitVec.ofNat 32 (2 ^ (l % 8)) := by decide +kernel

/-- The kept channels of a byte below a bit, counted by the machine word. -/
theorem ctpop_byte : ∀ M < 256, ∀ k < 8, IntOp.ctpop (BitVec.ofNat 32 (M % 2 ^ k)) = BitVec.ofNat 32 (popN M k) := by
  unfold popN; decide +kernel

/-- The low seven bits of a position name the lane. -/
theorem pos_low : ∀ p < 512, IntOp.andi (BitVec.ofNat 32 p) 127#32 = BitVec.ofNat 32 (p % 128) := by decide +kernel
/-- The next two bits of a position name the byte in the word. -/
theorem pos_byte : ∀ p < 512, IntOp.andi (IntOp.shrsi .vector (BitVec.ofNat 32 p) 4#32) 24#32 = BitVec.ofNat 32 (8 * (p / 128)) := by decide +kernel
/-- A lane number below 128 is read as it stands. -/
theorem take_low : ∀ q < 128, (Scalar.select (IntOp.cmpi .slt (BitVec.ofNat 32 q) 0#32) (IntOp.addi (BitVec.ofNat 32 q) 128#32) (BitVec.ofNat 32 q)).toNat % 128 = q := by
  decide +kernel

/-- The place of a channel's code in its group, as a number. -/
theorem posS_eq (m : ℕ → BitVec 8) (off ch b : ℕ) (hch : ch < 3584) (hoff : off ≤ 4096)
    (hb : 128 * b ≤ rankN m ch + off) (hb' : b < 4096) :
    posS (ch % 128) (BitVec.ofNat 32 b) (BitVec.ofNat 32 (256 * (rankN m (8 * (ch / 8)) + off) + (m (ch / 8)).toNat))
      = BitVec.ofNat 32 (rankN m ch + off - 128 * b) := by
  have hM := (m (ch / 8)).isLt
  have hR := rankN_le m (8 * (ch / 8))
  have hs := rankN_split m ch
  have hk8 : ch % 128 % 8 = ch % 8 := by omega
  have h1 : IntOp.shrsi .vector (BitVec.ofNat 32 (256 * (rankN m (8 * (ch / 8)) + off) + (m (ch / 8)).toNat)) 8#32
      = BitVec.ofNat 32 (rankN m (8 * (ch / 8)) + off) := by
    refine (shrsi_ofNat _ 8 (by omega) (by omega)).trans (congrArg _ ?_)
    omega
  have hp : 2 ^ (ch % 8) ≤ 2 ^ 7 := Nat.pow_le_pow_right (by omega) (by omega)
  have hp1 : 1 ≤ 2 ^ (ch % 8) := Nat.one_le_two_pow
  have h2 : IntOp.andi (BitVec.ofNat 32 (256 * (rankN m (8 * (ch / 8)) + off) + (m (ch / 8)).toNat)) (IntOp.subi (bitS (ch % 128)) 1#32)
      = BitVec.ofNat 32 ((m (ch / 8)).toNat % 2 ^ (ch % 8)) := by
    rw [bitS_eq _ (by omega), hk8, show (1#32) = BitVec.ofNat 32 1 from rfl, subi_ofNat _ _ hp1, andi_ofNat _ _ (by omega) (by omega),
      Nat.and_two_pow_sub_one_eq_mod]
    congr 1
    have hd : 256 = 2 ^ (ch % 8) * 2 ^ (8 - ch % 8) := by rw [← Nat.pow_add, show ch % 8 + (8 - ch % 8) = 8 by omega]
    rw [hd, Nat.mul_assoc, Nat.mul_add_mod]
  have h3 : IntOp.shli .vector (BitVec.ofNat 32 b) 7#32 = BitVec.ofNat 32 (128 * b) := by
    unfold IntOp.shli
    rw [if_pos (by decide)]
    apply BitVec.eq_of_toNat_eq
    show (BitVec.ofNat 32 b <<< 7).toNat = _
    rw [BitVec.toNat_shiftLeft, BitVec.toNat_ofNat, BitVec.toNat_ofNat, Nat.shiftLeft_eq]
    omega
  unfold posS
  rw [h1, h2, ctpop_byte _ hM _ (by omega), h3]
  show IntOp.subi (BitVec.ofNat 32 _ + BitVec.ofNat 32 _) _ = _
  rw [← BitVec.ofNat_add, subi_ofNat _ _ (by omega)]
  congr 1
  omega

/-- A number masked by one bit. -/
theorem and_pow (n k : ℕ) : n &&& 2 ^ k = if n.testBit k then 2 ^ k else 0 := by
  apply Nat.eq_of_testBit_eq
  intro i
  by_cases h : n.testBit k = true
  · rw [if_pos h, Nat.testBit_and, Nat.testBit_two_pow]
    by_cases hi : k = i
    · subst hi; simp [h]
    · simp [hi]
  · rw [if_neg h, Nat.testBit_and, Nat.testBit_two_pow]
    by_cases hi : k = i
    · subst hi; simp [h]
    · simp [hi]

/-- Whether a channel's bit in its word of mask byte and rank is set. -/
theorem kept_eq (m : ℕ → BitVec 8) (X ch : ℕ) (hX : X < 65536) :
    IntOp.cmpi .ne (IntOp.andi (BitVec.ofNat 32 (256 * X + (m (ch / 8)).toNat)) (bitS (ch % 128))) 0#32 = BitVec.ofBool ((m (ch / 8)).getLsbD (ch % 8)) := by
  have hM := (m (ch / 8)).isLt
  have hk8 : ch % 128 % 8 = ch % 8 := by omega
  have hp : 2 ^ (ch % 8) ≤ 2 ^ 7 := Nat.pow_le_pow_right (by omega) (by omega)
  have hp1 : 1 ≤ 2 ^ (ch % 8) := Nat.one_le_two_pow
  rw [bitS_eq _ (by omega), hk8, andi_ofNat _ _ (by omega) (by omega), and_pow]
  have ht : (256 * X + (m (ch / 8)).toNat).testBit (ch % 8) = (m (ch / 8)).getLsbD (ch % 8) := by
    have := Nat.testBit_mod_two_pow (256 * X + (m (ch / 8)).toNat) 8 (ch % 8)
    rw [show (256 * X + (m (ch / 8)).toNat) % 2 ^ 8 = (m (ch / 8)).toNat by omega] at this
    have h8 : ch % 8 < 8 := by omega
    simp only [h8, decide_true, Bool.true_and] at this
    rw [← this]; rfl
  rw [ht]
  cases (m (ch / 8)).getLsbD (ch % 8)
  · simp [IntOp.cmpi]
  · show BitVec.ofBool (BitVec.ofNat 32 ((if true then 2 ^ (ch % 8) else 0)) != 0#32) = BitVec.ofBool true
    have : BitVec.ofNat 32 ((if true then 2 ^ (ch % 8) else 0)) ≠ 0#32 := by
      intro h
      have h' := congrArg BitVec.toNat h
      rw [BitVec.toNat_ofNat, if_pos rfl, Nat.mod_eq_of_lt (by omega)] at h'
      simp at h'
    exact congrArg BitVec.ofBool (bne_iff_ne.2 this)

/-- A byte of four taken across two words side by side. -/
theorem two_words (lo hi : BitVec 32) : ∀ s < 4, ∀ j < 4,
    (((lo >>> (8 * s)) ||| ((hi <<< 1) <<< (31 - 8 * s))) >>> (8 * j)).setWidth 8
      = if s + j < 4 then (lo >>> (8 * (s + j))).setWidth 8 else (hi >>> (8 * (s + j - 4))).setWidth 8 := by
  intro s hs j hj
  apply BitVec.eq_of_getLsbD_eq
  intro i hi'
  interval_cases s <;> interval_cases j <;> interval_cases i <;> simp [BitVec.getLsbD_setWidth]

end Cert.Words

end
-- ==== Proof.Marks.lean ====
module

public import proofs.«01_k».proof.Pre_counted
public import proofs.«01_k».proof.Proof.Code
public import Idealize.ShloMosaic.Lib.Routing.OpsOne
public import Idealize.ShloMosaic.Lib.Pointwise
public import Idealize.ShloMosaic.Lib.Pipeline.Value

@[expose] public section

noncomputable section

namespace Cert.Words

open Idealize.ShloMosaic

/-- The mask byte `c` of token `n`, in a table of three rows of 640 tokens. -/
def markN (X : (⟨3, ![3, 640, 448]⟩ : Shape).Idx → BitVec 8) (n c : ℕ) : BitVec 8 :=
  X (ix3 (Fin.ofNat 3 (n / 640)) (Fin.ofNat 640 (n % 640)) (Fin.ofNat 448 c))

/-- A mask bit by shift and mask is the bit. -/
theorem host_bit : ∀ M < 256, ∀ k < 8, IntOp.andi (IntOp.shrsi .host (BitVec.ofNat 32 M) (BitVec.ofNat 32 k)) 1#32
    = BitVec.ofNat 32 (if M.testBit k then 1 else 0) := by decide +kernel

/-- A mask bit as the host takes it. -/
theorem host_mark (b : BitVec 8) (k : ℕ) (hk : k < 8) :
    IntOp.andi (IntOp.shrsi .host (b.setWidth 32) (BitVec.ofNat 32 k)) 1#32 = BitVec.ofNat 32 (if b.getLsbD k then 1 else 0) := by
  have h : b.setWidth 32 = BitVec.ofNat 32 b.toNat := by simp
  rw [h, host_bit _ b.isLt k hk]
  rfl

/-- A sum of words along the last axis, where each is the word of a number. -/
theorem reduce_last {A B N : ℕ} (x : IVec (⟨3, ![A, B, N]⟩ : Shape) 32) (f : ℕ → ℕ) (a : Fin A) (b : Fin B)
    (hx : ∀ i : Fin N, x (ix3 a b i) = BitVec.ofNat 32 (f i.val)) {u : Shape} (v : IVec u 32) (hv : ∀ y, v y = 0#32)
    (h : (⟨3, ![A, B, N]⟩ : Shape).ReducesTo [2] (⟨2, ![A, B]⟩ : Shape)) (hu : 0 < u.numel) :
    Host.reduce IntOp.addi x v h hu (ix2 a b) = BitVec.ofNat 32 (∑ i ∈ Finset.range N, f i) := by
  haveI : Std.Commutative (IntOp.addi (w := 32)) := ⟨fun x y => BitVec.add_comm x y⟩
  haveI : Std.Associative (IntOp.addi (w := 32)) := ⟨fun x y z => BitVec.add_assoc x y z⟩
  rw [Host.reduce_eq_fold, hv, Finset.fold_filter_eq_fold_of_fiber _ _ (fun k : Fin N => ix3 a b k)
    (fun _ _ e => congrFun e 2) (h.fiber_r3_a2 (ix2 a b))]
  rw [Finset.fold_congr (g := fun i : Fin N => BitVec.ofNat 32 (f i.val)) (fun i _ => hx i)]
  have key : ∀ S : Finset (Fin N), S.fold IntOp.addi 0#32 (fun i : Fin N => BitVec.ofNat 32 (f i.val)) = BitVec.ofNat 32 (∑ i ∈ S, f i.val) := by
    intro S
    induction S using Finset.cons_induction with
    | empty => simp
    | cons a S ha ih => rw [Finset.fold_cons, Finset.sum_cons, ih, BitVec.ofNat_add]; rfl
  rw [key, Fin.sum_univ_eq_sum_range]

/-- Where token `n`'s codes begin, as a number. -/
def sumN (cnt : ℕ → BitVec 32) (n : ℕ) : ℕ := ∑ i ∈ Finset.range n, (cnt i).toNat

/-- The sum of the counts after one more token. -/
theorem sumN_succ (cnt : ℕ → BitVec 32) (n : ℕ) : sumN cnt (n + 1) = sumN cnt n + (cnt n).toNat := Finset.sum_range_succ _ _

/-- The word of where a token's codes begin is that of the number. -/
theorem startN_eq (cnt : ℕ → BitVec 32) : ∀ n, startN cnt n = BitVec.ofNat 32 (sumN cnt n)
  | 0 => rfl
  | n + 1 => by
    rw [sumN_succ, BitVec.ofNat_add, ← startN_eq cnt n]
    show startN cnt n + cnt n = _
    simp

/-- Where every count is at most 896, token `n`'s codes begin no later than `896 n`. -/
theorem sumN_le (cnt : ℕ → BitVec 32) : ∀ n ≤ 1920, (∀ i < 1920, (cnt i).toNat ≤ 896) → sumN cnt n ≤ 896 * n
  | 0, _, _ => by simp [sumN]
  | n + 1, hn, h => by
    have h1 := sumN_le cnt n (by omega) h
    have h2 := h n (by omega)
    rw [sumN_succ]; omega

/-- There the word is the number. -/
theorem startN_toNat (cnt : ℕ → BitVec 32) (n : ℕ) (hn : n ≤ 1920) (h : ∀ i < 1920, (cnt i).toNat ≤ 896) : (startN cnt n).toNat = sumN cnt n := by
  have h1 := sumN_le cnt n hn h
  rw [startN_eq, BitVec.toNat_ofNat, Nat.mod_eq_of_lt (by omega)]

end Cert.Words

namespace Cert.Pre_counted

open Idealize.ShloMosaic Cert.Words

variable [Facts] {F : FTy → Type} [FloatOps F]

/-- What the precondition says of token `n`: its count is at least the number of channels kept and at most 896. -/
theorem counted_token (x0 : IVec S3x640x448 8) (x1 : IVec S1720320 8) (x2 : IVec S3x640 32) (x3 : FVec F S3x640 .f32)
    (x4 : FVec F S3x640x18944 .fp8e5m2) (x5 : FVec F S3x640 .f32) (h : fn x0 x1 x2 x3 x4 x5 = fun _ => 1#1) (n : ℕ) (hn : n < 1920) :
    rankN (markN x0 n) 3584 ≤ (cntN x2 n).toNat ∧ (cntN x2 n).toNat ≤ 896 := by
  have h1 := congrFun h (ix2 (Fin.ofNat 3 (n / 640)) (Fin.ofNat 640 (n % 640)))
  unfold fn at h1
  dsimp only at h1
  change IntOp.andi (IntOp.cmpi .sle (Host.reduce IntOp.addi _ _ _ _ _) (cntN x2 n)) (IntOp.cmpi .sle (cntN x2 n) 896#32) = 1#1 at h1
  rw [reduce_last _ (fun ch => bitN (markN x0 n) ch) _ _ (fun i => ?_) (constantI S_ 32 0#32) (fun _ => rfl)] at h1
  · have hr := rankN_le (markN x0 n) 3584
    change IntOp.andi (IntOp.cmpi .sle (BitVec.ofNat 32 (rankN (markN x0 n) 3584)) _) _ = _ at h1
    generalize rankN (markN x0 n) 3584 = R at *
    generalize cntN x2 n = C at *
    have h2 : (BitVec.ofNat 32 R).sle C = true ∧ C.sle 896#32 = true := by
      unfold IntOp.cmpi IntOp.andi at h1
      dsimp only at h1
      revert h1
      cases (BitVec.ofNat 32 R).sle C <;> cases C.sle 896#32 <;> decide
    rw [BitVec.sle_iff_toInt_le, BitVec.sle_iff_toInt_le] at h2
    obtain ⟨ha, hb⟩ := h2
    have hc := C.isLt
    have hR : (BitVec.ofNat 32 R).toInt = R := by rw [BitVec.toInt_eq_toNat_cond, BitVec.toNat_ofNat, Nat.mod_eq_of_lt (by omega), if_pos (by omega)]
    have h896 : (896#32).toInt = 896 := by decide
    rw [hR] at ha
    rw [h896] at hb
    rw [BitVec.toInt_eq_toNat_cond] at ha hb
    split at ha
    · rw [if_pos (by assumption)] at hb; omega
    · omega
  · rw [shapeCast_apply _ _ _ (ix4 (Fin.ofNat 3 (n / 640)) (Fin.ofNat 640 (n % 640)) (⟨i.val / 8, by omega⟩ : Fin 448) (⟨i.val % 8, by omega⟩ : Fin 8)) (by
      rw [Shape.rowMajor_val_four, Shape.rowMajor_val_three]
      simp [ix4, ix3]
      omega)]
    pointwise
    refine (host_mark _ _ (Nat.mod_lt _ (by decide))).trans ?_
    show _ = BitVec.ofNat 32 (if (x0 (ix3 (Fin.ofNat 3 (n / 640)) (Fin.ofNat 640 (n % 640)) (Fin.ofNat 448 (i.val / 8)))).getLsbD (i.val % 8) then 1 else 0)
    rw [show Fin.ofNat 448 (i.val / 8) = ⟨i.val / 8, by omega⟩ from Fin.ext (Nat.mod_eq_of_lt (by omega))]

end Cert.Pre_counted

end
-- ==== Proof.Table.lean ====
module

public import proofs.«01_k».proof.Proof.Gen.KernelIdeal.Skeleton
public import proofs.«01_k».proof.Proof.Gen.KernelIdeal.Launch
public import proofs.«01_k».proof.Proof.Words
public import Idealize.ShloMosaic.Lib.Writes
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words
open Idealize.ShloMosaic.Pipeline (Dat Cfg Window BodyObligation cellOf)

variable {F : FTy → Type} [FloatOps F]

local notation "𝕄" => MT nD τ sig Unit (Elt F) ℕ (UR sig nD τ) ℕ

/-- The table's word at token `r`, byte column `c`: the rank of the byte's first kept channel in the window, and the mask byte. -/
def tabN (B M win : ℕ → ℕ → BitVec 32) (r c : ℕ) : BitVec 32 :=
  IntOp.ori (IntOp.shli .vector (IntOp.addi (B r c) (win (4 * r + 3) (c % 128))) 8#32) (M r c)

/-- A block of the table, 128 columns wide. -/
def tabA (o0 o1 : ℕ) (h : S128x448.Slices ![o0, o1] S8x128) (B M : IVec S128x448 32) (w : IVec S8x128 32) : IVec S8x128 32 :=
  shapeCast S8x128 (ori (shli (addi (extractStridedSlice S8x128 ![o0, o1] B h) w) (broadcast S8x128 8#32)) (extractStridedSlice S8x128 ![o0, o1] M h)) shapeCasts_S8x128_S8x128

/-- A block of the table, 64 columns wide. -/
def tabB (o0 o1 : ℕ) (h : S128x448.Slices ![o0, o1] S8x64) (B M : IVec S128x448 32) (w : IVec S8x128 32) : IVec S8x64 32 :=
  shapeCast S8x64 (ori (shli (addi (extractStridedSlice S8x64 ![o0, o1] B h) (extractStridedSlice S8x64 ![0, 0] w slices_S8x128_o0_0_S8x64)) (broadcast S8x64 8#32)) (extractStridedSlice S8x64 ![o0, o1] M h)) shapeCasts_S8x64_S8x64

/-- A wide block of the table, at an entry. -/
theorem tabA_apply (o0 o1 : ℕ) (h : S128x448.Slices ![o0, o1] S8x128) (B M : IVec S128x448 32) (w : IVec S8x128 32) (win : ℕ → ℕ → BitVec 32)
    (r : Fin 8) (c : Fin 128) (ho : o1 % 128 = 0) (hw : w (ValueIdx.ix2 r c) = win (4 * (o0 + r.val) + 3) c.val) :
    tabA o0 o1 h B M w (ValueIdx.ix2 r c) = tabN (at2 B) (at2 M) win (o0 + r.val) (o1 + c.val) := by
  have hc : (o1 + c.val) % 128 = c.val := by omega
  unfold tabA tabN
  rw [hc, ← hw]
  pointwise
  refine congrArg₂ IntOp.ori (congrArg (fun z => IntOp.shli .vector (IntOp.addi z (w (ValueIdx.ix2 r c))) 8#32) ?_) ?_
  · exact eq_at2 B _ _ _ rfl rfl
  · exact eq_at2 M _ _ _ rfl rfl

/-- A narrow block of the table, at an entry. -/
theorem tabB_apply (o0 o1 : ℕ) (h : S128x448.Slices ![o0, o1] S8x64) (B M : IVec S128x448 32) (w : IVec S8x128 32) (win : ℕ → ℕ → BitVec 32)
    (r : Fin 8) (c : Fin 64) (ho : o1 % 128 = 0) (hw : w (ValueIdx.ix2 r ⟨c.val, by omega⟩) = win (4 * (o0 + r.val) + 3) c.val) :
    tabB o0 o1 h B M w (ValueIdx.ix2 r c) = tabN (at2 B) (at2 M) win (o0 + r.val) (o1 + c.val) := by
  have hc : (o1 + c.val) % 128 = c.val := by omega
  unfold tabB tabN
  rw [hc, ← hw]
  pointwise
  refine congrArg₂ IntOp.ori (congrArg₂ (fun z w => IntOp.shli .vector (IntOp.addi z w) 8#32) ?_ ?_) ?_
  · exact eq_at2 B _ _ _ rfl rfl
  · congr 1
  · exact eq_at2 M _ _ _ rfl rfl

/-- The stores of rows 0 to 7 of the table. -/
def tableRow0 (B M : IVec S128x448 32) (arg11 : Memref sig .tc .vmem S512x128 .i32) (X11 : BufTy.Contents (Elt F) arg11.view.ty) : List (View.Piece (Elt F) S128x512 .i32) :=
  [⟨Rect.unit (s := S128x512) ![0, 384] S8x64.size inb_S128x512_S8x64_0_384, tabB 0 384 slices_S128x448_o0_384_S8x64 B M (arg11.view.readAt (Elt F) (⟨![3, 0], S8x128.size, ![4, 1], inb_S512x128_S8x128_3_0_s_4_1⟩ : LoadRect S512x128) X11)⟩,
    ⟨Rect.unit (s := S128x512) ![0, 256] S8x128.size inb_S128x512_S8x128_0_256, tabA 0 256 slices_S128x448_o0_256_S8x128 B M (arg11.view.readAt (Elt F) (⟨![3, 0], S8x128.size, ![4, 1], inb_S512x128_S8x128_3_0_s_4_1⟩ : LoadRect S512x128) X11)⟩,
    ⟨Rect.unit (s := S128x512) ![0, 128] S8x128.size inb_S128x512_S8x128_0_128, tabA 0 128 slices_S128x448_o0_128_S8x128 B M (arg11.view.readAt (Elt F) (⟨![3, 0], S8x128.size, ![4, 1], inb_S512x128_S8x128_3_0_s_4_1⟩ : LoadRect S512x128) X11)⟩,
    ⟨Rect.unit (s := S128x512) ![0, 0] S8x128.size inb_S128x512_S8x128_0_0, tabA 0 0 slices_S128x448_o0_0_S8x128 B M (arg11.view.readAt (Elt F) (⟨![3, 0], S8x128.size, ![4, 1], inb_S512x128_S8x128_3_0_s_4_1⟩ : LoadRect S512x128) X11)⟩]

/-- Every store of these rows writes the table word of its entry. -/
theorem tableRow0_good (B M : IVec S128x448 32) (arg11 : Memref sig .tc .vmem S512x128 .i32) (X11 : BufTy.Contents (Elt F) arg11.view.ty) : ∀ p ∈ tableRow0 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![3, 0], S8x128.size, ![4, 1], inb_S512x128_S8x128_3_0_s_4_1⟩ : LoadRect S512x128) X11) (ValueIdx.ix2 r c) = at2 (arg11.view.read (Elt F) X11) (4 * (0 + r.val) + 3) c.val := by
    intro r c
    refine (readAt_at2_fourth arg11.view X11 (⟨![3, 0], S8x128.size, ![4, 1], inb_S512x128_S8x128_3_0_s_4_1⟩ : LoadRect S512x128) 3 rfl rfl (ValueIdx.ix2 r c)).trans ?_
    exact congrArg (fun n => at2 (arg11.view.read (Elt F) X11) n c.val) (show 3 + 4 * r.val = 4 * (0 + r.val) + 3 by omega)
  intro p hp
  unfold tableRow0 at hp
  fin_cases hp
  · intro x
    change S8x64.Idx at x
    idx_vars x
    refine (tabB_apply 0 384 slices_S128x448_o0_384_S8x64 B M (arg11.view.readAt (Elt F) (⟨![3, 0], S8x128.size, ![4, 1], inb_S512x128_S8x128_3_0_s_4_1⟩ : LoadRect S512x128) X11) (at2 (arg11.view.read (Elt F) X11)) _ _ (by decide) (hw _ _)).trans ?_
    show _ = tabN (at2 B) (at2 M) (at2 (arg11.view.read (Elt F) X11)) (0 + 1 * _) (384 + 1 * _)
    rw [Nat.one_mul, Nat.one_mul]; rfl
  · intro x
    change S8x128.Idx at x
    idx_vars x
    refine (tabA_apply 0 256 slices_S128x448_o0_256_S8x128 B M (arg11.view.readAt (Elt F) (⟨![3, 0], S8x128.size, ![4, 1], inb_S512x128_S8x128_3_0_s_4_1⟩ : LoadRect S512x128) X11) (at2 (arg11.view.read (Elt F) X11)) _ _ (by decide) (hw _ _)).trans ?_
    show _ = tabN (at2 B) (at2 M) (at2 (arg11.view.read (Elt F) X11)) (0 + 1 * _) (256 + 1 * _)
    rw [Nat.one_mul, Nat.one_mul]; rfl
  · intro x
    change S8x128.Idx at x
    idx_vars x
    refine (tabA_apply 0 128 slices_S128x448_o0_128_S8x128 B M (arg11.view.readAt (Elt F) (⟨![3, 0], S8x128.size, ![4, 1], inb_S512x128_S8x128_3_0_s_4_1⟩ : LoadRect S512x128) X11) (at2 (arg11.view.read (Elt F) X11)) _ _ (by decide) (hw _ _)).trans ?_
    show _ = tabN (at2 B) (at2 M) (at2 (arg11.view.read (Elt F) X11)) (0 + 1 * _) (128 + 1 * _)
    rw [Nat.one_mul, Nat.one_mul]; rfl
  · intro x
    change S8x128.Idx at x
    idx_vars x
    refine (tabA_apply 0 0 slices_S128x448_o0_0_S8x128 B M (arg11.view.readAt (Elt F) (⟨![3, 0], S8x128.size, ![4, 1], inb_S512x128_S8x128_3_0_s_4_1⟩ : LoadRect S512x128) X11) (at2 (arg11.view.read (Elt F) X11)) _ _ (by decide) (hw _ _)).trans ?_
    show _ = tabN (at2 B) (at2 M) (at2 (arg11.view.read (Elt F) X11)) (0 + 1 * _) (0 + 1 * _)
    rw [Nat.one_mul, Nat.one_mul]; rfl

/-- The stores of these rows cover them. -/
theorem tableRow0_cover (B M : IVec S128x448 32) (arg11 : Memref sig .tc .vmem S512x128 .i32) (X11 : BufTy.Contents (Elt F) arg11.view.ty) (y : S128x512.Idx) (h0 : 0 ≤ (y 0).val) (h1 : (y 0).val < 8) (h2 : (y 1).val < 448) : ∃ p ∈ tableRow0 B M arg11 X11, y ∈ p.1.set := by
  unfold tableRow0
  by_cases c3 : 384 ≤ (y 1).val
  · refine ⟨_, List.mem_cons_self, ?_⟩
    show y ∈ (Rect.unit (s := S128x512) ![0, 384] S8x64.size inb_S128x512_S8x64_0_384).set
    rw [Rect.mem_set_unit]
    intro a
    match a with
    | ⟨0, _⟩ => exact ⟨show 0 ≤ (y 0).val by omega, show (y 0).val < 0 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![0, 256] S8x128.size inb_S128x512_S8x128_0_256).set
    rw [Rect.mem_set_unit]
    intro a
    match a with
    | ⟨0, _⟩ => exact ⟨show 0 ≤ (y 0).val by omega, show (y 0).val < 0 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![0, 128] S8x128.size inb_S128x512_S8x128_0_128).set
    rw [Rect.mem_set_unit]
    intro a
    match a with
    | ⟨0, _⟩ => exact ⟨show 0 ≤ (y 0).val by omega, show (y 0).val < 0 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![0, 0] S8x128.size inb_S128x512_S8x128_0_0).set
    rw [Rect.mem_set_unit]
    intro a
    match a with
    | ⟨0, _⟩ => exact ⟨show 0 ≤ (y 0).val by omega, show (y 0).val < 0 + 8 by omega⟩
    | ⟨1, _⟩ => exact ⟨show 0 ≤ (y 1).val by omega, show (y 1).val < 0 + 128 by omega⟩
  omega

/-- The stores of rows 8 to 15 of the table. -/
def tableRow1 (B M : IVec S128x448 32) (arg11 : Memref sig .tc .vmem S512x128 .i32) (X11 : BufTy.Contents (Elt F) arg11.view.ty) : List (View.Piece (Elt F) S128x512 .i32) :=
  [⟨Rect.unit (s := S128x512) ![8, 384] S8x64.size inb_S128x512_S8x64_8_384, tabB 8 384 slices_S128x448_o8_384_S8x64 B M (arg11.view.readAt (Elt F) (⟨![35, 0], S8x128.size, ![4, 1], inb_S512x128_S8x128_35_0_s_4_1⟩ : LoadRect S512x128) X11)⟩,
    ⟨Rect.unit (s := S128x512) ![8, 256] S8x128.size inb_S128x512_S8x128_8_256, tabA 8 256 slices_S128x448_o8_256_S8x128 B M (arg11.view.readAt (Elt F) (⟨![35, 0], S8x128.size, ![4, 1], inb_S512x128_S8x128_35_0_s_4_1⟩ : LoadRect S512x128) X11)⟩,
    ⟨Rect.unit (s := S128x512) ![8, 128] S8x128.size inb_S128x512_S8x128_8_128, tabA 8 128 slices_S128x448_o8_128_S8x128 B M (arg11.view.readAt (Elt F) (⟨![35, 0], S8x128.size, ![4, 1], inb_S512x128_S8x128_35_0_s_4_1⟩ : LoadRect S512x128) X11)⟩,
    ⟨Rect.unit (s := S128x512) ![8, 0] S8x128.size inb_S128x512_S8x128_8_0, tabA 8 0 slices_S128x448_o8_0_S8x128 B M (arg11.view.readAt (Elt F) (⟨![35, 0], S8x128.size, ![4, 1], inb_S512x128_S8x128_35_0_s_4_1⟩ : LoadRect S512x128) X11)⟩]

/-- Every store of these rows writes the table word of its entry. -/
theorem tableRow1_good (B M : IVec S128x448 32) (arg11 : Memref sig .tc .vmem S512x128 .i32) (X11 : BufTy.Contents (Elt F) arg11.view.ty) : ∀ p ∈ tableRow1 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![35, 0], S8x128.size, ![4, 1], inb_S512x128_S8x128_35_0_s_4_1⟩ : LoadRect S512x128) X11) (ValueIdx.ix2 r c) = at2 (arg11.view.read (Elt F) X11) (4 * (8 + r.val) + 3) c.val := by
    intro r c
    refine (readAt_at2_fourth arg11.view X11 (⟨![35, 0], S8x128.size, ![4, 1], inb_S512x128_S8x128_35_0_s_4_1⟩ : LoadRect S512x128) 35 rfl rfl (ValueIdx.ix2 r c)).trans ?_
    exact congrArg (fun n => at2 (arg11.view.read (Elt F) X11) n c.val) (show 35 + 4 * r.val = 4 * (8 + r.val) + 3 by omega)
  intro p hp
  unfold tableRow1 at hp
  fin_cases hp
  · intro x
    change S8x64.Idx at x
    idx_vars x
    refine (tabB_apply 8 384 slices_S128x448_o8_384_S8x64 B M (arg11.view.readAt (Elt F) (⟨![35, 0], S8x128.size, ![4, 1], inb_S512x128_S8x128_35_0_s_4_1⟩ : LoadRect S512x128) X11) (at2 (arg11.view.read (Elt F) X11)) _ _ (by decide) (hw _ _)).trans ?_
    show _ = tabN (at2 B) (at2 M) (at2 (arg11.view.read (Elt F) X11)) (8 + 1 * _) (384 + 1 * _)
    rw [Nat.one_mul, Nat.one_mul]; rfl
  · intro x
    change S8x128.Idx at x
    idx_vars x
    refine (tabA_apply 8 256 slices_S128x448_o8_256_S8x128 B M (arg11.view.readAt (Elt F) (⟨![35, 0], S8x128.size, ![4, 1], inb_S512x128_S8x128_35_0_s_4_1⟩ : LoadRect S512x128) X11) (at2 (arg11.view.read (Elt F) X11)) _ _ (by decide) (hw _ _)).trans ?_
    show _ = tabN (at2 B) (at2 M) (at2 (arg11.view.read (Elt F) X11)) (8 + 1 * _) (256 + 1 * _)
    rw [Nat.one_mul, Nat.one_mul]; rfl
  · intro x
    change S8x128.Idx at x
    idx_vars x
    refine (tabA_apply 8 128 slices_S128x448_o8_128_S8x128 B M (arg11.view.readAt (Elt F) (⟨![35, 0], S8x128.size, ![4, 1], inb_S512x128_S8x128_35_0_s_4_1⟩ : LoadRect S512x128) X11) (at2 (arg11.view.read (Elt F) X11)) _ _ (by decide) (hw _ _)).trans ?_
    show _ = tabN (at2 B) (at2 M) (at2 (arg11.view.read (Elt F) X11)) (8 + 1 * _) (128 + 1 * _)
    rw [Nat.one_mul, Nat.one_mul]; rfl
  · intro x
    change S8x128.Idx at x
    idx_vars x
    refine (tabA_apply 8 0 slices_S128x448_o8_0_S8x128 B M (arg11.view.readAt (Elt F) (⟨![35, 0], S8x128.size, ![4, 1], inb_S512x128_S8x128_35_0_s_4_1⟩ : LoadRect S512x128) X11) (at2 (arg11.view.read (Elt F) X11)) _ _ (by decide) (hw _ _)).trans ?_
    show _ = tabN (at2 B) (at2 M) (at2 (arg11.view.read (Elt F) X11)) (8 + 1 * _) (0 + 1 * _)
    rw [Nat.one_mul, Nat.one_mul]; rfl

/-- The stores of these rows cover them. -/
theorem tableRow1_cover (B M : IVec S128x448 32) (arg11 : Memref sig .tc .vmem S512x128 .i32) (X11 : BufTy.Contents (Elt F) arg11.view.ty) (y : S128x512.Idx) (h0 : 8 ≤ (y 0).val) (h1 : (y 0).val < 16) (h2 : (y 1).val < 448) : ∃ p ∈ tableRow1 B M arg11 X11, y ∈ p.1.set := by
  unfold tableRow1
  by_cases c3 : 384 ≤ (y 1).val
  · refine ⟨_, List.mem_cons_self, ?_⟩
    show y ∈ (Rect.unit (s := S128x512) ![8, 384] S8x64.size inb_S128x512_S8x64_8_384).set
    rw [Rect.mem_set_unit]
    intro a
    match a with
    | ⟨0, _⟩ => exact ⟨show 8 ≤ (y 0).val by omega, show (y 0).val < 8 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![8, 256] S8x128.size inb_S128x512_S8x128_8_256).set
    rw [Rect.mem_set_unit]
    intro a
    match a with
    | ⟨0, _⟩ => exact ⟨show 8 ≤ (y 0).val by omega, show (y 0).val < 8 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![8, 128] S8x128.size inb_S128x512_S8x128_8_128).set
    rw [Rect.mem_set_unit]
    intro a
    match a with
    | ⟨0, _⟩ => exact ⟨show 8 ≤ (y 0).val by omega, show (y 0).val < 8 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![8, 0] S8x128.size inb_S128x512_S8x128_8_0).set
    rw [Rect.mem_set_unit]
    intro a
    match a with
    | ⟨0, _⟩ => exact ⟨show 8 ≤ (y 0).val by omega, show (y 0).val < 8 + 8 by omega⟩
    | ⟨1, _⟩ => exact ⟨show 0 ≤ (y 1).val by omega, show (y 1).val < 0 + 128 by omega⟩
  omega

/-- The stores of rows 16 to 23 of the table. -/
def tableRow2 (B M : IVec S128x448 32) (arg11 : Memref sig .tc .vmem S512x128 .i32) (X11 : BufTy.Contents (Elt F) arg11.view.ty) : List (View.Piece (Elt F) S128x512 .i32) :=
  [⟨Rect.unit (s := S128x512) ![16, 384] S8x64.size inb_S128x512_S8x64_16_384, tabB 16 384 slices_S128x448_o16_384_S8x64 B M (arg11.view.readAt (Elt F) (⟨![67, 0], S8x128.size, ![4, 1], inb_S512x128_S8x128_67_0_s_4_1⟩ : LoadRect S512x128) X11)⟩,
    ⟨Rect.unit (s := S128x512) ![16, 256] S8x128.size inb_S128x512_S8x128_16_256, tabA 16 256 slices_S128x448_o16_256_S8x128 B M (arg11.view.readAt (Elt F) (⟨![67, 0], S8x128.size, ![4, 1], inb_S512x128_S8x128_67_0_s_4_1⟩ : LoadRect S512x128) X11)⟩,
    ⟨Rect.unit (s := S128x512) ![16, 128] S8x128.size inb_S128x512_S8x128_16_128, tabA 16 128 slices_S128x448_o16_128_S8x128 B M (arg11.view.readAt (Elt F) (⟨![67, 0], S8x128.size, ![4, 1], inb_S512x128_S8x128_67_0_s_4_1⟩ : LoadRect S512x128) X11)⟩,
    ⟨Rect.unit (s := S128x512) ![16, 0] S8x128.size inb_S128x512_S8x128_16_0, tabA 16 0 slices_S128x448_o16_0_S8x128 B M (arg11.view.readAt (Elt F) (⟨![67, 0], S8x128.size, ![4, 1], inb_S512x128_S8x128_67_0_s_4_1⟩ : LoadRect S512x128) X11)⟩]

/-- Every store of these rows writes the table word of its entry. -/
theorem tableRow2_good (B M : IVec S128x448 32) (arg11 : Memref sig .tc .vmem S512x128 .i32) (X11 : BufTy.Contents (Elt F) arg11.view.ty) : ∀ p ∈ tableRow2 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![67, 0], S8x128.size, ![4, 1], inb_S512x128_S8x128_67_0_s_4_1⟩ : LoadRect S512x128) X11) (ValueIdx.ix2 r c) = at2 (arg11.view.read (Elt F) X11) (4 * (16 + r.val) + 3) c.val := by
    intro r c
    refine (readAt_at2_fourth arg11.view X11 (⟨![67, 0], S8x128.size, ![4, 1], inb_S512x128_S8x128_67_0_s_4_1⟩ : LoadRect S512x128) 67 rfl rfl (ValueIdx.ix2 r c)).trans ?_
    exact congrArg (fun n => at2 (arg11.view.read (Elt F) X11) n c.val) (show 67 + 4 * r.val = 4 * (16 + r.val) + 3 by omega)
  intro p hp
  unfold tableRow2 at hp
  fin_cases hp
  · intro x
    change S8x64.Idx at x
    idx_vars x
    refine (tabB_apply 16 384 slices_S128x448_o16_384_S8x64 B M (arg11.view.readAt (Elt F) (⟨![67, 0], S8x128.size, ![4, 1], inb_S512x128_S8x128_67_0_s_4_1⟩ : LoadRect S512x128) X11) (at2 (arg11.view.read (Elt F) X11)) _ _ (by decide) (hw _ _)).trans ?_
    show _ = tabN (at2 B) (at2 M) (at2 (arg11.view.read (Elt F) X11)) (16 + 1 * _) (384 + 1 * _)
    rw [Nat.one_mul, Nat.one_mul]; rfl
  · intro x
    change S8x128.Idx at x
    idx_vars x
    refine (tabA_apply 16 256 slices_S128x448_o16_256_S8x128 B M (arg11.view.readAt (Elt F) (⟨![67, 0], S8x128.size, ![4, 1], inb_S512x128_S8x128_67_0_s_4_1⟩ : LoadRect S512x128) X11) (at2 (arg11.view.read (Elt F) X11)) _ _ (by decide) (hw _ _)).trans ?_
    show _ = tabN (at2 B) (at2 M) (at2 (arg11.view.read (Elt F) X11)) (16 + 1 * _) (256 + 1 * _)
    rw [Nat.one_mul, Nat.one_mul]; rfl
  · intro x
    change S8x128.Idx at x
    idx_vars x
    refine (tabA_apply 16 128 slices_S128x448_o16_128_S8x128 B M (arg11.view.readAt (Elt F) (⟨![67, 0], S8x128.size, ![4, 1], inb_S512x128_S8x128_67_0_s_4_1⟩ : LoadRect S512x128) X11) (at2 (arg11.view.read (Elt F) X11)) _ _ (by decide) (hw _ _)).trans ?_
    show _ = tabN (at2 B) (at2 M) (at2 (arg11.view.read (Elt F) X11)) (16 + 1 * _) (128 + 1 * _)
    rw [Nat.one_mul, Nat.one_mul]; rfl
  · intro x
    change S8x128.Idx at x
    idx_vars x
    refine (tabA_apply 16 0 slices_S128x448_o16_0_S8x128 B M (arg11.view.readAt (Elt F) (⟨![67, 0], S8x128.size, ![4, 1], inb_S512x128_S8x128_67_0_s_4_1⟩ : LoadRect S512x128) X11) (at2 (arg11.view.read (Elt F) X11)) _ _ (by decide) (hw _ _)).trans ?_
    show _ = tabN (at2 B) (at2 M) (at2 (arg11.view.read (Elt F) X11)) (16 + 1 * _) (0 + 1 * _)
    rw [Nat.one_mul, Nat.one_mul]; rfl

/-- The stores of these rows cover them. -/
theorem tableRow2_cover (B M : IVec S128x448 32) (arg11 : Memref sig .tc .vmem S512x128 .i32) (X11 : BufTy.Contents (Elt F) arg11.view.ty) (y : S128x512.Idx) (h0 : 16 ≤ (y 0).val) (h1 : (y 0).val < 24) (h2 : (y 1).val < 448) : ∃ p ∈ tableRow2 B M arg11 X11, y ∈ p.1.set := by
  unfold tableRow2
  by_cases c3 : 384 ≤ (y 1).val
  · refine ⟨_, List.mem_cons_self, ?_⟩
    show y ∈ (Rect.unit (s := S128x512) ![16, 384] S8x64.size inb_S128x512_S8x64_16_384).set
    rw [Rect.mem_set_unit]
    intro a
    match a with
    | ⟨0, _⟩ => exact ⟨show 16 ≤ (y 0).val by omega, show (y 0).val < 16 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![16, 256] S8x128.size inb_S128x512_S8x128_16_256).set
    rw [Rect.mem_set_unit]
    intro a
    match a with
    | ⟨0, _⟩ => exact ⟨show 16 ≤ (y 0).val by omega, show (y 0).val < 16 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![16, 128] S8x128.size inb_S128x512_S8x128_16_128).set
    rw [Rect.mem_set_unit]
    intro a
    match a with
    | ⟨0, _⟩ => exact ⟨show 16 ≤ (y 0).val by omega, show (y 0).val < 16 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![16, 0] S8x128.size inb_S128x512_S8x128_16_0).set
    rw [Rect.mem_set_unit]
    intro a
    match a with
    | ⟨0, _⟩ => exact ⟨show 16 ≤ (y 0).val by omega, show (y 0).val < 16 + 8 by omega⟩
    | ⟨1, _⟩ => exact ⟨show 0 ≤ (y 1).val by omega, show (y 1).val < 0 + 128 by omega⟩
  omega

/-- The stores of rows 24 to 31 of the table. -/
def tableRow3 (B M : IVec S128x448 32) (arg11 : Memref sig .tc .vmem S512x128 .i32) (X11 : BufTy.Contents (Elt F) arg11.view.ty) : List (View.Piece (Elt F) S128x512 .i32) :=
  [⟨Rect.unit (s := S128x512) ![24, 384] S8x64.size inb_S128x512_S8x64_24_384, tabB 24 384 slices_S128x448_o24_384_S8x64 B M (arg11.view.readAt (Elt F) (⟨![99, 0], S8x128.size, ![4, 1], inb_S512x128_S8x128_99_0_s_4_1⟩ : LoadRect S512x128) X11)⟩,
    ⟨Rect.unit (s := S128x512) ![24, 256] S8x128.size inb_S128x512_S8x128_24_256, tabA 24 256 slices_S128x448_o24_256_S8x128 B M (arg11.view.readAt (Elt F) (⟨![99, 0], S8x128.size, ![4, 1], inb_S512x128_S8x128_99_0_s_4_1⟩ : LoadRect S512x128) X11)⟩,
    ⟨Rect.unit (s := S128x512) ![24, 128] S8x128.size inb_S128x512_S8x128_24_128, tabA 24 128 slices_S128x448_o24_128_S8x128 B M (arg11.view.readAt (Elt F) (⟨![99, 0], S8x128.size, ![4, 1], inb_S512x128_S8x128_99_0_s_4_1⟩ : LoadRect S512x128) X11)⟩,
    ⟨Rect.unit (s := S128x512) ![24, 0] S8x128.size inb_S128x512_S8x128_24_0, tabA 24 0 slices_S128x448_o24_0_S8x128 B M (arg11.view.readAt (Elt F) (⟨![99, 0], S8x128.size, ![4, 1], inb_S512x128_S8x128_99_0_s_4_1⟩ : LoadRect S512x128) X11)⟩]

/-- Every store of these rows writes the table word of its entry. -/
theorem tableRow3_good (B M : IVec S128x448 32) (arg11 : Memref sig .tc .vmem S512x128 .i32) (X11 : BufTy.Contents (Elt F) arg11.view.ty) : ∀ p ∈ tableRow3 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![99, 0], S8x128.size, ![4, 1], inb_S512x128_S8x128_99_0_s_4_1⟩ : LoadRect S512x128) X11) (ValueIdx.ix2 r c) = at2 (arg11.view.read (Elt F) X11) (4 * (24 + r.val) + 3) c.val := by
    intro r c
    refine (readAt_at2_fourth arg11.view X11 (⟨![99, 0], S8x128.size, ![4, 1], inb_S512x128_S8x128_99_0_s_4_1⟩ : LoadRect S512x128) 99 rfl rfl (ValueIdx.ix2 r c)).trans ?_
    exact congrArg (fun n => at2 (arg11.view.read (Elt F) X11) n c.val) (show 99 + 4 * r.val = 4 * (24 + r.val) + 3 by omega)
  intro p hp
  unfold tableRow3 at hp
  fin_cases hp
  · intro x
    change S8x64.Idx at x
    idx_vars x
    refine (tabB_apply 24 384 slices_S128x448_o24_384_S8x64 B M (arg11.view.readAt (Elt F) (⟨![99, 0], S8x128.size, ![4, 1], inb_S512x128_S8x128_99_0_s_4_1⟩ : LoadRect S512x128) X11) (at2 (arg11.view.read (Elt F) X11)) _ _ (by decide) (hw _ _)).trans ?_
    show _ = tabN (at2 B) (at2 M) (at2 (arg11.view.read (Elt F) X11)) (24 + 1 * _) (384 + 1 * _)
    rw [Nat.one_mul, Nat.one_mul]; rfl
  · intro x
    change S8x128.Idx at x
    idx_vars x
    refine (tabA_apply 24 256 slices_S128x448_o24_256_S8x128 B M (arg11.view.readAt (Elt F) (⟨![99, 0], S8x128.size, ![4, 1], inb_S512x128_S8x128_99_0_s_4_1⟩ : LoadRect S512x128) X11) (at2 (arg11.view.read (Elt F) X11)) _ _ (by decide) (hw _ _)).trans ?_
    show _ = tabN (at2 B) (at2 M) (at2 (arg11.view.read (Elt F) X11)) (24 + 1 * _) (256 + 1 * _)
    rw [Nat.one_mul, Nat.one_mul]; rfl
  · intro x
    change S8x128.Idx at x
    idx_vars x
    refine (tabA_apply 24 128 slices_S128x448_o24_128_S8x128 B M (arg11.view.readAt (Elt F) (⟨![99, 0], S8x128.size, ![4, 1], inb_S512x128_S8x128_99_0_s_4_1⟩ : LoadRect S512x128) X11) (at2 (arg11.view.read (Elt F) X11)) _ _ (by decide) (hw _ _)).trans ?_
    show _ = tabN (at2 B) (at2 M) (at2 (arg11.view.read (Elt F) X11)) (24 + 1 * _) (128 + 1 * _)
    rw [Nat.one_mul, Nat.one_mul]; rfl
  · intro x
    change S8x128.Idx at x
    idx_vars x
    refine (tabA_apply 24 0 slices_S128x448_o24_0_S8x128 B M (arg11.view.readAt (Elt F) (⟨![99, 0], S8x128.size, ![4, 1], inb_S512x128_S8x128_99_0_s_4_1⟩ : LoadRect S512x128) X11) (at2 (arg11.view.read (Elt F) X11)) _ _ (by decide) (hw _ _)).trans ?_
    show _ = tabN (at2 B) (at2 M) (at2 (arg11.view.read (Elt F) X11)) (24 + 1 * _) (0 + 1 * _)
    rw [Nat.one_mul, Nat.one_mul]; rfl

/-- The stores of these rows cover them. -/
theorem tableRow3_cover (B M : IVec S128x448 32) (arg11 : Memref sig .tc .vmem S512x128 .i32) (X11 : BufTy.Contents (Elt F) arg11.view.ty) (y : S128x512.Idx) (h0 : 24 ≤ (y 0).val) (h1 : (y 0).val < 32) (h2 : (y 1).val < 448) : ∃ p ∈ tableRow3 B M arg11 X11, y ∈ p.1.set := by
  unfold tableRow3
  by_cases c3 : 384 ≤ (y 1).val
  · refine ⟨_, List.mem_cons_self, ?_⟩
    show y ∈ (Rect.unit (s := S128x512) ![24, 384] S8x64.size inb_S128x512_S8x64_24_384).set
    rw [Rect.mem_set_unit]
    intro a
    match a with
    | ⟨0, _⟩ => exact ⟨show 24 ≤ (y 0).val by omega, show (y 0).val < 24 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![24, 256] S8x128.size inb_S128x512_S8x128_24_256).set
    rw [Rect.mem_set_unit]
    intro a
    match a with
    | ⟨0, _⟩ => exact ⟨show 24 ≤ (y 0).val by omega, show (y 0).val < 24 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![24, 128] S8x128.size inb_S128x512_S8x128_24_128).set
    rw [Rect.mem_set_unit]
    intro a
    match a with
    | ⟨0, _⟩ => exact ⟨show 24 ≤ (y 0).val by omega, show (y 0).val < 24 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![24, 0] S8x128.size inb_S128x512_S8x128_24_0).set
    rw [Rect.mem_set_unit]
    intro a
    match a with
    | ⟨0, _⟩ => exact ⟨show 24 ≤ (y 0).val by omega, show (y 0).val < 24 + 8 by omega⟩
    | ⟨1, _⟩ => exact ⟨show 0 ≤ (y 1).val by omega, show (y 1).val < 0 + 128 by omega⟩
  omega

/-- The stores of rows 32 to 39 of the table. -/
def tableRow4 (B M : IVec S128x448 32) (arg11 : Memref sig .tc .vmem S512x128 .i32) (X11 : BufTy.Contents (Elt F) arg11.view.ty) : List (View.Piece (Elt F) S128x512 .i32) :=
  [⟨Rect.unit (s := S128x512) ![32, 384] S8x64.size inb_S128x512_S8x64_32_384, tabB 32 384 slices_S128x448_o32_384_S8x64 B M (arg11.view.readAt (Elt F) (⟨![131, 0], S8x128.size, ![4, 1], inb_S512x128_S8x128_131_0_s_4_1⟩ : LoadRect S512x128) X11)⟩,
    ⟨Rect.unit (s := S128x512) ![32, 256] S8x128.size inb_S128x512_S8x128_32_256, tabA 32 256 slices_S128x448_o32_256_S8x128 B M (arg11.view.readAt (Elt F) (⟨![131, 0], S8x128.size, ![4, 1], inb_S512x128_S8x128_131_0_s_4_1⟩ : LoadRect S512x128) X11)⟩,
    ⟨Rect.unit (s := S128x512) ![32, 128] S8x128.size inb_S128x512_S8x128_32_128, tabA 32 128 slices_S128x448_o32_128_S8x128 B M (arg11.view.readAt (Elt F) (⟨![131, 0], S8x128.size, ![4, 1], inb_S512x128_S8x128_131_0_s_4_1⟩ : LoadRect S512x128) X11)⟩,
    ⟨Rect.unit (s := S128x512) ![32, 0] S8x128.size inb_S128x512_S8x128_32_0, tabA 32 0 slices_S128x448_o32_0_S8x128 B M (arg11.view.readAt (Elt F) (⟨![131, 0], S8x128.size, ![4, 1], inb_S512x128_S8x128_131_0_s_4_1⟩ : LoadRect S512x128) X11)⟩]

/-- Every store of these rows writes the table word of its entry. -/
theorem tableRow4_good (B M : IVec S128x448 32) (arg11 : Memref sig .tc .vmem S512x128 .i32) (X11 : BufTy.Contents (Elt F) arg11.view.ty) : ∀ p ∈ tableRow4 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![131, 0], S8x128.size, ![4, 1], inb_S512x128_S8x128_131_0_s_4_1⟩ : LoadRect S512x128) X11) (ValueIdx.ix2 r c) = at2 (arg11.view.read (Elt F) X11) (4 * (32 + r.val) + 3) c.val := by
    intro r c
    refine (readAt_at2_fourth arg11.view X11 (⟨![131, 0], S8x128.size, ![4, 1], inb_S512x128_S8x128_131_0_s_4_1⟩ : LoadRect S512x128) 131 rfl rfl (ValueIdx.ix2 r c)).trans ?_
    exact congrArg (fun n => at2 (arg11.view.read (Elt F) X11) n c.val) (show 131 + 4 * r.val = 4 * (32 + r.val) + 3 by omega)
  intro p hp
  unfold tableRow4 at hp
  fin_cases hp
  · intro x
    change S8x64.Idx at x
    idx_vars x
    refine (tabB_apply 32 384 slices_S128x448_o32_384_S8x64 B M (arg11.view.readAt (Elt F) (⟨![131, 0], S8x128.size, ![4, 1], inb_S512x128_S8x128_131_0_s_4_1⟩ : LoadRect S512x128) X11) (at2 (arg11.view.read (Elt F) X11)) _ _ (by decide) (hw _ _)).trans ?_
    show _ = tabN (at2 B) (at2 M) (at2 (arg11.view.read (Elt F) X11)) (32 + 1 * _) (384 + 1 * _)
    rw [Nat.one_mul, Nat.one_mul]; rfl
  · intro x
    change S8x128.Idx at x
    idx_vars x
    refine (tabA_apply 32 256 slices_S128x448_o32_256_S8x128 B M (arg11.view.readAt (Elt F) (⟨![131, 0], S8x128.size, ![4, 1], inb_S512x128_S8x128_131_0_s_4_1⟩ : LoadRect S512x128) X11) (at2 (arg11.view.read (Elt F) X11)) _ _ (by decide) (hw _ _)).trans ?_
    show _ = tabN (at2 B) (at2 M) (at2 (arg11.view.read (Elt F) X11)) (32 + 1 * _) (256 + 1 * _)
    rw [Nat.one_mul, Nat.one_mul]; rfl
  · intro x
    change S8x128.Idx at x
    idx_vars x
    refine (tabA_apply 32 128 slices_S128x448_o32_128_S8x128 B M (arg11.view.readAt (Elt F) (⟨![131, 0], S8x128.size, ![4, 1], inb_S512x128_S8x128_131_0_s_4_1⟩ : LoadRect S512x128) X11) (at2 (arg11.view.read (Elt F) X11)) _ _ (by decide) (hw _ _)).trans ?_
    show _ = tabN (at2 B) (at2 M) (at2 (arg11.view.read (Elt F) X11)) (32 + 1 * _) (128 + 1 * _)
    rw [Nat.one_mul, Nat.one_mul]; rfl
  · intro x
    change S8x128.Idx at x
    idx_vars x
    refine (tabA_apply 32 0 slices_S128x448_o32_0_S8x128 B M (arg11.view.readAt (Elt F) (⟨![131, 0], S8x128.size, ![4, 1], inb_S512x128_S8x128_131_0_s_4_1⟩ : LoadRect S512x128) X11) (at2 (arg11.view.read (Elt F) X11)) _ _ (by decide) (hw _ _)).trans ?_
    show _ = tabN (at2 B) (at2 M) (at2 (arg11.view.read (Elt F) X11)) (32 + 1 * _) (0 + 1 * _)
    rw [Nat.one_mul, Nat.one_mul]; rfl

/-- The stores of these rows cover them. -/
theorem tableRow4_cover (B M : IVec S128x448 32) (arg11 : Memref sig .tc .vmem S512x128 .i32) (X11 : BufTy.Contents (Elt F) arg11.view.ty) (y : S128x512.Idx) (h0 : 32 ≤ (y 0).val) (h1 : (y 0).val < 40) (h2 : (y 1).val < 448) : ∃ p ∈ tableRow4 B M arg11 X11, y ∈ p.1.set := by
  unfold tableRow4
  by_cases c3 : 384 ≤ (y 1).val
  · refine ⟨_, List.mem_cons_self, ?_⟩
    show y ∈ (Rect.unit (s := S128x512) ![32, 384] S8x64.size inb_S128x512_S8x64_32_384).set
    rw [Rect.mem_set_unit]
    intro a
    match a with
    | ⟨0, _⟩ => exact ⟨show 32 ≤ (y 0).val by omega, show (y 0).val < 32 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![32, 256] S8x128.size inb_S128x512_S8x128_32_256).set
    rw [Rect.mem_set_unit]
    intro a
    match a with
    | ⟨0, _⟩ => exact ⟨show 32 ≤ (y 0).val by omega, show (y 0).val < 32 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![32, 128] S8x128.size inb_S128x512_S8x128_32_128).set
    rw [Rect.mem_set_unit]
    intro a
    match a with
    | ⟨0, _⟩ => exact ⟨show 32 ≤ (y 0).val by omega, show (y 0).val < 32 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![32, 0] S8x128.size inb_S128x512_S8x128_32_0).set
    rw [Rect.mem_set_unit]
    intro a
    match a with
    | ⟨0, _⟩ => exact ⟨show 32 ≤ (y 0).val by omega, show (y 0).val < 32 + 8 by omega⟩
    | ⟨1, _⟩ => exact ⟨show 0 ≤ (y 1).val by omega, show (y 1).val < 0 + 128 by omega⟩
  omega

/-- The stores of rows 40 to 47 of the table. -/
def tableRow5 (B M : IVec S128x448 32) (arg11 : Memref sig .tc .vmem S512x128 .i32) (X11 : BufTy.Contents (Elt F) arg11.view.ty) : List (View.Piece (Elt F) S128x512 .i32) :=
  [⟨Rect.unit (s := S128x512) ![40, 384] S8x64.size inb_S128x512_S8x64_40_384, tabB 40 384 slices_S128x448_o40_384_S8x64 B M (arg11.view.readAt (Elt F) (⟨![163, 0], S8x128.size, ![4, 1], inb_S512x128_S8x128_163_0_s_4_1⟩ : LoadRect S512x128) X11)⟩,
    ⟨Rect.unit (s := S128x512) ![40, 256] S8x128.size inb_S128x512_S8x128_40_256, tabA 40 256 slices_S128x448_o40_256_S8x128 B M (arg11.view.readAt (Elt F) (⟨![163, 0], S8x128.size, ![4, 1], inb_S512x128_S8x128_163_0_s_4_1⟩ : LoadRect S512x128) X11)⟩,
    ⟨Rect.unit (s := S128x512) ![40, 128] S8x128.size inb_S128x512_S8x128_40_128, tabA 40 128 slices_S128x448_o40_128_S8x128 B M (arg11.view.readAt (Elt F) (⟨![163, 0], S8x128.size, ![4, 1], inb_S512x128_S8x128_163_0_s_4_1⟩ : LoadRect S512x128) X11)⟩,
    ⟨Rect.unit (s := S128x512) ![40, 0] S8x128.size inb_S128x512_S8x128_40_0, tabA 40 0 slices_S128x448_o40_0_S8x128 B M (arg11.view.readAt (Elt F) (⟨![163, 0], S8x128.size, ![4, 1], inb_S512x128_S8x128_163_0_s_4_1⟩ : LoadRect S512x128) X11)⟩]

/-- Every store of these rows writes the table word of its entry. -/
theorem tableRow5_good (B M : IVec S128x448 32) (arg11 : Memref sig .tc .vmem S512x128 .i32) (X11 : BufTy.Contents (Elt F) arg11.view.ty) : ∀ p ∈ tableRow5 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![163, 0], S8x128.size, ![4, 1], inb_S512x128_S8x128_163_0_s_4_1⟩ : LoadRect S512x128) X11) (ValueIdx.ix2 r c) = at2 (arg11.view.read (Elt F) X11) (4 * (40 + r.val) + 3) c.val := by
    intro r c
    refine (readAt_at2_fourth arg11.view X11 (⟨![163, 0], S8x128.size, ![4, 1], inb_S512x128_S8x128_163_0_s_4_1⟩ : LoadRect S512x128) 163 rfl rfl (ValueIdx.ix2 r c)).trans ?_
    exact congrArg (fun n => at2 (arg11.view.read (Elt F) X11) n c.val) (show 163 + 4 * r.val = 4 * (40 + r.val) + 3 by omega)
  intro p hp
  unfold tableRow5 at hp
  fin_cases hp
  · intro x
    change S8x64.Idx at x
    idx_vars x
    refine (tabB_apply 40 384 slices_S128x448_o40_384_S8x64 B M (arg11.view.readAt (Elt F) (⟨![163, 0], S8x128.size, ![4, 1], inb_S512x128_S8x128_163_0_s_4_1⟩ : LoadRect S512x128) X11) (at2 (arg11.view.read (Elt F) X11)) _ _ (by decide) (hw _ _)).trans ?_
    show _ = tabN (at2 B) (at2 M) (at2 (arg11.view.read (Elt F) X11)) (40 + 1 * _) (384 + 1 * _)
    rw [Nat.one_mul, Nat.one_mul]; rfl
  · intro x
    change S8x128.Idx at x
    idx_vars x
    refine (tabA_apply 40 256 slices_S128x448_o40_256_S8x128 B M (arg11.view.readAt (Elt F) (⟨![163, 0], S8x128.size, ![4, 1], inb_S512x128_S8x128_163_0_s_4_1⟩ : LoadRect S512x128) X11) (at2 (arg11.view.read (Elt F) X11)) _ _ (by decide) (hw _ _)).trans ?_
    show _ = tabN (at2 B) (at2 M) (at2 (arg11.view.read (Elt F) X11)) (40 + 1 * _) (256 + 1 * _)
    rw [Nat.one_mul, Nat.one_mul]; rfl
  · intro x
    change S8x128.Idx at x
    idx_vars x
    refine (tabA_apply 40 128 slices_S128x448_o40_128_S8x128 B M (arg11.view.readAt (Elt F) (⟨![163, 0], S8x128.size, ![4, 1], inb_S512x128_S8x128_163_0_s_4_1⟩ : LoadRect S512x128) X11) (at2 (arg11.view.read (Elt F) X11)) _ _ (by decide) (hw _ _)).trans ?_
    show _ = tabN (at2 B) (at2 M) (at2 (arg11.view.read (Elt F) X11)) (40 + 1 * _) (128 + 1 * _)
    rw [Nat.one_mul, Nat.one_mul]; rfl
  · intro x
    change S8x128.Idx at x
    idx_vars x
    refine (tabA_apply 40 0 slices_S128x448_o40_0_S8x128 B M (arg11.view.readAt (Elt F) (⟨![163, 0], S8x128.size, ![4, 1], inb_S512x128_S8x128_163_0_s_4_1⟩ : LoadRect S512x128) X11) (at2 (arg11.view.read (Elt F) X11)) _ _ (by decide) (hw _ _)).trans ?_
    show _ = tabN (at2 B) (at2 M) (at2 (arg11.view.read (Elt F) X11)) (40 + 1 * _) (0 + 1 * _)
    rw [Nat.one_mul, Nat.one_mul]; rfl

/-- The stores of these rows cover them. -/
theorem tableRow5_cover (B M : IVec S128x448 32) (arg11 : Memref sig .tc .vmem S512x128 .i32) (X11 : BufTy.Contents (Elt F) arg11.view.ty) (y : S128x512.Idx) (h0 : 40 ≤ (y 0).val) (h1 : (y 0).val < 48) (h2 : (y 1).val < 448) : ∃ p ∈ tableRow5 B M arg11 X11, y ∈ p.1.set := by
  unfold tableRow5
  by_cases c3 : 384 ≤ (y 1).val
  · refine ⟨_, List.mem_cons_self, ?_⟩
    show y ∈ (Rect.unit (s := S128x512) ![40, 384] S8x64.size inb_S128x512_S8x64_40_384).set
    rw [Rect.mem_set_unit]
    intro a
    match a with
    | ⟨0, _⟩ => exact ⟨show 40 ≤ (y 0).val by omega, show (y 0).val < 40 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![40, 256] S8x128.size inb_S128x512_S8x128_40_256).set
    rw [Rect.mem_set_unit]
    intro a
    match a with
    | ⟨0, _⟩ => exact ⟨show 40 ≤ (y 0).val by omega, show (y 0).val < 40 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![40, 128] S8x128.size inb_S128x512_S8x128_40_128).set
    rw [Rect.mem_set_unit]
    intro a
    match a with
    | ⟨0, _⟩ => exact ⟨show 40 ≤ (y 0).val by omega, show (y 0).val < 40 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![40, 0] S8x128.size inb_S128x512_S8x128_40_0).set
    rw [Rect.mem_set_unit]
    intro a
    match a with
    | ⟨0, _⟩ => exact ⟨show 40 ≤ (y 0).val by omega, show (y 0).val < 40 + 8 by omega⟩
    | ⟨1, _⟩ => exact ⟨show 0 ≤ (y 1).val by omega, show (y 1).val < 0 + 128 by omega⟩
  omega

/-- The stores of rows 48 to 55 of the table. -/
def tableRow6 (B M : IVec S128x448 32) (arg11 : Memref sig .tc .vmem S512x128 .i32) (X11 : BufTy.Contents (Elt F) arg11.view.ty) : List (View.Piece (Elt F) S128x512 .i32) :=
  [⟨Rect.unit (s := S128x512) ![48, 384] S8x64.size inb_S128x512_S8x64_48_384, tabB 48 384 slices_S128x448_o48_384_S8x64 B M (arg11.view.readAt (Elt F) (⟨![195, 0], S8x128.size, ![4, 1], inb_S512x128_S8x128_195_0_s_4_1⟩ : LoadRect S512x128) X11)⟩,
    ⟨Rect.unit (s := S128x512) ![48, 256] S8x128.size inb_S128x512_S8x128_48_256, tabA 48 256 slices_S128x448_o48_256_S8x128 B M (arg11.view.readAt (Elt F) (⟨![195, 0], S8x128.size, ![4, 1], inb_S512x128_S8x128_195_0_s_4_1⟩ : LoadRect S512x128) X11)⟩,
    ⟨Rect.unit (s := S128x512) ![48, 128] S8x128.size inb_S128x512_S8x128_48_128, tabA 48 128 slices_S128x448_o48_128_S8x128 B M (arg11.view.readAt (Elt F) (⟨![195, 0], S8x128.size, ![4, 1], inb_S512x128_S8x128_195_0_s_4_1⟩ : LoadRect S512x128) X11)⟩,
    ⟨Rect.unit (s := S128x512) ![48, 0] S8x128.size inb_S128x512_S8x128_48_0, tabA 48 0 slices_S128x448_o48_0_S8x128 B M (arg11.view.readAt (Elt F) (⟨![195, 0], S8x128.size, ![4, 1], inb_S512x128_S8x128_195_0_s_4_1⟩ : LoadRect S512x128) X11)⟩]

/-- Every store of these rows writes the table word of its entry. -/
theorem tableRow6_good (B M : IVec S128x448 32) (arg11 : Memref sig .tc .vmem S512x128 .i32) (X11 : BufTy.Contents (Elt F) arg11.view.ty) : ∀ p ∈ tableRow6 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![195, 0], S8x128.size, ![4, 1], inb_S512x128_S8x128_195_0_s_4_1⟩ : LoadRect S512x128) X11) (ValueIdx.ix2 r c) = at2 (arg11.view.read (Elt F) X11) (4 * (48 + r.val) + 3) c.val := by
    intro r c
    refine (readAt_at2_fourth arg11.view X11 (⟨![195, 0], S8x128.size, ![4, 1], inb_S512x128_S8x128_195_0_s_4_1⟩ : LoadRect S512x128) 195 rfl rfl (ValueIdx.ix2 r c)).trans ?_
    exact congrArg (fun n => at2 (arg11.view.read (Elt F) X11) n c.val) (show 195 + 4 * r.val = 4 * (48 + r.val) + 3 by omega)
  intro p hp
  unfold tableRow6 at hp
  fin_cases hp
  · intro x
    change S8x64.Idx at x
    idx_vars x
    refine (tabB_apply 48 384 slices_S128x448_o48_384_S8x64 B M (arg11.view.readAt (Elt F) (⟨![195, 0], S8x128.size, ![4, 1], inb_S512x128_S8x128_195_0_s_4_1⟩ : LoadRect S512x128) X11) (at2 (arg11.view.read (Elt F) X11)) _ _ (by decide) (hw _ _)).trans ?_
    show _ = tabN (at2 B) (at2 M) (at2 (arg11.view.read (Elt F) X11)) (48 + 1 * _) (384 + 1 * _)
    rw [Nat.one_mul, Nat.one_mul]; rfl
  · intro x
    change S8x128.Idx at x
    idx_vars x
    refine (tabA_apply 48 256 slices_S128x448_o48_256_S8x128 B M (arg11.view.readAt (Elt F) (⟨![195, 0], S8x128.size, ![4, 1], inb_S512x128_S8x128_195_0_s_4_1⟩ : LoadRect S512x128) X11) (at2 (arg11.view.read (Elt F) X11)) _ _ (by decide) (hw _ _)).trans ?_
    show _ = tabN (at2 B) (at2 M) (at2 (arg11.view.read (Elt F) X11)) (48 + 1 * _) (256 + 1 * _)
    rw [Nat.one_mul, Nat.one_mul]; rfl
  · intro x
    change S8x128.Idx at x
    idx_vars x
    refine (tabA_apply 48 128 slices_S128x448_o48_128_S8x128 B M (arg11.view.readAt (Elt F) (⟨![195, 0], S8x128.size, ![4, 1], inb_S512x128_S8x128_195_0_s_4_1⟩ : LoadRect S512x128) X11) (at2 (arg11.view.read (Elt F) X11)) _ _ (by decide) (hw _ _)).trans ?_
    show _ = tabN (at2 B) (at2 M) (at2 (arg11.view.read (Elt F) X11)) (48 + 1 * _) (128 + 1 * _)
    rw [Nat.one_mul, Nat.one_mul]; rfl
  · intro x
    change S8x128.Idx at x
    idx_vars x
    refine (tabA_apply 48 0 slices_S128x448_o48_0_S8x128 B M (arg11.view.readAt (Elt F) (⟨![195, 0], S8x128.size, ![4, 1], inb_S512x128_S8x128_195_0_s_4_1⟩ : LoadRect S512x128) X11) (at2 (arg11.view.read (Elt F) X11)) _ _ (by decide) (hw _ _)).trans ?_
    show _ = tabN (at2 B) (at2 M) (at2 (arg11.view.read (Elt F) X11)) (48 + 1 * _) (0 + 1 * _)
    rw [Nat.one_mul, Nat.one_mul]; rfl

/-- The stores of these rows cover them. -/
theorem tableRow6_cover (B M : IVec S128x448 32) (arg11 : Memref sig .tc .vmem S512x128 .i32) (X11 : BufTy.Contents (Elt F) arg11.view.ty) (y : S128x512.Idx) (h0 : 48 ≤ (y 0).val) (h1 : (y 0).val < 56) (h2 : (y 1).val < 448) : ∃ p ∈ tableRow6 B M arg11 X11, y ∈ p.1.set := by
  unfold tableRow6
  by_cases c3 : 384 ≤ (y 1).val
  · refine ⟨_, List.mem_cons_self, ?_⟩
    show y ∈ (Rect.unit (s := S128x512) ![48, 384] S8x64.size inb_S128x512_S8x64_48_384).set
    rw [Rect.mem_set_unit]
    intro a
    match a with
    | ⟨0, _⟩ => exact ⟨show 48 ≤ (y 0).val by omega, show (y 0).val < 48 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![48, 256] S8x128.size inb_S128x512_S8x128_48_256).set
    rw [Rect.mem_set_unit]
    intro a
    match a with
    | ⟨0, _⟩ => exact ⟨show 48 ≤ (y 0).val by omega, show (y 0).val < 48 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![48, 128] S8x128.size inb_S128x512_S8x128_48_128).set
    rw [Rect.mem_set_unit]
    intro a
    match a with
    | ⟨0, _⟩ => exact ⟨show 48 ≤ (y 0).val by omega, show (y 0).val < 48 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![48, 0] S8x128.size inb_S128x512_S8x128_48_0).set
    rw [Rect.mem_set_unit]
    intro a
    match a with
    | ⟨0, _⟩ => exact ⟨show 48 ≤ (y 0).val by omega, show (y 0).val < 48 + 8 by omega⟩
    | ⟨1, _⟩ => exact ⟨show 0 ≤ (y 1).val by omega, show (y 1).val < 0 + 128 by omega⟩
  omega

/-- The stores of rows 56 to 63 of the table. -/
def tableRow7 (B M : IVec S128x448 32) (arg11 : Memref sig .tc .vmem S512x128 .i32) (X11 : BufTy.Contents (Elt F) arg11.view.ty) : List (View.Piece (Elt F) S128x512 .i32) :=
  [⟨Rect.unit (s := S128x512) ![56, 384] S8x64.size inb_S128x512_S8x64_56_384, tabB 56 384 slices_S128x448_o56_384_S8x64 B M (arg11.view.readAt (Elt F) (⟨![227, 0], S8x128.size, ![4, 1], inb_S512x128_S8x128_227_0_s_4_1⟩ : LoadRect S512x128) X11)⟩,
    ⟨Rect.unit (s := S128x512) ![56, 256] S8x128.size inb_S128x512_S8x128_56_256, tabA 56 256 slices_S128x448_o56_256_S8x128 B M (arg11.view.readAt (Elt F) (⟨![227, 0], S8x128.size, ![4, 1], inb_S512x128_S8x128_227_0_s_4_1⟩ : LoadRect S512x128) X11)⟩,
    ⟨Rect.unit (s := S128x512) ![56, 128] S8x128.size inb_S128x512_S8x128_56_128, tabA 56 128 slices_S128x448_o56_128_S8x128 B M (arg11.view.readAt (Elt F) (⟨![227, 0], S8x128.size, ![4, 1], inb_S512x128_S8x128_227_0_s_4_1⟩ : LoadRect S512x128) X11)⟩,
    ⟨Rect.unit (s := S128x512) ![56, 0] S8x128.size inb_S128x512_S8x128_56_0, tabA 56 0 slices_S128x448_o56_0_S8x128 B M (arg11.view.readAt (Elt F) (⟨![227, 0], S8x128.size, ![4, 1], inb_S512x128_S8x128_227_0_s_4_1⟩ : LoadRect S512x128) X11)⟩]

/-- Every store of these rows writes the table word of its entry. -/
theorem tableRow7_good (B M : IVec S128x448 32) (arg11 : Memref sig .tc .vmem S512x128 .i32) (X11 : BufTy.Contents (Elt F) arg11.view.ty) : ∀ p ∈ tableRow7 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![227, 0], S8x128.size, ![4, 1], inb_S512x128_S8x128_227_0_s_4_1⟩ : LoadRect S512x128) X11) (ValueIdx.ix2 r c) = at2 (arg11.view.read (Elt F) X11) (4 * (56 + r.val) + 3) c.val := by
    intro r c
    refine (readAt_at2_fourth arg11.view X11 (⟨![227, 0], S8x128.size, ![4, 1], inb_S512x128_S8x128_227_0_s_4_1⟩ : LoadRect S512x128) 227 rfl rfl (ValueIdx.ix2 r c)).trans ?_
    exact congrArg (fun n => at2 (arg11.view.read (Elt F) X11) n c.val) (show 227 + 4 * r.val = 4 * (56 + r.val) + 3 by omega)
  intro p hp
  unfold tableRow7 at hp
  fin_cases hp
  · intro x
    change S8x64.Idx at x
    idx_vars x
    refine (tabB_apply 56 384 slices_S128x448_o56_384_S8x64 B M (arg11.view.readAt (Elt F) (⟨![227, 0], S8x128.size, ![4, 1], inb_S512x128_S8x128_227_0_s_4_1⟩ : LoadRect S512x128) X11) (at2 (arg11.view.read (Elt F) X11)) _ _ (by decide) (hw _ _)).trans ?_
    show _ = tabN (at2 B) (at2 M) (at2 (arg11.view.read (Elt F) X11)) (56 + 1 * _) (384 + 1 * _)
    rw [Nat.one_mul, Nat.one_mul]; rfl
  · intro x
    change S8x128.Idx at x
    idx_vars x
    refine (tabA_apply 56 256 slices_S128x448_o56_256_S8x128 B M (arg11.view.readAt (Elt F) (⟨![227, 0], S8x128.size, ![4, 1], inb_S512x128_S8x128_227_0_s_4_1⟩ : LoadRect S512x128) X11) (at2 (arg11.view.read (Elt F) X11)) _ _ (by decide) (hw _ _)).trans ?_
    show _ = tabN (at2 B) (at2 M) (at2 (arg11.view.read (Elt F) X11)) (56 + 1 * _) (256 + 1 * _)
    rw [Nat.one_mul, Nat.one_mul]; rfl
  · intro x
    change S8x128.Idx at x
    idx_vars x
    refine (tabA_apply 56 128 slices_S128x448_o56_128_S8x128 B M (arg11.view.readAt (Elt F) (⟨![227, 0], S8x128.size, ![4, 1], inb_S512x128_S8x128_227_0_s_4_1⟩ : LoadRect S512x128) X11) (at2 (arg11.view.read (Elt F) X11)) _ _ (by decide) (hw _ _)).trans ?_
    show _ = tabN (at2 B) (at2 M) (at2 (arg11.view.read (Elt F) X11)) (56 + 1 * _) (128 + 1 * _)
    rw [Nat.one_mul, Nat.one_mul]; rfl
  · intro x
    change S8x128.Idx at x
    idx_vars x
    refine (tabA_apply 56 0 slices_S128x448_o56_0_S8x128 B M (arg11.view.readAt (Elt F) (⟨![227, 0], S8x128.size, ![4, 1], inb_S512x128_S8x128_227_0_s_4_1⟩ : LoadRect S512x128) X11) (at2 (arg11.view.read (Elt F) X11)) _ _ (by decide) (hw _ _)).trans ?_
    show _ = tabN (at2 B) (at2 M) (at2 (arg11.view.read (Elt F) X11)) (56 + 1 * _) (0 + 1 * _)
    rw [Nat.one_mul, Nat.one_mul]; rfl

/-- The stores of these rows cover them. -/
theorem tableRow7_cover (B M : IVec S128x448 32) (arg11 : Memref sig .tc .vmem S512x128 .i32) (X11 : BufTy.Contents (Elt F) arg11.view.ty) (y : S128x512.Idx) (h0 : 56 ≤ (y 0).val) (h1 : (y 0).val < 64) (h2 : (y 1).val < 448) : ∃ p ∈ tableRow7 B M arg11 X11, y ∈ p.1.set := by
  unfold tableRow7
  by_cases c3 : 384 ≤ (y 1).val
  · refine ⟨_, List.mem_cons_self, ?_⟩
    show y ∈ (Rect.unit (s := S128x512) ![56, 384] S8x64.size inb_S128x512_S8x64_56_384).set
    rw [Rect.mem_set_unit]
    intro a
    match a with
    | ⟨0, _⟩ => exact ⟨show 56 ≤ (y 0).val by omega, show (y 0).val < 56 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![56, 256] S8x128.size inb_S128x512_S8x128_56_256).set
    rw [Rect.mem_set_unit]
    intro a
    match a with
    | ⟨0, _⟩ => exact ⟨show 56 ≤ (y 0).val by omega, show (y 0).val < 56 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![56, 128] S8x128.size inb_S128x512_S8x128_56_128).set
    rw [Rect.mem_set_unit]
    intro a
    match a with
    | ⟨0, _⟩ => exact ⟨show 56 ≤ (y 0).val by omega, show (y 0).val < 56 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![56, 0] S8x128.size inb_S128x512_S8x128_56_0).set
    rw [Rect.mem_set_unit]
    intro a
    match a with
    | ⟨0, _⟩ => exact ⟨show 56 ≤ (y 0).val by omega, show (y 0).val < 56 + 8 by omega⟩
    | ⟨1, _⟩ => exact ⟨show 0 ≤ (y 1).val by omega, show (y 1).val < 0 + 128 by omega⟩
  omega

/-- The stores of rows 64 to 71 of the table. -/
def tableRow8 (B M : IVec S128x448 32) (arg11 : Memref sig .tc .vmem S512x128 .i32) (X11 : BufTy.Contents (Elt F) arg11.view.ty) : List (View.Piece (Elt F) S128x512 .i32) :=
  [⟨Rect.unit (s := S128x512) ![64, 384] S8x64.size inb_S128x512_S8x64_64_384, tabB 64 384 slices_S128x448_o64_384_S8x64 B M (arg11.view.readAt (Elt F) (⟨![259, 0], S8x128.size, ![4, 1], inb_S512x128_S8x128_259_0_s_4_1⟩ : LoadRect S512x128) X11)⟩,
    ⟨Rect.unit (s := S128x512) ![64, 256] S8x128.size inb_S128x512_S8x128_64_256, tabA 64 256 slices_S128x448_o64_256_S8x128 B M (arg11.view.readAt (Elt F) (⟨![259, 0], S8x128.size, ![4, 1], inb_S512x128_S8x128_259_0_s_4_1⟩ : LoadRect S512x128) X11)⟩,
    ⟨Rect.unit (s := S128x512) ![64, 128] S8x128.size inb_S128x512_S8x128_64_128, tabA 64 128 slices_S128x448_o64_128_S8x128 B M (arg11.view.readAt (Elt F) (⟨![259, 0], S8x128.size, ![4, 1], inb_S512x128_S8x128_259_0_s_4_1⟩ : LoadRect S512x128) X11)⟩,
    ⟨Rect.unit (s := S128x512) ![64, 0] S8x128.size inb_S128x512_S8x128_64_0, tabA 64 0 slices_S128x448_o64_0_S8x128 B M (arg11.view.readAt (Elt F) (⟨![259, 0], S8x128.size, ![4, 1], inb_S512x128_S8x128_259_0_s_4_1⟩ : LoadRect S512x128) X11)⟩]

/-- Every store of these rows writes the table word of its entry. -/
theorem tableRow8_good (B M : IVec S128x448 32) (arg11 : Memref sig .tc .vmem S512x128 .i32) (X11 : BufTy.Contents (Elt F) arg11.view.ty) : ∀ p ∈ tableRow8 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![259, 0], S8x128.size, ![4, 1], inb_S512x128_S8x128_259_0_s_4_1⟩ : LoadRect S512x128) X11) (ValueIdx.ix2 r c) = at2 (arg11.view.read (Elt F) X11) (4 * (64 + r.val) + 3) c.val := by
    intro r c
    refine (readAt_at2_fourth arg11.view X11 (⟨![259, 0], S8x128.size, ![4, 1], inb_S512x128_S8x128_259_0_s_4_1⟩ : LoadRect S512x128) 259 rfl rfl (ValueIdx.ix2 r c)).trans ?_
    exact congrArg (fun n => at2 (arg11.view.read (Elt F) X11) n c.val) (show 259 + 4 * r.val = 4 * (64 + r.val) + 3 by omega)
  intro p hp
  unfold tableRow8 at hp
  fin_cases hp
  · intro x
    change S8x64.Idx at x
    idx_vars x
    refine (tabB_apply 64 384 slices_S128x448_o64_384_S8x64 B M (arg11.view.readAt (Elt F) (⟨![259, 0], S8x128.size, ![4, 1], inb_S512x128_S8x128_259_0_s_4_1⟩ : LoadRect S512x128) X11) (at2 (arg11.view.read (Elt F) X11)) _ _ (by decide) (hw _ _)).trans ?_
    show _ = tabN (at2 B) (at2 M) (at2 (arg11.view.read (Elt F) X11)) (64 + 1 * _) (384 + 1 * _)
    rw [Nat.one_mul, Nat.one_mul]; rfl
  · intro x
    change S8x128.Idx at x
    idx_vars x
    refine (tabA_apply 64 256 slices_S128x448_o64_256_S8x128 B M (arg11.view.readAt (Elt F) (⟨![259, 0], S8x128.size, ![4, 1], inb_S512x128_S8x128_259_0_s_4_1⟩ : LoadRect S512x128) X11) (at2 (arg11.view.read (Elt F) X11)) _ _ (by decide) (hw _ _)).trans ?_
    show _ = tabN (at2 B) (at2 M) (at2 (arg11.view.read (Elt F) X11)) (64 + 1 * _) (256 + 1 * _)
    rw [Nat.one_mul, Nat.one_mul]; rfl
  · intro x
    change S8x128.Idx at x
    idx_vars x
    refine (tabA_apply 64 128 slices_S128x448_o64_128_S8x128 B M (arg11.view.readAt (Elt F) (⟨![259, 0], S8x128.size, ![4, 1], inb_S512x128_S8x128_259_0_s_4_1⟩ : LoadRect S512x128) X11) (at2 (arg11.view.read (Elt F) X11)) _ _ (by decide) (hw _ _)).trans ?_
    show _ = tabN (at2 B) (at2 M) (at2 (arg11.view.read (Elt F) X11)) (64 + 1 * _) (128 + 1 * _)
    rw [Nat.one_mul, Nat.one_mul]; rfl
  · intro x
    change S8x128.Idx at x
    idx_vars x
    refine (tabA_apply 64 0 slices_S128x448_o64_0_S8x128 B M (arg11.view.readAt (Elt F) (⟨![259, 0], S8x128.size, ![4, 1], inb_S512x128_S8x128_259_0_s_4_1⟩ : LoadRect S512x128) X11) (at2 (arg11.view.read (Elt F) X11)) _ _ (by decide) (hw _ _)).trans ?_
    show _ = tabN (at2 B) (at2 M) (at2 (arg11.view.read (Elt F) X11)) (64 + 1 * _) (0 + 1 * _)
    rw [Nat.one_mul, Nat.one_mul]; rfl

/-- The stores of these rows cover them. -/
theorem tableRow8_cover (B M : IVec S128x448 32) (arg11 : Memref sig .tc .vmem S512x128 .i32) (X11 : BufTy.Contents (Elt F) arg11.view.ty) (y : S128x512.Idx) (h0 : 64 ≤ (y 0).val) (h1 : (y 0).val < 72) (h2 : (y 1).val < 448) : ∃ p ∈ tableRow8 B M arg11 X11, y ∈ p.1.set := by
  unfold tableRow8
  by_cases c3 : 384 ≤ (y 1).val
  · refine ⟨_, List.mem_cons_self, ?_⟩
    show y ∈ (Rect.unit (s := S128x512) ![64, 384] S8x64.size inb_S128x512_S8x64_64_384).set
    rw [Rect.mem_set_unit]
    intro a
    match a with
    | ⟨0, _⟩ => exact ⟨show 64 ≤ (y 0).val by omega, show (y 0).val < 64 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![64, 256] S8x128.size inb_S128x512_S8x128_64_256).set
    rw [Rect.mem_set_unit]
    intro a
    match a with
    | ⟨0, _⟩ => exact ⟨show 64 ≤ (y 0).val by omega, show (y 0).val < 64 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![64, 128] S8x128.size inb_S128x512_S8x128_64_128).set
    rw [Rect.mem_set_unit]
    intro a
    match a with
    | ⟨0, _⟩ => exact ⟨show 64 ≤ (y 0).val by omega, show (y 0).val < 64 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![64, 0] S8x128.size inb_S128x512_S8x128_64_0).set
    rw [Rect.mem_set_unit]
    intro a
    match a with
    | ⟨0, _⟩ => exact ⟨show 64 ≤ (y 0).val by omega, show (y 0).val < 64 + 8 by omega⟩
    | ⟨1, _⟩ => exact ⟨show 0 ≤ (y 1).val by omega, show (y 1).val < 0 + 128 by omega⟩
  omega

/-- The stores of rows 72 to 79 of the table. -/
def tableRow9 (B M : IVec S128x448 32) (arg11 : Memref sig .tc .vmem S512x128 .i32) (X11 : BufTy.Contents (Elt F) arg11.view.ty) : List (View.Piece (Elt F) S128x512 .i32) :=
  [⟨Rect.unit (s := S128x512) ![72, 384] S8x64.size inb_S128x512_S8x64_72_384, tabB 72 384 slices_S128x448_o72_384_S8x64 B M (arg11.view.readAt (Elt F) (⟨![291, 0], S8x128.size, ![4, 1], inb_S512x128_S8x128_291_0_s_4_1⟩ : LoadRect S512x128) X11)⟩,
    ⟨Rect.unit (s := S128x512) ![72, 256] S8x128.size inb_S128x512_S8x128_72_256, tabA 72 256 slices_S128x448_o72_256_S8x128 B M (arg11.view.readAt (Elt F) (⟨![291, 0], S8x128.size, ![4, 1], inb_S512x128_S8x128_291_0_s_4_1⟩ : LoadRect S512x128) X11)⟩,
    ⟨Rect.unit (s := S128x512) ![72, 128] S8x128.size inb_S128x512_S8x128_72_128, tabA 72 128 slices_S128x448_o72_128_S8x128 B M (arg11.view.readAt (Elt F) (⟨![291, 0], S8x128.size, ![4, 1], inb_S512x128_S8x128_291_0_s_4_1⟩ : LoadRect S512x128) X11)⟩,
    ⟨Rect.unit (s := S128x512) ![72, 0] S8x128.size inb_S128x512_S8x128_72_0, tabA 72 0 slices_S128x448_o72_0_S8x128 B M (arg11.view.readAt (Elt F) (⟨![291, 0], S8x128.size, ![4, 1], inb_S512x128_S8x128_291_0_s_4_1⟩ : LoadRect S512x128) X11)⟩]

/-- Every store of these rows writes the table word of its entry. -/
theorem tableRow9_good (B M : IVec S128x448 32) (arg11 : Memref sig .tc .vmem S512x128 .i32) (X11 : BufTy.Contents (Elt F) arg11.view.ty) : ∀ p ∈ tableRow9 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![291, 0], S8x128.size, ![4, 1], inb_S512x128_S8x128_291_0_s_4_1⟩ : LoadRect S512x128) X11) (ValueIdx.ix2 r c) = at2 (arg11.view.read (Elt F) X11) (4 * (72 + r.val) + 3) c.val := by
    intro r c
    refine (readAt_at2_fourth arg11.view X11 (⟨![291, 0], S8x128.size, ![4, 1], inb_S512x128_S8x128_291_0_s_4_1⟩ : LoadRect S512x128) 291 rfl rfl (ValueIdx.ix2 r c)).trans ?_
    exact congrArg (fun n => at2 (arg11.view.read (Elt F) X11) n c.val) (show 291 + 4 * r.val = 4 * (72 + r.val) + 3 by omega)
  intro p hp
  unfold tableRow9 at hp
  fin_cases hp
  · intro x
    change S8x64.Idx at x
    idx_vars x
    refine (tabB_apply 72 384 slices_S128x448_o72_384_S8x64 B M (arg11.view.readAt (Elt F) (⟨![291, 0], S8x128.size, ![4, 1], inb_S512x128_S8x128_291_0_s_4_1⟩ : LoadRect S512x128) X11) (at2 (arg11.view.read (Elt F) X11)) _ _ (by decide) (hw _ _)).trans ?_
    show _ = tabN (at2 B) (at2 M) (at2 (arg11.view.read (Elt F) X11)) (72 + 1 * _) (384 + 1 * _)
    rw [Nat.one_mul, Nat.one_mul]; rfl
  · intro x
    change S8x128.Idx at x
    idx_vars x
    refine (tabA_apply 72 256 slices_S128x448_o72_256_S8x128 B M (arg11.view.readAt (Elt F) (⟨![291, 0], S8x128.size, ![4, 1], inb_S512x128_S8x128_291_0_s_4_1⟩ : LoadRect S512x128) X11) (at2 (arg11.view.read (Elt F) X11)) _ _ (by decide) (hw _ _)).trans ?_
    show _ = tabN (at2 B) (at2 M) (at2 (arg11.view.read (Elt F) X11)) (72 + 1 * _) (256 + 1 * _)
    rw [Nat.one_mul, Nat.one_mul]; rfl
  · intro x
    change S8x128.Idx at x
    idx_vars x
    refine (tabA_apply 72 128 slices_S128x448_o72_128_S8x128 B M (arg11.view.readAt (Elt F) (⟨![291, 0], S8x128.size, ![4, 1], inb_S512x128_S8x128_291_0_s_4_1⟩ : LoadRect S512x128) X11) (at2 (arg11.view.read (Elt F) X11)) _ _ (by decide) (hw _ _)).trans ?_
    show _ = tabN (at2 B) (at2 M) (at2 (arg11.view.read (Elt F) X11)) (72 + 1 * _) (128 + 1 * _)
    rw [Nat.one_mul, Nat.one_mul]; rfl
  · intro x
    change S8x128.Idx at x
    idx_vars x
    refine (tabA_apply 72 0 slices_S128x448_o72_0_S8x128 B M (arg11.view.readAt (Elt F) (⟨![291, 0], S8x128.size, ![4, 1], inb_S512x128_S8x128_291_0_s_4_1⟩ : LoadRect S512x128) X11) (at2 (arg11.view.read (Elt F) X11)) _ _ (by decide) (hw _ _)).trans ?_
    show _ = tabN (at2 B) (at2 M) (at2 (arg11.view.read (Elt F) X11)) (72 + 1 * _) (0 + 1 * _)
    rw [Nat.one_mul, Nat.one_mul]; rfl

/-- The stores of these rows cover them. -/
theorem tableRow9_cover (B M : IVec S128x448 32) (arg11 : Memref sig .tc .vmem S512x128 .i32) (X11 : BufTy.Contents (Elt F) arg11.view.ty) (y : S128x512.Idx) (h0 : 72 ≤ (y 0).val) (h1 : (y 0).val < 80) (h2 : (y 1).val < 448) : ∃ p ∈ tableRow9 B M arg11 X11, y ∈ p.1.set := by
  unfold tableRow9
  by_cases c3 : 384 ≤ (y 1).val
  · refine ⟨_, List.mem_cons_self, ?_⟩
    show y ∈ (Rect.unit (s := S128x512) ![72, 384] S8x64.size inb_S128x512_S8x64_72_384).set
    rw [Rect.mem_set_unit]
    intro a
    match a with
    | ⟨0, _⟩ => exact ⟨show 72 ≤ (y 0).val by omega, show (y 0).val < 72 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![72, 256] S8x128.size inb_S128x512_S8x128_72_256).set
    rw [Rect.mem_set_unit]
    intro a
    match a with
    | ⟨0, _⟩ => exact ⟨show 72 ≤ (y 0).val by omega, show (y 0).val < 72 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![72, 128] S8x128.size inb_S128x512_S8x128_72_128).set
    rw [Rect.mem_set_unit]
    intro a
    match a with
    | ⟨0, _⟩ => exact ⟨show 72 ≤ (y 0).val by omega, show (y 0).val < 72 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![72, 0] S8x128.size inb_S128x512_S8x128_72_0).set
    rw [Rect.mem_set_unit]
    intro a
    match a with
    | ⟨0, _⟩ => exact ⟨show 72 ≤ (y 0).val by omega, show (y 0).val < 72 + 8 by omega⟩
    | ⟨1, _⟩ => exact ⟨show 0 ≤ (y 1).val by omega, show (y 1).val < 0 + 128 by omega⟩
  omega

/-- The stores of rows 80 to 87 of the table. -/
def tableRow10 (B M : IVec S128x448 32) (arg11 : Memref sig .tc .vmem S512x128 .i32) (X11 : BufTy.Contents (Elt F) arg11.view.ty) : List (View.Piece (Elt F) S128x512 .i32) :=
  [⟨Rect.unit (s := S128x512) ![80, 384] S8x64.size inb_S128x512_S8x64_80_384, tabB 80 384 slices_S128x448_o80_384_S8x64 B M (arg11.view.readAt (Elt F) (⟨![323, 0], S8x128.size, ![4, 1], inb_S512x128_S8x128_323_0_s_4_1⟩ : LoadRect S512x128) X11)⟩,
    ⟨Rect.unit (s := S128x512) ![80, 256] S8x128.size inb_S128x512_S8x128_80_256, tabA 80 256 slices_S128x448_o80_256_S8x128 B M (arg11.view.readAt (Elt F) (⟨![323, 0], S8x128.size, ![4, 1], inb_S512x128_S8x128_323_0_s_4_1⟩ : LoadRect S512x128) X11)⟩,
    ⟨Rect.unit (s := S128x512) ![80, 128] S8x128.size inb_S128x512_S8x128_80_128, tabA 80 128 slices_S128x448_o80_128_S8x128 B M (arg11.view.readAt (Elt F) (⟨![323, 0], S8x128.size, ![4, 1], inb_S512x128_S8x128_323_0_s_4_1⟩ : LoadRect S512x128) X11)⟩,
    ⟨Rect.unit (s := S128x512) ![80, 0] S8x128.size inb_S128x512_S8x128_80_0, tabA 80 0 slices_S128x448_o80_0_S8x128 B M (arg11.view.readAt (Elt F) (⟨![323, 0], S8x128.size, ![4, 1], inb_S512x128_S8x128_323_0_s_4_1⟩ : LoadRect S512x128) X11)⟩]

/-- Every store of these rows writes the table word of its entry. -/
theorem tableRow10_good (B M : IVec S128x448 32) (arg11 : Memref sig .tc .vmem S512x128 .i32) (X11 : BufTy.Contents (Elt F) arg11.view.ty) : ∀ p ∈ tableRow10 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![323, 0], S8x128.size, ![4, 1], inb_S512x128_S8x128_323_0_s_4_1⟩ : LoadRect S512x128) X11) (ValueIdx.ix2 r c) = at2 (arg11.view.read (Elt F) X11) (4 * (80 + r.val) + 3) c.val := by
    intro r c
    refine (readAt_at2_fourth arg11.view X11 (⟨![323, 0], S8x128.size, ![4, 1], inb_S512x128_S8x128_323_0_s_4_1⟩ : LoadRect S512x128) 323 rfl rfl (ValueIdx.ix2 r c)).trans ?_
    exact congrArg (fun n => at2 (arg11.view.read (Elt F) X11) n c.val) (show 323 + 4 * r.val = 4 * (80 + r.val) + 3 by omega)
  intro p hp
  unfold tableRow10 at hp
  fin_cases hp
  · intro x
    change S8x64.Idx at x
    idx_vars x
    refine (tabB_apply 80 384 slices_S128x448_o80_384_S8x64 B M (arg11.view.readAt (Elt F) (⟨![323, 0], S8x128.size, ![4, 1], inb_S512x128_S8x128_323_0_s_4_1⟩ : LoadRect S512x128) X11) (at2 (arg11.view.read (Elt F) X11)) _ _ (by decide) (hw _ _)).trans ?_
    show _ = tabN (at2 B) (at2 M) (at2 (arg11.view.read (Elt F) X11)) (80 + 1 * _) (384 + 1 * _)
    rw [Nat.one_mul, Nat.one_mul]; rfl
  · intro x
    change S8x128.Idx at x
    idx_vars x
    refine (tabA_apply 80 256 slices_S128x448_o80_256_S8x128 B M (arg11.view.readAt (Elt F) (⟨![323, 0], S8x128.size, ![4, 1], inb_S512x128_S8x128_323_0_s_4_1⟩ : LoadRect S512x128) X11) (at2 (arg11.view.read (Elt F) X11)) _ _ (by decide) (hw _ _)).trans ?_
    show _ = tabN (at2 B) (at2 M) (at2 (arg11.view.read (Elt F) X11)) (80 + 1 * _) (256 + 1 * _)
    rw [Nat.one_mul, Nat.one_mul]; rfl
  · intro x
    change S8x128.Idx at x
    idx_vars x
    refine (tabA_apply 80 128 slices_S128x448_o80_128_S8x128 B M (arg11.view.readAt (Elt F) (⟨![323, 0], S8x128.size, ![4, 1], inb_S512x128_S8x128_323_0_s_4_1⟩ : LoadRect S512x128) X11) (at2 (arg11.view.read (Elt F) X11)) _ _ (by decide) (hw _ _)).trans ?_
    show _ = tabN (at2 B) (at2 M) (at2 (arg11.view.read (Elt F) X11)) (80 + 1 * _) (128 + 1 * _)
    rw [Nat.one_mul, Nat.one_mul]; rfl
  · intro x
    change S8x128.Idx at x
    idx_vars x
    refine (tabA_apply 80 0 slices_S128x448_o80_0_S8x128 B M (arg11.view.readAt (Elt F) (⟨![323, 0], S8x128.size, ![4, 1], inb_S512x128_S8x128_323_0_s_4_1⟩ : LoadRect S512x128) X11) (at2 (arg11.view.read (Elt F) X11)) _ _ (by decide) (hw _ _)).trans ?_
    show _ = tabN (at2 B) (at2 M) (at2 (arg11.view.read (Elt F) X11)) (80 + 1 * _) (0 + 1 * _)
    rw [Nat.one_mul, Nat.one_mul]; rfl

/-- The stores of these rows cover them. -/
theorem tableRow10_cover (B M : IVec S128x448 32) (arg11 : Memref sig .tc .vmem S512x128 .i32) (X11 : BufTy.Contents (Elt F) arg11.view.ty) (y : S128x512.Idx) (h0 : 80 ≤ (y 0).val) (h1 : (y 0).val < 88) (h2 : (y 1).val < 448) : ∃ p ∈ tableRow10 B M arg11 X11, y ∈ p.1.set := by
  unfold tableRow10
  by_cases c3 : 384 ≤ (y 1).val
  · refine ⟨_, List.mem_cons_self, ?_⟩
    show y ∈ (Rect.unit (s := S128x512) ![80, 384] S8x64.size inb_S128x512_S8x64_80_384).set
    rw [Rect.mem_set_unit]
    intro a
    match a with
    | ⟨0, _⟩ => exact ⟨show 80 ≤ (y 0).val by omega, show (y 0).val < 80 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![80, 256] S8x128.size inb_S128x512_S8x128_80_256).set
    rw [Rect.mem_set_unit]
    intro a
    match a with
    | ⟨0, _⟩ => exact ⟨show 80 ≤ (y 0).val by omega, show (y 0).val < 80 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![80, 128] S8x128.size inb_S128x512_S8x128_80_128).set
    rw [Rect.mem_set_unit]
    intro a
    match a with
    | ⟨0, _⟩ => exact ⟨show 80 ≤ (y 0).val by omega, show (y 0).val < 80 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![80, 0] S8x128.size inb_S128x512_S8x128_80_0).set
    rw [Rect.mem_set_unit]
    intro a
    match a with
    | ⟨0, _⟩ => exact ⟨show 80 ≤ (y 0).val by omega, show (y 0).val < 80 + 8 by omega⟩
    | ⟨1, _⟩ => exact ⟨show 0 ≤ (y 1).val by omega, show (y 1).val < 0 + 128 by omega⟩
  omega

/-- The stores of rows 88 to 95 of the table. -/
def tableRow11 (B M : IVec S128x448 32) (arg11 : Memref sig .tc .vmem S512x128 .i32) (X11 : BufTy.Contents (Elt F) arg11.view.ty) : List (View.Piece (Elt F) S128x512 .i32) :=
  [⟨Rect.unit (s := S128x512) ![88, 384] S8x64.size inb_S128x512_S8x64_88_384, tabB 88 384 slices_S128x448_o88_384_S8x64 B M (arg11.view.readAt (Elt F) (⟨![355, 0], S8x128.size, ![4, 1], inb_S512x128_S8x128_355_0_s_4_1⟩ : LoadRect S512x128) X11)⟩,
    ⟨Rect.unit (s := S128x512) ![88, 256] S8x128.size inb_S128x512_S8x128_88_256, tabA 88 256 slices_S128x448_o88_256_S8x128 B M (arg11.view.readAt (Elt F) (⟨![355, 0], S8x128.size, ![4, 1], inb_S512x128_S8x128_355_0_s_4_1⟩ : LoadRect S512x128) X11)⟩,
    ⟨Rect.unit (s := S128x512) ![88, 128] S8x128.size inb_S128x512_S8x128_88_128, tabA 88 128 slices_S128x448_o88_128_S8x128 B M (arg11.view.readAt (Elt F) (⟨![355, 0], S8x128.size, ![4, 1], inb_S512x128_S8x128_355_0_s_4_1⟩ : LoadRect S512x128) X11)⟩,
    ⟨Rect.unit (s := S128x512) ![88, 0] S8x128.size inb_S128x512_S8x128_88_0, tabA 88 0 slices_S128x448_o88_0_S8x128 B M (arg11.view.readAt (Elt F) (⟨![355, 0], S8x128.size, ![4, 1], inb_S512x128_S8x128_355_0_s_4_1⟩ : LoadRect S512x128) X11)⟩]

/-- Every store of these rows writes the table word of its entry. -/
theorem tableRow11_good (B M : IVec S128x448 32) (arg11 : Memref sig .tc .vmem S512x128 .i32) (X11 : BufTy.Contents (Elt F) arg11.view.ty) : ∀ p ∈ tableRow11 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![355, 0], S8x128.size, ![4, 1], inb_S512x128_S8x128_355_0_s_4_1⟩ : LoadRect S512x128) X11) (ValueIdx.ix2 r c) = at2 (arg11.view.read (Elt F) X11) (4 * (88 + r.val) + 3) c.val := by
    intro r c
    refine (readAt_at2_fourth arg11.view X11 (⟨![355, 0], S8x128.size, ![4, 1], inb_S512x128_S8x128_355_0_s_4_1⟩ : LoadRect S512x128) 355 rfl rfl (ValueIdx.ix2 r c)).trans ?_
    exact congrArg (fun n => at2 (arg11.view.read (Elt F) X11) n c.val) (show 355 + 4 * r.val = 4 * (88 + r.val) + 3 by omega)
  intro p hp
  unfold tableRow11 at hp
  fin_cases hp
  · intro x
    change S8x64.Idx at x
    idx_vars x
    refine (tabB_apply 88 384 slices_S128x448_o88_384_S8x64 B M (arg11.view.readAt (Elt F) (⟨![355, 0], S8x128.size, ![4, 1], inb_S512x128_S8x128_355_0_s_4_1⟩ : LoadRect S512x128) X11) (at2 (arg11.view.read (Elt F) X11)) _ _ (by decide) (hw _ _)).trans ?_
    show _ = tabN (at2 B) (at2 M) (at2 (arg11.view.read (Elt F) X11)) (88 + 1 * _) (384 + 1 * _)
    rw [Nat.one_mul, Nat.one_mul]; rfl
  · intro x
    change S8x128.Idx at x
    idx_vars x
    refine (tabA_apply 88 256 slices_S128x448_o88_256_S8x128 B M (arg11.view.readAt (Elt F) (⟨![355, 0], S8x128.size, ![4, 1], inb_S512x128_S8x128_355_0_s_4_1⟩ : LoadRect S512x128) X11) (at2 (arg11.view.read (Elt F) X11)) _ _ (by decide) (hw _ _)).trans ?_
    show _ = tabN (at2 B) (at2 M) (at2 (arg11.view.read (Elt F) X11)) (88 + 1 * _) (256 + 1 * _)
    rw [Nat.one_mul, Nat.one_mul]; rfl
  · intro x
    change S8x128.Idx at x
    idx_vars x
    refine (tabA_apply 88 128 slices_S128x448_o88_128_S8x128 B M (arg11.view.readAt (Elt F) (⟨![355, 0], S8x128.size, ![4, 1], inb_S512x128_S8x128_355_0_s_4_1⟩ : LoadRect S512x128) X11) (at2 (arg11.view.read (Elt F) X11)) _ _ (by decide) (hw _ _)).trans ?_
    show _ = tabN (at2 B) (at2 M) (at2 (arg11.view.read (Elt F) X11)) (88 + 1 * _) (128 + 1 * _)
    rw [Nat.one_mul, Nat.one_mul]; rfl
  · intro x
    change S8x128.Idx at x
    idx_vars x
    refine (tabA_apply 88 0 slices_S128x448_o88_0_S8x128 B M (arg11.view.readAt (Elt F) (⟨![355, 0], S8x128.size, ![4, 1], inb_S512x128_S8x128_355_0_s_4_1⟩ : LoadRect S512x128) X11) (at2 (arg11.view.read (Elt F) X11)) _ _ (by decide) (hw _ _)).trans ?_
    show _ = tabN (at2 B) (at2 M) (at2 (arg11.view.read (Elt F) X11)) (88 + 1 * _) (0 + 1 * _)
    rw [Nat.one_mul, Nat.one_mul]; rfl

/-- The stores of these rows cover them. -/
theorem tableRow11_cover (B M : IVec S128x448 32) (arg11 : Memref sig .tc .vmem S512x128 .i32) (X11 : BufTy.Contents (Elt F) arg11.view.ty) (y : S128x512.Idx) (h0 : 88 ≤ (y 0).val) (h1 : (y 0).val < 96) (h2 : (y 1).val < 448) : ∃ p ∈ tableRow11 B M arg11 X11, y ∈ p.1.set := by
  unfold tableRow11
  by_cases c3 : 384 ≤ (y 1).val
  · refine ⟨_, List.mem_cons_self, ?_⟩
    show y ∈ (Rect.unit (s := S128x512) ![88, 384] S8x64.size inb_S128x512_S8x64_88_384).set
    rw [Rect.mem_set_unit]
    intro a
    match a with
    | ⟨0, _⟩ => exact ⟨show 88 ≤ (y 0).val by omega, show (y 0).val < 88 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![88, 256] S8x128.size inb_S128x512_S8x128_88_256).set
    rw [Rect.mem_set_unit]
    intro a
    match a with
    | ⟨0, _⟩ => exact ⟨show 88 ≤ (y 0).val by omega, show (y 0).val < 88 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![88, 128] S8x128.size inb_S128x512_S8x128_88_128).set
    rw [Rect.mem_set_unit]
    intro a
    match a with
    | ⟨0, _⟩ => exact ⟨show 88 ≤ (y 0).val by omega, show (y 0).val < 88 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![88, 0] S8x128.size inb_S128x512_S8x128_88_0).set
    rw [Rect.mem_set_unit]
    intro a
    match a with
    | ⟨0, _⟩ => exact ⟨show 88 ≤ (y 0).val by omega, show (y 0).val < 88 + 8 by omega⟩
    | ⟨1, _⟩ => exact ⟨show 0 ≤ (y 1).val by omega, show (y 1).val < 0 + 128 by omega⟩
  omega

/-- The stores of rows 96 to 103 of the table. -/
def tableRow12 (B M : IVec S128x448 32) (arg11 : Memref sig .tc .vmem S512x128 .i32) (X11 : BufTy.Contents (Elt F) arg11.view.ty) : List (View.Piece (Elt F) S128x512 .i32) :=
  [⟨Rect.unit (s := S128x512) ![96, 384] S8x64.size inb_S128x512_S8x64_96_384, tabB 96 384 slices_S128x448_o96_384_S8x64 B M (arg11.view.readAt (Elt F) (⟨![387, 0], S8x128.size, ![4, 1], inb_S512x128_S8x128_387_0_s_4_1⟩ : LoadRect S512x128) X11)⟩,
    ⟨Rect.unit (s := S128x512) ![96, 256] S8x128.size inb_S128x512_S8x128_96_256, tabA 96 256 slices_S128x448_o96_256_S8x128 B M (arg11.view.readAt (Elt F) (⟨![387, 0], S8x128.size, ![4, 1], inb_S512x128_S8x128_387_0_s_4_1⟩ : LoadRect S512x128) X11)⟩,
    ⟨Rect.unit (s := S128x512) ![96, 128] S8x128.size inb_S128x512_S8x128_96_128, tabA 96 128 slices_S128x448_o96_128_S8x128 B M (arg11.view.readAt (Elt F) (⟨![387, 0], S8x128.size, ![4, 1], inb_S512x128_S8x128_387_0_s_4_1⟩ : LoadRect S512x128) X11)⟩,
    ⟨Rect.unit (s := S128x512) ![96, 0] S8x128.size inb_S128x512_S8x128_96_0, tabA 96 0 slices_S128x448_o96_0_S8x128 B M (arg11.view.readAt (Elt F) (⟨![387, 0], S8x128.size, ![4, 1], inb_S512x128_S8x128_387_0_s_4_1⟩ : LoadRect S512x128) X11)⟩]

/-- Every store of these rows writes the table word of its entry. -/
theorem tableRow12_good (B M : IVec S128x448 32) (arg11 : Memref sig .tc .vmem S512x128 .i32) (X11 : BufTy.Contents (Elt F) arg11.view.ty) : ∀ p ∈ tableRow12 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![387, 0], S8x128.size, ![4, 1], inb_S512x128_S8x128_387_0_s_4_1⟩ : LoadRect S512x128) X11) (ValueIdx.ix2 r c) = at2 (arg11.view.read (Elt F) X11) (4 * (96 + r.val) + 3) c.val := by
    intro r c
    refine (readAt_at2_fourth arg11.view X11 (⟨![387, 0], S8x128.size, ![4, 1], inb_S512x128_S8x128_387_0_s_4_1⟩ : LoadRect S512x128) 387 rfl rfl (ValueIdx.ix2 r c)).trans ?_
    exact congrArg (fun n => at2 (arg11.view.read (Elt F) X11) n c.val) (show 387 + 4 * r.val = 4 * (96 + r.val) + 3 by omega)
  intro p hp
  unfold tableRow12 at hp
  fin_cases hp
  · intro x
    change S8x64.Idx at x
    idx_vars x
    refine (tabB_apply 96 384 slices_S128x448_o96_384_S8x64 B M (arg11.view.readAt (Elt F) (⟨![387, 0], S8x128.size, ![4, 1], inb_S512x128_S8x128_387_0_s_4_1⟩ : LoadRect S512x128) X11) (at2 (arg11.view.read (Elt F) X11)) _ _ (by decide) (hw _ _)).trans ?_
    show _ = tabN (at2 B) (at2 M) (at2 (arg11.view.read (Elt F) X11)) (96 + 1 * _) (384 + 1 * _)
    rw [Nat.one_mul, Nat.one_mul]; rfl
  · intro x
    change S8x128.Idx at x
    idx_vars x
    refine (tabA_apply 96 256 slices_S128x448_o96_256_S8x128 B M (arg11.view.readAt (Elt F) (⟨![387, 0], S8x128.size, ![4, 1], inb_S512x128_S8x128_387_0_s_4_1⟩ : LoadRect S512x128) X11) (at2 (arg11.view.read (Elt F) X11)) _ _ (by decide) (hw _ _)).trans ?_
    show _ = tabN (at2 B) (at2 M) (at2 (arg11.view.read (Elt F) X11)) (96 + 1 * _) (256 + 1 * _)
    rw [Nat.one_mul, Nat.one_mul]; rfl
  · intro x
    change S8x128.Idx at x
    idx_vars x
    refine (tabA_apply 96 128 slices_S128x448_o96_128_S8x128 B M (arg11.view.readAt (Elt F) (⟨![387, 0], S8x128.size, ![4, 1], inb_S512x128_S8x128_387_0_s_4_1⟩ : LoadRect S512x128) X11) (at2 (arg11.view.read (Elt F) X11)) _ _ (by decide) (hw _ _)).trans ?_
    show _ = tabN (at2 B) (at2 M) (at2 (arg11.view.read (Elt F) X11)) (96 + 1 * _) (128 + 1 * _)
    rw [Nat.one_mul, Nat.one_mul]; rfl
  · intro x
    change S8x128.Idx at x
    idx_vars x
    refine (tabA_apply 96 0 slices_S128x448_o96_0_S8x128 B M (arg11.view.readAt (Elt F) (⟨![387, 0], S8x128.size, ![4, 1], inb_S512x128_S8x128_387_0_s_4_1⟩ : LoadRect S512x128) X11) (at2 (arg11.view.read (Elt F) X11)) _ _ (by decide) (hw _ _)).trans ?_
    show _ = tabN (at2 B) (at2 M) (at2 (arg11.view.read (Elt F) X11)) (96 + 1 * _) (0 + 1 * _)
    rw [Nat.one_mul, Nat.one_mul]; rfl

/-- The stores of these rows cover them. -/
theorem tableRow12_cover (B M : IVec S128x448 32) (arg11 : Memref sig .tc .vmem S512x128 .i32) (X11 : BufTy.Contents (Elt F) arg11.view.ty) (y : S128x512.Idx) (h0 : 96 ≤ (y 0).val) (h1 : (y 0).val < 104) (h2 : (y 1).val < 448) : ∃ p ∈ tableRow12 B M arg11 X11, y ∈ p.1.set := by
  unfold tableRow12
  by_cases c3 : 384 ≤ (y 1).val
  · refine ⟨_, List.mem_cons_self, ?_⟩
    show y ∈ (Rect.unit (s := S128x512) ![96, 384] S8x64.size inb_S128x512_S8x64_96_384).set
    rw [Rect.mem_set_unit]
    intro a
    match a with
    | ⟨0, _⟩ => exact ⟨show 96 ≤ (y 0).val by omega, show (y 0).val < 96 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![96, 256] S8x128.size inb_S128x512_S8x128_96_256).set
    rw [Rect.mem_set_unit]
    intro a
    match a with
    | ⟨0, _⟩ => exact ⟨show 96 ≤ (y 0).val by omega, show (y 0).val < 96 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![96, 128] S8x128.size inb_S128x512_S8x128_96_128).set
    rw [Rect.mem_set_unit]
    intro a
    match a with
    | ⟨0, _⟩ => exact ⟨show 96 ≤ (y 0).val by omega, show (y 0).val < 96 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![96, 0] S8x128.size inb_S128x512_S8x128_96_0).set
    rw [Rect.mem_set_unit]
    intro a
    match a with
    | ⟨0, _⟩ => exact ⟨show 96 ≤ (y 0).val by omega, show (y 0).val < 96 + 8 by omega⟩
    | ⟨1, _⟩ => exact ⟨show 0 ≤ (y 1).val by omega, show (y 1).val < 0 + 128 by omega⟩
  omega

/-- The stores of rows 104 to 111 of the table. -/
def tableRow13 (B M : IVec S128x448 32) (arg11 : Memref sig .tc .vmem S512x128 .i32) (X11 : BufTy.Contents (Elt F) arg11.view.ty) : List (View.Piece (Elt F) S128x512 .i32) :=
  [⟨Rect.unit (s := S128x512) ![104, 384] S8x64.size inb_S128x512_S8x64_104_384, tabB 104 384 slices_S128x448_o104_384_S8x64 B M (arg11.view.readAt (Elt F) (⟨![419, 0], S8x128.size, ![4, 1], inb_S512x128_S8x128_419_0_s_4_1⟩ : LoadRect S512x128) X11)⟩,
    ⟨Rect.unit (s := S128x512) ![104, 256] S8x128.size inb_S128x512_S8x128_104_256, tabA 104 256 slices_S128x448_o104_256_S8x128 B M (arg11.view.readAt (Elt F) (⟨![419, 0], S8x128.size, ![4, 1], inb_S512x128_S8x128_419_0_s_4_1⟩ : LoadRect S512x128) X11)⟩,
    ⟨Rect.unit (s := S128x512) ![104, 128] S8x128.size inb_S128x512_S8x128_104_128, tabA 104 128 slices_S128x448_o104_128_S8x128 B M (arg11.view.readAt (Elt F) (⟨![419, 0], S8x128.size, ![4, 1], inb_S512x128_S8x128_419_0_s_4_1⟩ : LoadRect S512x128) X11)⟩,
    ⟨Rect.unit (s := S128x512) ![104, 0] S8x128.size inb_S128x512_S8x128_104_0, tabA 104 0 slices_S128x448_o104_0_S8x128 B M (arg11.view.readAt (Elt F) (⟨![419, 0], S8x128.size, ![4, 1], inb_S512x128_S8x128_419_0_s_4_1⟩ : LoadRect S512x128) X11)⟩]

/-- Every store of these rows writes the table word of its entry. -/
theorem tableRow13_good (B M : IVec S128x448 32) (arg11 : Memref sig .tc .vmem S512x128 .i32) (X11 : BufTy.Contents (Elt F) arg11.view.ty) : ∀ p ∈ tableRow13 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![419, 0], S8x128.size, ![4, 1], inb_S512x128_S8x128_419_0_s_4_1⟩ : LoadRect S512x128) X11) (ValueIdx.ix2 r c) = at2 (arg11.view.read (Elt F) X11) (4 * (104 + r.val) + 3) c.val := by
    intro r c
    refine (readAt_at2_fourth arg11.view X11 (⟨![419, 0], S8x128.size, ![4, 1], inb_S512x128_S8x128_419_0_s_4_1⟩ : LoadRect S512x128) 419 rfl rfl (ValueIdx.ix2 r c)).trans ?_
    exact congrArg (fun n => at2 (arg11.view.read (Elt F) X11) n c.val) (show 419 + 4 * r.val = 4 * (104 + r.val) + 3 by omega)
  intro p hp
  unfold tableRow13 at hp
  fin_cases hp
  · intro x
    change S8x64.Idx at x
    idx_vars x
    refine (tabB_apply 104 384 slices_S128x448_o104_384_S8x64 B M (arg11.view.readAt (Elt F) (⟨![419, 0], S8x128.size, ![4, 1], inb_S512x128_S8x128_419_0_s_4_1⟩ : LoadRect S512x128) X11) (at2 (arg11.view.read (Elt F) X11)) _ _ (by decide) (hw _ _)).trans ?_
    show _ = tabN (at2 B) (at2 M) (at2 (arg11.view.read (Elt F) X11)) (104 + 1 * _) (384 + 1 * _)
    rw [Nat.one_mul, Nat.one_mul]; rfl
  · intro x
    change S8x128.Idx at x
    idx_vars x
    refine (tabA_apply 104 256 slices_S128x448_o104_256_S8x128 B M (arg11.view.readAt (Elt F) (⟨![419, 0], S8x128.size, ![4, 1], inb_S512x128_S8x128_419_0_s_4_1⟩ : LoadRect S512x128) X11) (at2 (arg11.view.read (Elt F) X11)) _ _ (by decide) (hw _ _)).trans ?_
    show _ = tabN (at2 B) (at2 M) (at2 (arg11.view.read (Elt F) X11)) (104 + 1 * _) (256 + 1 * _)
    rw [Nat.one_mul, Nat.one_mul]; rfl
  · intro x
    change S8x128.Idx at x
    idx_vars x
    refine (tabA_apply 104 128 slices_S128x448_o104_128_S8x128 B M (arg11.view.readAt (Elt F) (⟨![419, 0], S8x128.size, ![4, 1], inb_S512x128_S8x128_419_0_s_4_1⟩ : LoadRect S512x128) X11) (at2 (arg11.view.read (Elt F) X11)) _ _ (by decide) (hw _ _)).trans ?_
    show _ = tabN (at2 B) (at2 M) (at2 (arg11.view.read (Elt F) X11)) (104 + 1 * _) (128 + 1 * _)
    rw [Nat.one_mul, Nat.one_mul]; rfl
  · intro x
    change S8x128.Idx at x
    idx_vars x
    refine (tabA_apply 104 0 slices_S128x448_o104_0_S8x128 B M (arg11.view.readAt (Elt F) (⟨![419, 0], S8x128.size, ![4, 1], inb_S512x128_S8x128_419_0_s_4_1⟩ : LoadRect S512x128) X11) (at2 (arg11.view.read (Elt F) X11)) _ _ (by decide) (hw _ _)).trans ?_
    show _ = tabN (at2 B) (at2 M) (at2 (arg11.view.read (Elt F) X11)) (104 + 1 * _) (0 + 1 * _)
    rw [Nat.one_mul, Nat.one_mul]; rfl

/-- The stores of these rows cover them. -/
theorem tableRow13_cover (B M : IVec S128x448 32) (arg11 : Memref sig .tc .vmem S512x128 .i32) (X11 : BufTy.Contents (Elt F) arg11.view.ty) (y : S128x512.Idx) (h0 : 104 ≤ (y 0).val) (h1 : (y 0).val < 112) (h2 : (y 1).val < 448) : ∃ p ∈ tableRow13 B M arg11 X11, y ∈ p.1.set := by
  unfold tableRow13
  by_cases c3 : 384 ≤ (y 1).val
  · refine ⟨_, List.mem_cons_self, ?_⟩
    show y ∈ (Rect.unit (s := S128x512) ![104, 384] S8x64.size inb_S128x512_S8x64_104_384).set
    rw [Rect.mem_set_unit]
    intro a
    match a with
    | ⟨0, _⟩ => exact ⟨show 104 ≤ (y 0).val by omega, show (y 0).val < 104 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![104, 256] S8x128.size inb_S128x512_S8x128_104_256).set
    rw [Rect.mem_set_unit]
    intro a
    match a with
    | ⟨0, _⟩ => exact ⟨show 104 ≤ (y 0).val by omega, show (y 0).val < 104 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![104, 128] S8x128.size inb_S128x512_S8x128_104_128).set
    rw [Rect.mem_set_unit]
    intro a
    match a with
    | ⟨0, _⟩ => exact ⟨show 104 ≤ (y 0).val by omega, show (y 0).val < 104 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![104, 0] S8x128.size inb_S128x512_S8x128_104_0).set
    rw [Rect.mem_set_unit]
    intro a
    match a with
    | ⟨0, _⟩ => exact ⟨show 104 ≤ (y 0).val by omega, show (y 0).val < 104 + 8 by omega⟩
    | ⟨1, _⟩ => exact ⟨show 0 ≤ (y 1).val by omega, show (y 1).val < 0 + 128 by omega⟩
  omega

/-- The stores of rows 112 to 119 of the table. -/
def tableRow14 (B M : IVec S128x448 32) (arg11 : Memref sig .tc .vmem S512x128 .i32) (X11 : BufTy.Contents (Elt F) arg11.view.ty) : List (View.Piece (Elt F) S128x512 .i32) :=
  [⟨Rect.unit (s := S128x512) ![112, 384] S8x64.size inb_S128x512_S8x64_112_384, tabB 112 384 slices_S128x448_o112_384_S8x64 B M (arg11.view.readAt (Elt F) (⟨![451, 0], S8x128.size, ![4, 1], inb_S512x128_S8x128_451_0_s_4_1⟩ : LoadRect S512x128) X11)⟩,
    ⟨Rect.unit (s := S128x512) ![112, 256] S8x128.size inb_S128x512_S8x128_112_256, tabA 112 256 slices_S128x448_o112_256_S8x128 B M (arg11.view.readAt (Elt F) (⟨![451, 0], S8x128.size, ![4, 1], inb_S512x128_S8x128_451_0_s_4_1⟩ : LoadRect S512x128) X11)⟩,
    ⟨Rect.unit (s := S128x512) ![112, 128] S8x128.size inb_S128x512_S8x128_112_128, tabA 112 128 slices_S128x448_o112_128_S8x128 B M (arg11.view.readAt (Elt F) (⟨![451, 0], S8x128.size, ![4, 1], inb_S512x128_S8x128_451_0_s_4_1⟩ : LoadRect S512x128) X11)⟩,
    ⟨Rect.unit (s := S128x512) ![112, 0] S8x128.size inb_S128x512_S8x128_112_0, tabA 112 0 slices_S128x448_o112_0_S8x128 B M (arg11.view.readAt (Elt F) (⟨![451, 0], S8x128.size, ![4, 1], inb_S512x128_S8x128_451_0_s_4_1⟩ : LoadRect S512x128) X11)⟩]

/-- Every store of these rows writes the table word of its entry. -/
theorem tableRow14_good (B M : IVec S128x448 32) (arg11 : Memref sig .tc .vmem S512x128 .i32) (X11 : BufTy.Contents (Elt F) arg11.view.ty) : ∀ p ∈ tableRow14 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![451, 0], S8x128.size, ![4, 1], inb_S512x128_S8x128_451_0_s_4_1⟩ : LoadRect S512x128) X11) (ValueIdx.ix2 r c) = at2 (arg11.view.read (Elt F) X11) (4 * (112 + r.val) + 3) c.val := by
    intro r c
    refine (readAt_at2_fourth arg11.view X11 (⟨![451, 0], S8x128.size, ![4, 1], inb_S512x128_S8x128_451_0_s_4_1⟩ : LoadRect S512x128) 451 rfl rfl (ValueIdx.ix2 r c)).trans ?_
    exact congrArg (fun n => at2 (arg11.view.read (Elt F) X11) n c.val) (show 451 + 4 * r.val = 4 * (112 + r.val) + 3 by omega)
  intro p hp
  unfold tableRow14 at hp
  fin_cases hp
  · intro x
    change S8x64.Idx at x
    idx_vars x
    refine (tabB_apply 112 384 slices_S128x448_o112_384_S8x64 B M (arg11.view.readAt (Elt F) (⟨![451, 0], S8x128.size, ![4, 1], inb_S512x128_S8x128_451_0_s_4_1⟩ : LoadRect S512x128) X11) (at2 (arg11.view.read (Elt F) X11)) _ _ (by decide) (hw _ _)).trans ?_
    show _ = tabN (at2 B) (at2 M) (at2 (arg11.view.read (Elt F) X11)) (112 + 1 * _) (384 + 1 * _)
    rw [Nat.one_mul, Nat.one_mul]; rfl
  · intro x
    change S8x128.Idx at x
    idx_vars x
    refine (tabA_apply 112 256 slices_S128x448_o112_256_S8x128 B M (arg11.view.readAt (Elt F) (⟨![451, 0], S8x128.size, ![4, 1], inb_S512x128_S8x128_451_0_s_4_1⟩ : LoadRect S512x128) X11) (at2 (arg11.view.read (Elt F) X11)) _ _ (by decide) (hw _ _)).trans ?_
    show _ = tabN (at2 B) (at2 M) (at2 (arg11.view.read (Elt F) X11)) (112 + 1 * _) (256 + 1 * _)
    rw [Nat.one_mul, Nat.one_mul]; rfl
  · intro x
    change S8x128.Idx at x
    idx_vars x
    refine (tabA_apply 112 128 slices_S128x448_o112_128_S8x128 B M (arg11.view.readAt (Elt F) (⟨![451, 0], S8x128.size, ![4, 1], inb_S512x128_S8x128_451_0_s_4_1⟩ : LoadRect S512x128) X11) (at2 (arg11.view.read (Elt F) X11)) _ _ (by decide) (hw _ _)).trans ?_
    show _ = tabN (at2 B) (at2 M) (at2 (arg11.view.read (Elt F) X11)) (112 + 1 * _) (128 + 1 * _)
    rw [Nat.one_mul, Nat.one_mul]; rfl
  · intro x
    change S8x128.Idx at x
    idx_vars x
    refine (tabA_apply 112 0 slices_S128x448_o112_0_S8x128 B M (arg11.view.readAt (Elt F) (⟨![451, 0], S8x128.size, ![4, 1], inb_S512x128_S8x128_451_0_s_4_1⟩ : LoadRect S512x128) X11) (at2 (arg11.view.read (Elt F) X11)) _ _ (by decide) (hw _ _)).trans ?_
    show _ = tabN (at2 B) (at2 M) (at2 (arg11.view.read (Elt F) X11)) (112 + 1 * _) (0 + 1 * _)
    rw [Nat.one_mul, Nat.one_mul]; rfl

/-- The stores of these rows cover them. -/
theorem tableRow14_cover (B M : IVec S128x448 32) (arg11 : Memref sig .tc .vmem S512x128 .i32) (X11 : BufTy.Contents (Elt F) arg11.view.ty) (y : S128x512.Idx) (h0 : 112 ≤ (y 0).val) (h1 : (y 0).val < 120) (h2 : (y 1).val < 448) : ∃ p ∈ tableRow14 B M arg11 X11, y ∈ p.1.set := by
  unfold tableRow14
  by_cases c3 : 384 ≤ (y 1).val
  · refine ⟨_, List.mem_cons_self, ?_⟩
    show y ∈ (Rect.unit (s := S128x512) ![112, 384] S8x64.size inb_S128x512_S8x64_112_384).set
    rw [Rect.mem_set_unit]
    intro a
    match a with
    | ⟨0, _⟩ => exact ⟨show 112 ≤ (y 0).val by omega, show (y 0).val < 112 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![112, 256] S8x128.size inb_S128x512_S8x128_112_256).set
    rw [Rect.mem_set_unit]
    intro a
    match a with
    | ⟨0, _⟩ => exact ⟨show 112 ≤ (y 0).val by omega, show (y 0).val < 112 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![112, 128] S8x128.size inb_S128x512_S8x128_112_128).set
    rw [Rect.mem_set_unit]
    intro a
    match a with
    | ⟨0, _⟩ => exact ⟨show 112 ≤ (y 0).val by omega, show (y 0).val < 112 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![112, 0] S8x128.size inb_S128x512_S8x128_112_0).set
    rw [Rect.mem_set_unit]
    intro a
    match a with
    | ⟨0, _⟩ => exact ⟨show 112 ≤ (y 0).val by omega, show (y 0).val < 112 + 8 by omega⟩
    | ⟨1, _⟩ => exact ⟨show 0 ≤ (y 1).val by omega, show (y 1).val < 0 + 128 by omega⟩
  omega

/-- The stores of rows 120 to 127 of the table. -/
def tableRow15 (B M : IVec S128x448 32) (arg11 : Memref sig .tc .vmem S512x128 .i32) (X11 : BufTy.Contents (Elt F) arg11.view.ty) : List (View.Piece (Elt F) S128x512 .i32) :=
  [⟨Rect.unit (s := S128x512) ![120, 384] S8x64.size inb_S128x512_S8x64_120_384, tabB 120 384 slices_S128x448_o120_384_S8x64 B M (arg11.view.readAt (Elt F) (⟨![483, 0], S8x128.size, ![4, 1], inb_S512x128_S8x128_483_0_s_4_1⟩ : LoadRect S512x128) X11)⟩,
    ⟨Rect.unit (s := S128x512) ![120, 256] S8x128.size inb_S128x512_S8x128_120_256, tabA 120 256 slices_S128x448_o120_256_S8x128 B M (arg11.view.readAt (Elt F) (⟨![483, 0], S8x128.size, ![4, 1], inb_S512x128_S8x128_483_0_s_4_1⟩ : LoadRect S512x128) X11)⟩,
    ⟨Rect.unit (s := S128x512) ![120, 128] S8x128.size inb_S128x512_S8x128_120_128, tabA 120 128 slices_S128x448_o120_128_S8x128 B M (arg11.view.readAt (Elt F) (⟨![483, 0], S8x128.size, ![4, 1], inb_S512x128_S8x128_483_0_s_4_1⟩ : LoadRect S512x128) X11)⟩,
    ⟨Rect.unit (s := S128x512) ![120, 0] S8x128.size inb_S128x512_S8x128_120_0, tabA 120 0 slices_S128x448_o120_0_S8x128 B M (arg11.view.readAt (Elt F) (⟨![483, 0], S8x128.size, ![4, 1], inb_S512x128_S8x128_483_0_s_4_1⟩ : LoadRect S512x128) X11)⟩]

/-- Every store of these rows writes the table word of its entry. -/
theorem tableRow15_good (B M : IVec S128x448 32) (arg11 : Memref sig .tc .vmem S512x128 .i32) (X11 : BufTy.Contents (Elt F) arg11.view.ty) : ∀ p ∈ tableRow15 B M arg11 X11, ∀ x : p.1.shape.Idx, p.2 x = (fun y : S128x512.Idx => tabN (at2 B) (at2 M) (at2 (arg11.view.read (Elt F) X11)) (y 0).val (y 1).val) (p.1.emb x) := by
  have hw : ∀ (r : Fin 8) (c : Fin 128), (arg11.view.readAt (Elt F) (⟨![483, 0], S8x128.size, ![4, 1], inb_S512x128_S8x128_483_0_s_4_1⟩ : LoadRect S512x128) X11) (ValueIdx.ix2 r c) = at2 (arg11.view.read (Elt F) X11) (4 * (120 + r.val) + 3) c.val := by
    intro r c
    refine (readAt_at2_fourth arg11.view X11 (⟨![483, 0], S8x128.size, ![4, 1], inb_S512x128_S8x128_483_0_s_4_1⟩ : LoadRect S512x128) 483 rfl rfl (ValueIdx.ix2 r c)).trans ?_
    exact congrArg (fun n => at2 (arg11.view.read (Elt F) X11) n c.val) (show 483 + 4 * r.val = 4 * (120 + r.val) + 3 by omega)
  intro p hp
  unfold tableRow15 at hp
  fin_cases hp
  · intro x
    change S8x64.Idx at x
    idx_vars x
    refine (tabB_apply 120 384 slices_S128x448_o120_384_S8x64 B M (arg11.view.readAt (Elt F) (⟨![483, 0], S8x128.size, ![4, 1], inb_S512x128_S8x128_483_0_s_4_1⟩ : LoadRect S512x128) X11) (at2 (arg11.view.read (Elt F) X11)) _ _ (by decide) (hw _ _)).trans ?_
    show _ = tabN (at2 B) (at2 M) (at2 (arg11.view.read (Elt F) X11)) (120 + 1 * _) (384 + 1 * _)
    rw [Nat.one_mul, Nat.one_mul]; rfl
  · intro x
    change S8x128.Idx at x
    idx_vars x
    refine (tabA_apply 120 256 slices_S128x448_o120_256_S8x128 B M (arg11.view.readAt (Elt F) (⟨![483, 0], S8x128.size, ![4, 1], inb_S512x128_S8x128_483_0_s_4_1⟩ : LoadRect S512x128) X11) (at2 (arg11.view.read (Elt F) X11)) _ _ (by decide) (hw _ _)).trans ?_
    show _ = tabN (at2 B) (at2 M) (at2 (arg11.view.read (Elt F) X11)) (120 + 1 * _) (256 + 1 * _)
    rw [Nat.one_mul, Nat.one_mul]; rfl
  · intro x
    change S8x128.Idx at x
    idx_vars x
    refine (tabA_apply 120 128 slices_S128x448_o120_128_S8x128 B M (arg11.view.readAt (Elt F) (⟨![483, 0], S8x128.size, ![4, 1], inb_S512x128_S8x128_483_0_s_4_1⟩ : LoadRect S512x128) X11) (at2 (arg11.view.read (Elt F) X11)) _ _ (by decide) (hw _ _)).trans ?_
    show _ = tabN (at2 B) (at2 M) (at2 (arg11.view.read (Elt F) X11)) (120 + 1 * _) (128 + 1 * _)
    rw [Nat.one_mul, Nat.one_mul]; rfl
  · intro x
    change S8x128.Idx at x
    idx_vars x
    refine (tabA_apply 120 0 slices_S128x448_o120_0_S8x128 B M (arg11.view.readAt (Elt F) (⟨![483, 0], S8x128.size, ![4, 1], inb_S512x128_S8x128_483_0_s_4_1⟩ : LoadRect S512x128) X11) (at2 (arg11.view.read (Elt F) X11)) _ _ (by decide) (hw _ _)).trans ?_
    show _ = tabN (at2 B) (at2 M) (at2 (arg11.view.read (Elt F) X11)) (120 + 1 * _) (0 + 1 * _)
    rw [Nat.one_mul, Nat.one_mul]; rfl

/-- The stores of these rows cover them. -/
theorem tableRow15_cover (B M : IVec S128x448 32) (arg11 : Memref sig .tc .vmem S512x128 .i32) (X11 : BufTy.Contents (Elt F) arg11.view.ty) (y : S128x512.Idx) (h0 : 120 ≤ (y 0).val) (h1 : (y 0).val < 128) (h2 : (y 1).val < 448) : ∃ p ∈ tableRow15 B M arg11 X11, y ∈ p.1.set := by
  unfold tableRow15
  by_cases c3 : 384 ≤ (y 1).val
  · refine ⟨_, List.mem_cons_self, ?_⟩
    show y ∈ (Rect.unit (s := S128x512) ![120, 384] S8x64.size inb_S128x512_S8x64_120_384).set
    rw [Rect.mem_set_unit]
    intro a
    match a with
    | ⟨0, _⟩ => exact ⟨show 120 ≤ (y 0).val by omega, show (y 0).val < 120 + 8 by omega⟩
    | ⟨1, _⟩ => exact ⟨show 384 ≤ (y 1).val by omega, show (y 1).val < 384 + 64 by omega⟩
  by_cases c2 : 256 ≤ (y 1).val
  · refine ⟨_, (List.mem_cons_of_mem _ List.mem_cons_self), ?_⟩
    show y ∈ (Rect.unit (s := S128x512) ![120, 256] S8x128.size inb_S128x512_S8x128_120_256).set
    rw [Rect.mem_set_unit]
    intro a
    match a with
    | ⟨0, _⟩ => exact ⟨show 120 ≤ (y 0).val by omega, show (y 0).val < 120 + 8 by omega⟩
    | ⟨1, _⟩ => exact ⟨show 256 ≤ (y 1).val by omega, show (y 1).val < 256 + 128 by omega⟩
  by_cases c1 : 128 ≤ (y 1).val
  · refine ⟨_, (List.mem_cons_of_mem _ (List.mem_cons_of_mem _ List.mem_cons_self)), ?_⟩
    show y ∈ (Rect.unit (s := S128x512) ![120, 128] S8x128.size inb_S128x512_S8x128_120_128).set
    rw [Rect.mem_set_unit]
    intro a
    match a with
    | ⟨0, _⟩ => exact ⟨show 120 ≤ (y 0).val by omega, show (y 0).val < 120 + 8 by omega⟩
    | ⟨1, _⟩ => exact ⟨show 128 ≤ (y 1).val by omega, show (y 1).val < 128 + 128 by omega⟩
  by_cases c0 : 0 ≤ (y 1).val
  · refine ⟨_, (List.mem_cons_of_mem _ (List.mem_cons_of_mem _ (List.mem_cons_of_mem _ List.mem_cons_self))), ?_⟩
    show y ∈ (Rect.unit (s := S128x512) ![120, 0] S8x128.size inb_S128x512_S8x128_120_0).set
    rw [Rect.mem_set_unit]
    intro a
    match a with
    | ⟨0, _⟩ => exact ⟨show 120 ≤ (y 0).val by omega, show (y 0).val < 120 + 8 by omega⟩
    | ⟨1, _⟩ => exact ⟨show 0 ≤ (y 1).val by omega, show (y 1).val < 0 + 128 by omega⟩
  omega

/-- All the stores that fill the table, newest first. -/
def tablePieces (B M : IVec S128x448 32) (arg11 : Memref sig .tc .vmem S512x128 .i32) (X11 : BufTy.Contents (Elt F) arg11.view.ty) : List (View.Piece (Elt F) S128x512 .i32) :=
  tableRow15 B M arg11 X11 ++ (tableRow14 B M arg11 X11 ++ (tableRow13 B M arg11 X11 ++ (tableRow12 B M arg11 X11 ++ (tableRow11 B M arg11 X11 ++ (tableRow10 B M arg11 X11 ++ (tableRow9 B M arg11 X11 ++ (tableRow8 B M arg11 X11 ++ (tableRow7 B M arg11 X11 ++ (tableRow6 B M arg11 X11 ++ (tableRow5 B M arg11 X11 ++ (tableRow4 B M arg11 X11 ++ (tableRow3 B M arg11 X11 ++ (tableRow2 B M arg11 X11 ++ (tableRow1 B M arg11 X11 ++ (tableRow0 B M arg11 X11)))))))))))))))

/-- Every store of the table writes the table word of its entry. -/
theorem tablePieces_good (B M : IVec S128x448 32) (arg11 : Memref sig .tc .vmem S512x128 .i32) (X11 : BufTy.Contents (Elt F) arg11.view.ty) : ∀ p ∈ tablePieces B M arg11 X11, ∀ x : p.1.shape.Idx, p.2 x = (fun y : S128x512.Idx => tabN (at2 B) (at2 M) (at2 (arg11.view.read (Elt F) X11)) (y 0).val (y 1).val) (p.1.emb x) := by
  intro p hp
  unfold tablePieces at hp
  rcases List.mem_append.mp hp with hp | hp
  · exact tableRow15_good B M arg11 X11 p hp
  rcases List.mem_append.mp hp with hp | hp
  · exact tableRow14_good B M arg11 X11 p hp
  rcases List.mem_append.mp hp with hp | hp
  · exact tableRow13_good B M arg11 X11 p hp
  rcases List.mem_append.mp hp with hp | hp
  · exact tableRow12_good B M arg11 X11 p hp
  rcases List.mem_append.mp hp with hp | hp
  · exact tableRow11_good B M arg11 X11 p hp
  rcases List.mem_append.mp hp with hp | hp
  · exact tableRow10_good B M arg11 X11 p hp
  rcases List.mem_append.mp hp with hp | hp
  · exact tableRow9_good B M arg11 X11 p hp
  rcases List.mem_append.mp hp with hp | hp
  · exact tableRow8_good B M arg11 X11 p hp
  rcases List.mem_append.mp hp with hp | hp
  · exact tableRow7_good B M arg11 X11 p hp
  rcases List.mem_append.mp hp with hp | hp
  · exact tableRow6_good B M arg11 X11 p hp
  rcases List.mem_append.mp hp with hp | hp
  · exact tableRow5_good B M arg11 X11 p hp
  rcases List.mem_append.mp hp with hp | hp
  · exact tableRow4_good B M arg11 X11 p hp
  rcases List.mem_append.mp hp with hp | hp
  · exact tableRow3_good B M arg11 X11 p hp
  rcases List.mem_append.mp hp with hp | hp
  · exact tableRow2_good B M arg11 X11 p hp
  rcases List.mem_append.mp hp with hp | hp
  · exact tableRow1_good B M arg11 X11 p hp
  exact tableRow0_good B M arg11 X11 p hp

/-- The stores of the table cover its 448 columns. -/
theorem tablePieces_cover (B M : IVec S128x448 32) (arg11 : Memref sig .tc .vmem S512x128 .i32) (X11 : BufTy.Contents (Elt F) arg11.view.ty) (y : S128x512.Idx) (h2 : (y 1).val < 448) : ∃ p ∈ tablePieces B M arg11 X11, y ∈ p.1.set := by
  have hy0 : (y 0).val < 128 := (y 0).isLt
  unfold tablePieces
  by_cases c15 : 120 ≤ (y 0).val
  · obtain ⟨p, hp, hy⟩ := tableRow15_cover B M arg11 X11 y c15 (by omega) h2
    exact ⟨p, List.mem_append_left _ hp, hy⟩
  by_cases c14 : 112 ≤ (y 0).val
  · obtain ⟨p, hp, hy⟩ := tableRow14_cover B M arg11 X11 y c14 (by omega) h2
    exact ⟨p, List.mem_append_right _ (List.mem_append_left _ hp), hy⟩
  by_cases c13 : 104 ≤ (y 0).val
  · obtain ⟨p, hp, hy⟩ := tableRow13_cover B M arg11 X11 y c13 (by omega) h2
    exact ⟨p, List.mem_append_right _ (List.mem_append_right _ (List.mem_append_left _ hp)), hy⟩
  by_cases c12 : 96 ≤ (y 0).val
  · obtain ⟨p, hp, hy⟩ := tableRow12_cover B M arg11 X11 y c12 (by omega) h2
    exact ⟨p, List.mem_append_right _ (List.mem_append_right _ (List.mem_append_right _ (List.mem_append_left _ hp))), hy⟩
  by_cases c11 : 88 ≤ (y 0).val
  · obtain ⟨p, hp, hy⟩ := tableRow11_cover B M arg11 X11 y c11 (by omega) h2
    exact ⟨p, List.mem_append_right _ (List.mem_append_right _ (List.mem_append_right _ (List.mem_append_right _ (List.mem_append_left _ hp)))), hy⟩
  by_cases c10 : 80 ≤ (y 0).val
  · obtain ⟨p, hp, hy⟩ := tableRow10_cover B M arg11 X11 y c10 (by omega) h2
    exact ⟨p, List.mem_append_right _ (List.mem_append_right _ (List.mem_append_right _ (List.mem_append_right _ (List.mem_append_right _ (List.mem_append_left _ hp))))), hy⟩
  by_cases c9 : 72 ≤ (y 0).val
  · obtain ⟨p, hp, hy⟩ := tableRow9_cover B M arg11 X11 y c9 (by omega) h2
    exact ⟨p, List.mem_append_right _ (List.mem_append_right _ (List.mem_append_right _ (List.mem_append_right _ (List.mem_append_right _ (List.mem_append_right _ (List.mem_append_left _ hp)))))), hy⟩
  by_cases c8 : 64 ≤ (y 0).val
  · obtain ⟨p, hp, hy⟩ := tableRow8_cover B M arg11 X11 y c8 (by omega) h2
    exact ⟨p, List.mem_append_right _ (List.mem_append_right _ (List.mem_append_right _ (List.mem_append_right _ (List.mem_append_right _ (List.mem_append_right _ (List.mem_append_right _ (List.mem_append_left _ hp))))))), hy⟩
  by_cases c7 : 56 ≤ (y 0).val
  · obtain ⟨p, hp, hy⟩ := tableRow7_cover B M arg11 X11 y c7 (by omega) h2
    exact ⟨p, List.mem_append_right _ (List.mem_append_right _ (List.mem_append_right _ (List.mem_append_right _ (List.mem_append_right _ (List.mem_append_right _ (List.mem_append_right _ (List.mem_append_right _ (List.mem_append_left _ hp)))))))), hy⟩
  by_cases c6 : 48 ≤ (y 0).val
  · obtain ⟨p, hp, hy⟩ := tableRow6_cover B M arg11 X11 y c6 (by omega) h2
    exact ⟨p, List.mem_append_right _ (List.mem_append_right _ (List.mem_append_right _ (List.mem_append_right _ (List.mem_append_right _ (List.mem_append_right _ (List.mem_append_right _ (List.mem_append_right _ (List.mem_append_right _ (List.mem_append_left _ hp))))))))), hy⟩
  by_cases c5 : 40 ≤ (y 0).val
  · obtain ⟨p, hp, hy⟩ := tableRow5_cover B M arg11 X11 y c5 (by omega) h2
    exact ⟨p, List.mem_append_right _ (List.mem_append_right _ (List.mem_append_right _ (List.mem_append_right _ (List.mem_append_right _ (List.mem_append_right _ (List.mem_append_right _ (List.mem_append_right _ (List.mem_append_right _ (List.mem_append_right _ (List.mem_append_left _ hp)))))))))), hy⟩
  by_cases c4 : 32 ≤ (y 0).val
  · obtain ⟨p, hp, hy⟩ := tableRow4_cover B M arg11 X11 y c4 (by omega) h2
    exact ⟨p, List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hp))))))))))), hy⟩
  by_cases c3 : 24 ≤ (y 0).val
  · obtain ⟨p, hp, hy⟩ := tableRow3_cover B M arg11 X11 y c3 (by omega) h2
    exact ⟨p, List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hp)))))))))))), hy⟩
  by_cases c2 : 16 ≤ (y 0).val
  · obtain ⟨p, hp, hy⟩ := tableRow2_cover B M arg11 X11 y c2 (by omega) h2
    exact ⟨p, List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hp))))))))))))), hy⟩
  by_cases c1 : 8 ≤ (y 0).val
  · obtain ⟨p, hp, hy⟩ := tableRow1_cover B M arg11 X11 y c1 (by omega) h2
    exact ⟨p, List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hp)))))))))))))), hy⟩
  obtain ⟨p, hp, hy⟩ := tableRow0_cover B M arg11 X11 y (by omega) (by omega) h2
  exact ⟨p, List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (hp))))))))))))))), hy⟩

/-- What the finished table holds. -/
theorem table_read (B M : IVec S128x448 32) (arg11 : Memref sig .tc .vmem S512x128 .i32) (X11 : BufTy.Contents (Elt F) arg11.view.ty) (arg13 : Memref sig .tc .vmem S128x512 .i32) (f13 : BufTy.Contents (Elt F) arg13.view.ty) (y : S128x512.Idx) (h : (y 1).val < 448) :
    arg13.view.read (Elt F) (arg13.view.writes (Elt F) f13 (tablePieces B M arg11 X11)) y = tabN (at2 B) (at2 M) (at2 (arg11.view.read (Elt F) X11)) (y 0).val (y 1).val :=
  View.read_writes_apply_of_pieces arg13.view f13 (fun y : S128x512.Idx => tabN (at2 B) (at2 M) (at2 (arg11.view.read (Elt F) X11)) (y 0).val (y 1).val) (tablePieces B M arg11 X11) (tablePieces_good B M arg11 X11) y (tablePieces_cover B M arg11 X11 y h)

end Cert.KernelIdeal.Gen
-- ==== Proof.Outs.lean ====
module

public import proofs.«01_k».proof.Proof.Gen.KernelIdeal.Skeleton
public import proofs.«01_k».proof.Proof.Gen.KernelIdeal.Launch
public import proofs.«01_k».proof.Proof.Table
public import Idealize.ShloMosaic.Lib.Writes
public import Idealize.ShloMosaic.Lib.VecWindow
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words
open Idealize.ShloMosaic.Pipeline (Dat Cfg Window BodyObligation cellOf)

variable {F : FTy → Type} [FloatOps F]

local notation "𝕄" => MT nD τ sig Unit (Elt F) ℕ (UR sig nD τ) ℕ

/-- The condition under which a step starts the tokens over. -/
abbrev cond0_0 (i : grid0.Coords) : Prop := (Scalar.cmpi .ne (Scalar.extui (Scalar.cmpi .eq (BitVec.ofNat 32 (i 0).val) 0#32)) 0#32) = 1#1

/-- A code read from a group of words reads only the group's 128 lanes. -/
theorem codeS_congr (l : ℕ) (b w : BitVec 32) (g g' : ℕ → BitVec 32) (h : ∀ l < 128, g l = g' l) : codeS l b w g = codeS l b w g' := by
  unfold codeS takeN
  rw [h _ (Nat.mod_lt _ (by decide))]

/-- A rebuilt entry depends on its token's rows of the table, the window and the scales alone. -/
theorem expandN_congr (W W' win win' : ℕ → ℕ → BitVec 32) (xs xs' : ℕ → ℕ → F .f32) (r ch : ℕ) (hch : ch < 3584)
    (hW : ∀ c < 448, W r c = W' r c) (h0 : ∀ l < 128, win (4 * r) l = win' (4 * r) l) (h1 : ∀ l < 128, win (4 * r + 1) l = win' (4 * r + 1) l)
    (h2 : ∀ l < 128, win (4 * r + 2) l = win' (4 * r + 2) l) (hxs : ∀ l < 128, xs r l = xs' r l) :
    expandN W win xs r ch = expandN W' win' xs' r ch := by
  have hb : baseN W r ch = baseN W' r ch := by
    unfold baseN
    rw [hW _ (by omega)]
  have hc : codeN W win r ch = codeN W' win' r ch := by
    unfold codeN
    rw [hb, hW _ (by omega)]
    exact codeS_congr _ _ _ _ _ fun l hl => by rw [h0 l hl, h1 l hl, h2 l hl]
  unfold expandN
  rw [hc, hxs _ (Nat.mod_lt _ (by decide))]

/-- An entry at two coordinates in range is the entry at their index. -/
theorem at2_ix2 {α : Type} {A B : ℕ} [NeZero A] [NeZero B] (X : (⟨2, ![A, B]⟩ : Shape).Idx → α) (r l : ℕ) (hr : r < A) (hl : l < B) :
    at2 X r l = X (ValueIdx.ix2 ⟨r, hr⟩ ⟨l, hl⟩) :=
  (eq_at2 X _ r l rfl rfl).symm

/-- The window of fetched words of the 128 tokens from `T` on. -/
def winW (T : ℕ) (x1 : IVec S3x640 32) (x10 : IVec S3360x128 32) : ℕ → ℕ → BitVec 32 :=
  winN (at2 x10) (fun j => startN (cntN x1) (T + j))

/-- Their table of ranks and mask bytes, over the matrix `U` that sums the bytes before. -/
def tabW (T : ℕ) (x1 : IVec S3x640 32) (x4 : Vec F S128x448 .i8) (U : Vec F S448x448 .bf16) (x10 : IVec S3360x128 32) : ℕ → ℕ → BitVec 32 :=
  tabN (at2 (k0_pay194 x4 U)) (at2 (k0_pay193 x4)) (winW T x1 x10)

/-- The rebuilt activation of token `T + r` at channel `ch`. -/
def rebuiltN (T : ℕ) (x1 : IVec S3x640 32) (x2 : FVec F S3x640 .f32) (x4 : Vec F S128x448 .i8) (U : Vec F S448x448 .bf16) (x10 : IVec S3360x128 32) (r ch : ℕ) : F .bf16 :=
  expandN (tabW T x1 x4 U x10) (winW T x1 x10) (fun r _ => cntN x2 (T + r)) r ch

/-- The entries the body computes from its finished table, window and scales are the rebuilt activations. -/
theorem rebuilt_of (T : ℕ) (x1 : IVec S3x640 32) (x2 : FVec F S3x640 .f32) (x4 : Vec F S128x448 .i8) (U : Vec F S448x448 .bf16) (x10 : IVec S3360x128 32)
    (arg11 : Memref sig .tc .vmem S512x128 .i32) (arg12 : Memref sig .tc .vmem S128x128 .f32) (arg13 : Memref sig .tc .vmem S128x512 .i32)
    (g11 : BufTy.Contents (Elt F) arg11.view.ty) (g12 : BufTy.Contents (Elt F) arg12.view.ty) (f13 : BufTy.Contents (Elt F) arg13.view.ty)
    (h11 : ∀ y : S512x128.Idx, arg11.view.read (Elt F) g11 y = winN (at2 x10) (fun j => startN (cntN x1) (T + j)) (y 0).val (y 1).val)
    (h12 : ∀ y : S128x128.Idx, arg12.view.read (Elt F) g12 y = cntN x2 (T + (y 0).val)) (r ch : ℕ) (hr : r < 128) (hch : ch < 3584) :
    expandN (at2 (arg13.view.read (Elt F) (arg13.view.writes (Elt F) f13 (tablePieces (k0_pay194 x4 U) (k0_pay193 x4) arg11 g11))))
        (at2 (arg11.view.read (Elt F) g11)) (at2 (arg12.view.read (Elt F) g12)) r ch
      = rebuiltN T x1 x2 x4 U x10 r ch := by
  have hw : ∀ q < 512, ∀ l < 128, at2 (arg11.view.read (Elt F) g11) q l = winW T x1 x10 q l := by
    intro q hq l hl
    rw [at2_ix2 _ q l hq hl, h11]
    rfl
  refine expandN_congr _ _ _ _ _ _ r ch hch ?_ (fun l hl => hw _ (by omega) l hl) (fun l hl => hw _ (by omega) l hl) (fun l hl => hw _ (by omega) l hl) ?_
  · intro c hc
    rw [at2_ix2 _ r c hr (by omega), table_read _ _ _ _ _ _ _ hc]
    unfold tabW tabN
    rw [hw _ (by show 4 * r + 3 < 512; omega) _ (Nat.mod_lt _ (by decide))]
  · intro l hl
    rw [at2_ix2 _ r l hr hl, h12]

end Cert.KernelIdeal.Gen
-- ==== Proof.Gather.lean ====
module

public import proofs.«01_k».proof.Proof.Gen.KernelIdeal.Skeleton
public import proofs.«01_k».proof.Proof.Gen.KernelIdeal.Launch
public import proofs.«01_k».proof.Proof.Words
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words
open Idealize.ShloMosaic.Pipeline (Dat Cfg Window BodyObligation cellOf)

variable {F : FTy → Type} [FloatOps F]

local notation "𝕄" => MT nD τ sig Unit (Elt F) ℕ (UR sig nD τ) ℕ

/-- The row of words a token's fetch begins at, as the kernel computes it: a floored quotient, capped. -/
def firstW (s : BitVec 32) : BitVec 32 :=
  Scalar.minsi (Scalar.select (Scalar.andi (Scalar.cmpi .ne (Scalar.subi (Scalar.extui (Scalar.cmpi .sgt s 0#32)) (Scalar.extui (Scalar.cmpi .slt s 0#32)))
    (Scalar.subi (Scalar.extui (Scalar.cmpi .sgt 512#32 0#32)) (Scalar.extui (Scalar.cmpi .slt 512#32 0#32)))) (Scalar.cmpi .ne (Scalar.remsi s 512#32) 0#32))
    (Scalar.subi (Scalar.divsi s 512#32) 1#32) (Scalar.divsi s 512#32)) 3357#32

/-- On a start in range that row is `firstN`. -/
theorem firstW_int (s : BitVec 32) (hs : s.toNat ≤ 1720320) : Affine.IsInt (firstW s) (firstN s : ℕ) := by
  have h_s : Affine.IsInt s (s.toNat : Int) := by
    have e : s = BitVec.ofNat 32 s.toNat := by simp
    have := Affine.ofNat (e := (s.toNat : Int)) s.toNat ⟨rfl, by omega⟩
    rwa [← e] at this
  have z : Affine.IsInt 0#32 (0) := Affine.ofNat _ (by omega)
  have o : Affine.IsInt 1#32 (1) := Affine.ofNat _ (by omega)
  have w : Affine.IsInt 512#32 (512) := Affine.ofNat _ (by omega)
  have u : Affine.IsInt 3357#32 (3357) := Affine.ofNat _ (by omega)
  have h_v6 : Affine.Holds _ := Affine.sgt_holds w z (by omega)
  have h_v7 : Affine.IsInt _ (1) := Affine.extui_holds h_v6 (by omega)
  have h_v8 : Affine.Fails _ := Affine.slt_fails w z (by omega)
  have h_v9 : Affine.IsInt _ (0) := Affine.extui_fails h_v8 (by omega)
  have h_v10 : Affine.IsInt _ (1) := Affine.subi h_v7 h_v9 (by omega)
  have h_v3 : Affine.Fails _ := Affine.slt_fails h_s z (by omega)
  have h_v4 : Affine.IsInt _ (0) := Affine.extui_fails h_v3 (by omega)
  have h_q : Affine.IsInt _ ((s.toNat : Int) / 512) := Affine.divsi h_s w (by omega)
  have h_q1 : Affine.IsInt _ ((s.toNat : Int) / 512 - 1) := Affine.subi h_q o (by omega)
  have hmin : ((firstN s : ℕ) : Int) = min ((s.toNat : Int) / 512) 3357 := by unfold firstN; omega
  unfold firstW
  rcases (show (s.toNat : Int) ≤ 0 ∨ 1 ≤ (s.toNat : Int) by omega) with h0 | h0
  · have h_v1 : Affine.Fails _ := Affine.sgt_fails h_s z (by omega)
    have h_v2 : Affine.IsInt _ (0) := Affine.extui_fails h_v1 (by omega)
    have h_v5 : Affine.IsInt _ (0) := Affine.subi h_v2 h_v4 (by omega)
    have h_v11 : Affine.Holds _ := Affine.ne_holds h_v5 h_v10 (by omega)
    have h_r : Affine.IsInt _ (0) := Affine.remsi h_s w (by omega)
    have h_v13 : Affine.Fails _ := Affine.ne_fails h_r z (by omega)
    have h_v14 : Affine.Fails _ := Affine.andi_fails_right (Affine.tH h_v11) h_v13
    exact Affine.minsi (Affine.select_fails h_v14 h_q1 h_q rfl) u hmin
  · have h_v1 : Affine.Holds _ := Affine.sgt_holds h_s z (by omega)
    have h_v2 : Affine.IsInt _ (1) := Affine.extui_holds h_v1 (by omega)
    have h_v5 : Affine.IsInt _ (1) := Affine.subi h_v2 h_v4 (by omega)
    have h_v11 : Affine.Fails _ := Affine.ne_fails h_v5 h_v10 (by omega)
    have h_v14 : Affine.Fails _ := Affine.andi_fails_left (d := Scalar.cmpi .ne (Scalar.remsi s 512#32) 0#32) h_v11 trivial
    exact Affine.minsi (Affine.select_fails h_v14 h_q1 h_q rfl) u hmin

/-- The window of a token is read from its first row on. -/
theorem off1_eq (s : BitVec 32) (hs : s.toNat ≤ 1720320) : k0_off1 s = ![firstN s, 0] := by
  have h := Affine.nat_eq (firstW_int s hs) (firstN s) rfl
  show ![(firstW s).toNat, 0] = _
  rw [h]

/-- The window of a token lies inside the words of the stream. -/
theorem chk1_of (s : BitVec 32) (hs : s.toNat ≤ 1720320) : k0_chk1 s := by
  unfold k0_chk1
  rw [off1_eq s hs]
  intro a
  have : firstN s ≤ 3357 := Nat.min_le_right _ _
  match a with
  | ⟨0, _⟩ => show firstN s + 3 ≤ 3360; omega
  | ⟨1, _⟩ => exact Nat.le_refl _

/-- The row and column of a token's entry in the tables of 3 × 640. -/
theorem off3_eq (i : grid0.Coords) (k : Fin k0_t1_loop.trips) :
    k0_off3 i k = ![(128 * (i 0).val + k.val) / 640, (128 * (i 0).val + k.val) % 640] := by
  have key : ∀ (a : Fin 15) (k : Fin k0_t1_loop.trips), k0_off3 (fun | 0 => a) k = ![(128 * a.val + k.val) / 640, (128 * a.val + k.val) % 640] := by decide +kernel
  have := key (i 0) k
  rw [← this]
  rfl

/-- The rows stored for a token: first the three fetched rows of words. -/
theorem pay9_rows (s : BitVec 32) (v : Vec F S3x128 .i32) (y : S4x128.Idx) (h : (y 0).val < 3) : k0_pay9 (F := F) s v y = at2 v (y 0).val (y 1).val := by
  refine Eq.trans ?_ (eq_at2 v (ValueIdx.ix2 ⟨(y 0).val, h⟩ (y 1)) (y 0).val (y 1).val rfl rfl)
  unfold k0_pay9
  pointwise
  refine (dif_pos (show (y 0).val < 3 from h)).trans ?_
  congr 1
  blk_ext

/-- Then the place in them where the token's codes begin. -/
theorem pay9_off (s : BitVec 32) (hs : s.toNat ≤ 1720320) (v : Vec F S3x128 .i32) (y : S4x128.Idx) (h : (y 0).val = 3) :
    k0_pay9 (F := F) s v y = s - BitVec.ofNat 32 (512 * firstN s) := by
  have e : k0_pay9 (F := F) s v y = s - firstW s * 512#32 := by
    unfold k0_pay9
    pointwise
    refine (dif_neg (show ¬ (y 0).val < 3 by omega)).trans ?_
    rfl
  have h2 : firstW s * 512#32 = BitVec.ofNat 32 (512 * firstN s) := by
    have hn := Affine.nat_eq (firstW_int s hs) (firstN s) rfl
    apply BitVec.eq_of_toNat_eq
    rw [BitVec.toNat_mul, hn, BitVec.toNat_ofNat]
    show firstN s * 512 % 2 ^ 32 = 512 * firstN s % 2 ^ 32
    rw [Nat.mul_comm]
  rw [e, h2]

/-- What one trip of the gather loop holds: the tables and the words it reads, and the three buffers it fills. -/
def gatherInv (c : Dev nD) (arg1 : Memref sig .tc .smem S3x640 .i32) (arg2 : Memref sig .tc .smem S3x640 .f32) (arg3 : Memref sig .tc .smem S3x640 .f32)
    (arg8 : Memref sig .tc .vmem S128x128 .f32) (arg10 : Memref sig .tc .vmem S3360x128 .i32) (arg11 : Memref sig .tc .vmem S512x128 .i32) (arg12 : Memref sig .tc .vmem S128x128 .f32)
    (X1 : BufTy.Contents (Elt F) arg1.view.ty) (X2 : BufTy.Contents (Elt F) arg2.view.ty) (X3 : BufTy.Contents (Elt F) arg3.view.ty) (X10 : BufTy.Contents (Elt F) arg10.view.ty)
    (T : ℕ) (k : ℕ) (acc : BitVec 32) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
    ∗ (arg10.view.loc (c : Thread nD τ) ↦[arg10.view.set]{fullShare} X10)
    ∗ (∃ f, (arg11.view.loc (c : Thread nD τ) ↦[arg11.view.set]{fullShare} f) ∗ ⌜∀ y, (y 0).val < 4 * k → arg11.view.read (Elt F) f y = winN (at2 (arg10.view.read (Elt F) X10)) (fun j => startN (cntN (arg1.view.read (Elt F) X1)) (T + j)) (y 0).val (y 1).val⌝)
    ∗ (∃ f, (arg12.view.loc (c : Thread nD τ) ↦[arg12.view.set]{fullShare} f) ∗ ⌜∀ y, (y 0).val < k → arg12.view.read (Elt F) f y = cntN (arg2.view.read (Elt F) X2) (T + (y 0).val)⌝)
    ∗ (∃ f, (arg8.view.loc (c : Thread nD τ) ↦[arg8.view.set]{fullShare} f) ∗ ⌜∀ y, (y 0).val < k → arg8.view.read (Elt F) f y = cntN (arg3.view.read (Elt F) X3) (T + (y 0).val)⌝)
    ∗ ⌜acc = startN (cntN (arg1.view.read (Elt F) X1)) (T + k)⌝)

set_option maxHeartbeats 4000000 in
/-- One trip of the gather loop fills the next token's rows. -/
theorem gather_step (c : Dev nD) (i : grid0.Coords) (arg1 : Memref sig .tc .smem S3x640 .i32) (harg1 : arg1.IsWhole) (arg2 : Memref sig .tc .smem S3x640 .f32) (harg2 : arg2.IsWhole) (arg3 : Memref sig .tc .smem S3x640 .f32) (harg3 : arg3.IsWhole) (arg4 : Memref sig .tc .vmem S128x448 .i8) (harg4 : arg4.IsWhole) (arg5 : Memref sig .tc .vmem S13440x128 .i8) (harg5 : arg5.IsWhole) (arg6 : Memref sig .tc .vmem S128x3584 .bf16) (harg6 : arg6.IsWhole) (arg7 : Memref sig .tc .vmem S3584x128 .bf16) (harg7 : arg7.IsWhole) (arg8 : Memref sig .tc .vmem S128x128 .f32) (harg8 : arg8.IsWhole) (arg9 : Memref sig .tc .smem S1 .i32) (harg9 : arg9.IsWhole) (arg10 : Memref sig .tc .vmem S3360x128 .i32) (harg10 : arg10.IsWhole) (arg11 : Memref sig .tc .vmem S512x128 .i32) (harg11 : arg11.IsWhole) (arg12 : Memref sig .tc .vmem S128x128 .f32) (harg12 : arg12.IsWhole) (arg13 : Memref sig .tc .vmem S128x512 .i32) (harg13 : arg13.IsWhole) (arg14 : Memref sig .tc .vmem S448x448 .bf16) (harg14 : arg14.IsWhole) (v16 v27 : BitVec 32)
    (X1 : BufTy.Contents (Elt F) arg1.view.ty) (X2 : BufTy.Contents (Elt F) arg2.view.ty) (X3 : BufTy.Contents (Elt F) arg3.view.ty) (X10 : BufTy.Contents (Elt F) arg10.view.ty)
    (hst : ∀ n < 1920, (startN (cntN (arg1.view.read (Elt F) X1)) n).toNat ≤ 1720320) (k : Fin k0_t1_loop.trips) (acc : BitVec 32) :
    gatherInv (F := F) c arg1 arg2 arg3 arg8 arg10 arg11 arg12 X1 X2 X3 X10 (128 * (i 0).val) k.val acc
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v16 v27 k acc)
        (fun acc' => gatherInv (F := F) c arg1 arg2 arg3 arg8 arg10 arg11 arg12 X1 X2 X3 X10 (128 * (i 0).val) (k.val + 1) acc') := by
  have hk : k.val < 128 := Nat.lt_of_lt_of_le k.isLt k0_t1_abs.2.1
  unfold gatherInv k0_t1_body
  iintro ⟨H1, H2, H3, H10, ⟨%f11, H11, %h11⟩, ⟨%f12, H12, %h12⟩, ⟨%f8, H8, %h8⟩, %hacc⟩
  have hT : 128 * (i 0).val + k.val < 1920 := by have := (i 0).isLt; have : (i 0).val < 15 := this; omega
  have hs : acc.toNat ≤ 1720320 := by rw [hacc]; exact hst _ hT
  have hc : k0_chk1 acc := chk1_of acc hs
  sl_exec (disch := first | sl_exact hc)
  sl_step
  isplitl [H1]
  · iexact H1
  isplitl [H2]
  · iexact H2
  isplitl [H3]
  · iexact H3
  isplitl [H10]
  · iexact H10
  isplitl [H11]
  · iexists _
    isplitl [H11]
    · iexact H11
    ipureintro
    intro y hy
    by_cases h : (y 0).val < 4 * k.val
    · rw [View.read_writes_cons_unit_of_not_mem (heq := k0_off2_eq k) (a := 0) (ha := Or.inl h), View.writes_nil]
      exact h11 y h
    · have e := View.read_writes_cons_unit_of_mem arg11.view f11 (k0_off2_inb k) (gather_step.sl.v690 arg10 X10 acc hc) [] y
        (fun | 0 => ⟨(y 0).val - 4 * k.val, show _ < 4 by omega⟩ | 1 => ⟨(y 1).val, (y 1).isLt⟩) (k0_off2_eq k)
        (fun | 0 => show (y 0).val = 4 * k.val + ((y 0).val - 4 * k.val) by omega | 1 => show (y 1).val = 0 + (y 1).val by omega)
      refine e.trans ?_
      have hl : firstN (startN (cntN (arg1.view.read (Elt F) X1)) (128 * (i 0).val + k.val)) = firstN acc := by rw [hacc]
      have hd : (y 0).val / 4 = k.val := by omega
      unfold winN
      simp only [hd, hl]
      by_cases h3 : (y 0).val % 4 < 3
      · rw [if_pos h3]
        refine (pay9_rows acc (arg10.view.readAt (Elt F) (Rect.unit (s := S3360x128) (k0_off1 acc) S3x128.size hc).toLoadRect X10) (fun | 0 => ⟨(y 0).val - 4 * k.val, show _ < 4 by omega⟩ | 1 => ⟨(y 1).val, (y 1).isLt⟩) (show (y 0).val - 4 * k.val < 3 by omega)).trans ?_
        refine (eq_at2 (A := 3) (B := 128) _ (ValueIdx.ix2 ⟨(y 0).val % 4, h3⟩ (y 1)) _ _ (show (y 0).val % 4 = (y 0).val - 4 * k.val by omega) rfl).symm.trans ?_
        refine (readAt_at2 _ _ _ _ _ (off1_eq acc hs) _).trans ?_
        show at2 (arg10.view.read (Elt F) X10) (firstN acc + (y 0).val % 4) (0 + (y 1).val) = _
        rw [Nat.zero_add]
      · rw [if_neg h3, ← hacc]
        exact pay9_off acc hs (arg10.view.readAt (Elt F) (Rect.unit (s := S3360x128) (k0_off1 acc) S3x128.size hc).toLoadRect X10) (fun | 0 => ⟨(y 0).val - 4 * k.val, show _ < 4 by omega⟩ | 1 => ⟨(y 1).val, (y 1).isLt⟩) (show (y 0).val - 4 * k.val = 3 by omega)
  isplitl [H12]
  · iexists _
    isplitl [H12]
    · iexact H12
    ipureintro
    intro y hy
    by_cases h : (y 0).val < k.val
    · rw [View.read_writes_cons_unit_of_not_mem (heq := k0_off4_eq k) (a := 0) (ha := Or.inl h), View.writes_nil]
      exact h12 y h
    · have hyk : (y 0).val = k.val := by omega
      have e := View.read_writes_cons_unit_of_mem arg12.view f12 (k0_off4_inb k) (gather_step.sl.v699 i arg2 X2 k) [] y
        (fun | 0 => ⟨0, show _ < 1 by omega⟩ | 1 => ⟨(y 1).val, (y 1).isLt⟩) (k0_off4_eq k)
        (fun | 0 => show (y 0).val = k.val + 0 by omega | 1 => show (y 1).val = 0 + (y 1).val by omega)
      refine e.trans ?_
      refine (readAt_at2 arg2.view X2 (k0_off3_inb i k) _ _ (off3_eq i k) (Shape.Idx.first (show 0 < S1x1.numel by decide))).trans ?_
      rw [hyk]
      rfl
  isplitl [H8]
  · iexists _
    isplitl [H8]
    · iexact H8
    ipureintro
    intro y hy
    by_cases h : (y 0).val < k.val
    · rw [View.read_writes_cons_unit_of_not_mem (heq := k0_off4_eq k) (a := 0) (ha := Or.inl h), View.writes_nil]
      exact h8 y h
    · have hyk : (y 0).val = k.val := by omega
      have e := View.read_writes_cons_unit_of_mem arg8.view f8 (k0_off4_inb k) (gather_step.sl.v704 i arg3 X3 k) [] y
        (fun | 0 => ⟨0, show _ < 1 by omega⟩ | 1 => ⟨(y 1).val, (y 1).isLt⟩) (k0_off4_eq k)
        (fun | 0 => show (y 0).val = k.val + 0 by omega | 1 => show (y 1).val = 0 + (y 1).val by omega)
      refine e.trans ?_
      refine (readAt_at2 arg3.view X3 (k0_off3_inb i k) _ _ (off3_eq i k) (Shape.Idx.first (show 0 < S1x1.numel by decide))).trans ?_
      rw [hyk]
      rfl
  ipureintro
  show acc + _ = startN _ (128 * (i 0).val + k.val) + _
  rw [← hacc]
  congr 1
  unfold gather_step.sl.r_2
  exact ((readAt_at2 arg1.view X1 (k0_off3_inb i k) _ _ (off3_eq i k) (Shape.Idx.first (show 0 < S1x1.numel by decide))).trans rfl)

end Cert.KernelIdeal.Gen
-- ==== Proof.Half.lean ====
module

public import proofs.«01_k».proof.Proof.Gen.KernelIdeal.Skeleton
public import proofs.«01_k».proof.Proof.Gen.KernelIdeal.Launch
public import proofs.«01_k».proof.Proof.Words
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words
open Idealize.ShloMosaic.Pipeline (Dat Cfg Window BodyObligation cellOf)

variable {F : FTy → Type} [FloatOps F]

local notation "𝕄" => MT nD τ sig Unit (Elt F) ℕ (UR sig nD τ) ℕ

/-- Entries of a block of words taken along the lanes at computed places, as the kernel spells it. -/
def takeV (x idx : IVec S8x128 32) : IVec S8x128 32 :=
  dynamicGather 1 x (shapeCast S8x128 (shapeCast S8x128x1 (select (cmpi .slt idx (broadcast S8x128 0#32)) (addi idx (broadcast S8x128 128#32)) idx)
    shapeCasts_S8x128_S8x128x1) shapeCasts_S8x128x1_S8x128)

/-- Where eight tokens' codes begin in their windows, in units of a row of bytes. -/
def baseV (byte0 : BitVec 32) (words : IVec S8x128 32) : IVec S8x128 32 :=
  shrsi (takeV words (addi (broadcast S8x128 0#32) (broadcast S8x128 byte0))) (broadcast S8x128 15#32)

/-- The words whose bytes are the 512 codes from there on. -/
def groupV (base w0 w1 w2 : IVec S8x128 32) : IVec S8x128 32 :=
  let row := shrsi base (broadcast S8x128 2#32)
  let shift := shli (andi base (broadcast S8x128 3#32)) (broadcast S8x128 3#32)
  ori (shrui (select (cmpi .eq row (broadcast S8x128 0#32)) w0 (select (cmpi .eq row (broadcast S8x128 1#32)) w1 w2)) shift)
    (shli (shli (select (cmpi .eq row (broadcast S8x128 0#32)) w1 w2) (broadcast S8x128 1#32)) (subi (broadcast S8x128 31#32) shift))

/-- The mask bytes and ranks of 128 channels. -/
def wordV (start : BitVec 32) (words : IVec S8x128 32) : IVec S8x128 32 :=
  takeV words (addi k0_pay4 (broadcast S8x128 start))

/-- The codes of 128 channels of eight tokens, zero where the mask is off. -/
def codeV (base group w : IVec S8x128 32) : IVec S8x128 32 :=
  let pos := subi (addi (shrsi w (broadcast S8x128 8#32)) (ctpop (andi w k0_pay3))) (shli base (broadcast S8x128 7#32))
  select (cmpi .ne (andi w k0_pay2) (broadcast S8x128 0#32))
    (shrui (takeV group (andi pos (broadcast S8x128 127#32))) (andi (shrsi pos (broadcast S8x128 4#32)) (broadcast S8x128 24#32)))
    (broadcast S8x128 0#32)

/-- The codes of the channels from `byte0 + off` on, of one block of eight tokens. -/
def halfV (byte0 off : BitVec 32) (words w0 w1 w2 : IVec S8x128 32) : IVec S8x128 32 :=
  codeV (baseV byte0 words) (groupV (baseV byte0 words) w0 w1 w2) (wordV (Scalar.addi byte0 off) words)

/-- A row read at the lanes that another names, at an entry. -/
theorem takeV_apply (x idx : IVec S8x128 32) (X : ℕ → BitVec 32) (r : Fin 8) (l : Fin 128) (hx : ∀ c : Fin 128, x (ValueIdx.ix2 r c) = X c.val) :
    takeV x idx (ValueIdx.ix2 r l) = takeN X (idx (ValueIdx.ix2 r l)) := by
  unfold takeV
  pointwise
  exact hx ⟨_, _⟩

/-- The bit that a lane tests. -/
theorem lane_bit (r : Fin 8) (l : Fin 128) : k0_pay2 (ValueIdx.ix2 r l) = bitS l.val := by
  unfold k0_pay2
  pointwise
  rfl

/-- The codes of a block, at an entry. -/
theorem codeV_apply (base group w : IVec S8x128 32) (X : ℕ → BitVec 32) (r : Fin 8) (l : Fin 128) (hx : ∀ c : Fin 128, group (ValueIdx.ix2 r c) = X c.val) :
    codeV base group w (ValueIdx.ix2 r l) = codeS l.val (base (ValueIdx.ix2 r l)) (w (ValueIdx.ix2 r l)) X := by
  unfold codeV
  pointwise
  rw [takeV_apply group _ X r l hx]
  have e : ∀ v, (subi k0_pay2 v : IVec S8x128 32) (ValueIdx.ix2 r l) = IntOp.subi (bitS l.val) (v (ValueIdx.ix2 r l)) := fun v => by rw [← lane_bit r l]; rfl
  have e3 : k0_pay3 (ValueIdx.ix2 r l) = IntOp.subi (bitS l.val) 1#32 := e _
  have ep : (andi (subi (addi (shrsi w (broadcast S8x128 8#32)) (ctpop (andi w k0_pay3))) (shli base (broadcast S8x128 7#32))) (broadcast S8x128 127#32) : IVec S8x128 32) (ValueIdx.ix2 r l)
      = IntOp.andi (posS l.val (base (ValueIdx.ix2 r l)) (w (ValueIdx.ix2 r l))) 127#32 := by
    unfold posS
    rw [← e3]
    rfl
  rw [lane_bit, e3, ep]
  rfl

/-- The four codes per lane from a row of the window on, at an entry. -/
theorem groupV_apply (base w0 w1 w2 : IVec S8x128 32) (r : Fin 8) (l : Fin 128) :
    groupV base w0 w1 w2 (ValueIdx.ix2 r l) = groupS (base (ValueIdx.ix2 r l)) (w0 (ValueIdx.ix2 r l)) (w1 (ValueIdx.ix2 r l)) (w2 (ValueIdx.ix2 r l)) := rfl

/-- The place of a lane's byte in the table of words stays inside the block of 128. -/
theorem takeN_ofNat (X : ℕ → BitVec 32) (n : ℕ) (h : n < 128) : takeN X (BitVec.ofNat 32 n) = X n := by
  have key : ∀ n : Fin 128, (Scalar.select (IntOp.cmpi .slt (BitVec.ofNat 32 n.val) 0#32) (IntOp.addi (BitVec.ofNat 32 n.val) 128#32) (BitVec.ofNat 32 n.val)).toNat % 128 = n.val := by decide +kernel
  unfold takeN
  rw [key ⟨n, h⟩]

/-- The mask byte of a lane. -/
theorem lane_byte (l : Fin 128) (r : Fin 8) : k0_pay4 (ValueIdx.ix2 r l) = BitVec.ofNat 32 (l.val / 8) := by
  have key : ∀ l : Fin 128, IntOp.shrsi .vector (BitVec.ofNat 32 l.val) 3#32 = BitVec.ofNat 32 (l.val / 8) := by decide +kernel
  unfold k0_pay4
  pointwise
  exact key l

/-- The codes of half a group of channels, entry by entry. -/
theorem halfV_apply (k b r0 : ℕ) (hk : k < 14) (hb : b < 2) (byte0 off : BitVec 32) (h0 : byte0 = BitVec.ofNat 32 (32 * (k % 4))) (hoff : off = BitVec.ofNat 32 (16 * b))
    (words w0 w1 w2 : IVec S8x128 32) (W win : ℕ → ℕ → BitVec 32)
    (hw : ∀ (r : Fin 8) (c : Fin 128), words (ValueIdx.ix2 r c) = W (r0 + r.val) (128 * (k / 4) + c.val))
    (hw0 : ∀ (r : Fin 8) (c : Fin 128), w0 (ValueIdx.ix2 r c) = win (4 * (r0 + r.val)) c.val)
    (hw1 : ∀ (r : Fin 8) (c : Fin 128), w1 (ValueIdx.ix2 r c) = win (4 * (r0 + r.val) + 1) c.val)
    (hw2 : ∀ (r : Fin 8) (c : Fin 128), w2 (ValueIdx.ix2 r c) = win (4 * (r0 + r.val) + 2) c.val)
    (r : Fin 8) (l : Fin 128) :
    halfV byte0 off words w0 w1 w2 (ValueIdx.ix2 r l) = codeN W win (r0 + r.val) (256 * k + 128 * b + l.val) := by
  subst h0; subst hoff
  have hbase : ∀ c : Fin 128, baseV (BitVec.ofNat 32 (32 * (k % 4))) words (ValueIdx.ix2 r c) = baseN W (r0 + r.val) (256 * k + 128 * b + l.val) := by
    intro c
    show IntOp.shrsi .vector (takeV words _ (ValueIdx.ix2 r c)) 15#32 = _
    rw [takeV_apply words _ (fun c => W (r0 + r.val) (128 * (k / 4) + c)) r c (hw r)]
    have e : (addi (broadcast S8x128 0#32) (broadcast S8x128 (BitVec.ofNat 32 (32 * (k % 4)))) : IVec S8x128 32) (ValueIdx.ix2 r c) = BitVec.ofNat 32 (32 * (k % 4)) :=
      BitVec.zero_add _
    rw [e, takeN_ofNat _ _ (by omega)]
    unfold baseN
    congr 2
    omega
  have hword : wordV (Scalar.addi (BitVec.ofNat 32 (32 * (k % 4))) (BitVec.ofNat 32 (16 * b))) words (ValueIdx.ix2 r l) = W (r0 + r.val) ((256 * k + 128 * b + l.val) / 8) := by
    show takeV words _ (ValueIdx.ix2 r l) = _
    rw [takeV_apply words _ (fun c => W (r0 + r.val) (128 * (k / 4) + c)) r l (hw r)]
    have e : (addi k0_pay4 (broadcast S8x128 (Scalar.addi (BitVec.ofNat 32 (32 * (k % 4))) (BitVec.ofNat 32 (16 * b)))) : IVec S8x128 32) (ValueIdx.ix2 r l)
        = BitVec.ofNat 32 (l.val / 8 + (32 * (k % 4) + 16 * b)) := by
      show k0_pay4 (ValueIdx.ix2 r l) + (BitVec.ofNat 32 _ + BitVec.ofNat 32 _) = _
      rw [lane_byte, ← BitVec.ofNat_add, ← BitVec.ofNat_add]
    rw [e, takeN_ofNat _ _ (by omega)]
    congr 1
    omega
  unfold halfV
  rw [codeV_apply _ _ _ (fun c => groupS (baseN W (r0 + r.val) (256 * k + 128 * b + l.val)) (win (4 * (r0 + r.val)) c) (win (4 * (r0 + r.val) + 1) c) (win (4 * (r0 + r.val) + 2) c)) r l
    (fun c => by rw [groupV_apply, hbase c, hw0, hw1, hw2]), hbase l, hword]
  unfold codeN
  have e1 : (256 * k + 128 * b + l.val) % 128 = l.val := by omega
  rw [e1]

/-- Thirty-two tokens' rebuilt entries, from four blocks of eight tokens' codes and the scales. -/
def rowsV (c0 c1 c2 c3 : IVec S8x128 32) (s : Vec F S32x128 .f32) : FVec F S32x128 .bf16 :=
  mulf (extf .bf16 (bitcastToFloat .fp8e4m3 (trunci 8 (concatenate S32x128 0 [⟨S8x128, c0⟩, ⟨S8x128, c1⟩, ⟨S8x128, c2⟩, ⟨S8x128, c3⟩] concatenates_S8x128_S8x128_S8x128_S8x128_S32x128_d0) natLt_8_32)) bitsLt_fp8e4m3_bf16)
    (truncf .bf16 s bitsLt_bf16_f32)

/-- Thirty-two tokens of a block, decoded and scaled, at an entry. -/
theorem rowsV_apply (q ch : ℕ) (c0 c1 c2 c3 : IVec S8x128 32) (s : Vec F S32x128 .f32) (W win : ℕ → ℕ → BitVec 32) (xs : ℕ → ℕ → F .f32)
    (h0 : ∀ (r : Fin 8) (l : Fin 128), c0 (ValueIdx.ix2 r l) = codeN W win (32 * q + r.val) (ch + l.val))
    (h1 : ∀ (r : Fin 8) (l : Fin 128), c1 (ValueIdx.ix2 r l) = codeN W win (32 * q + 8 + r.val) (ch + l.val))
    (h2 : ∀ (r : Fin 8) (l : Fin 128), c2 (ValueIdx.ix2 r l) = codeN W win (32 * q + 16 + r.val) (ch + l.val))
    (h3 : ∀ (r : Fin 8) (l : Fin 128), c3 (ValueIdx.ix2 r l) = codeN W win (32 * q + 24 + r.val) (ch + l.val))
    (hs : ∀ (r : Fin 32) (l : Fin 128), s (ValueIdx.ix2 r l) = xs (32 * q + r.val) l.val) (hch : ch % 128 = 0) (r : Fin 32) (l : Fin 128) :
    rowsV c0 c1 c2 c3 s (ValueIdx.ix2 r l) = expandN W win xs (32 * q + r.val) (ch + l.val) := by
  unfold rowsV
  pointwise
  have e1 : (ch + l.val) % 128 = l.val := by omega
  unfold expandN
  rw [hs, e1]
  have key : ∀ a b : BitVec 32, a = b → (FloatOps.mulf (FloatOps.extf FTy.bf16 bitsLt_fp8e4m3_bf16 (FloatOps.ofBits FTy.fp8e4m3 (BitVec.setWidth 8 a))) (FloatOps.truncf FTy.bf16 bitsLt_bf16_f32 (xs (32 * q + r.val) l.val)) : F .bf16)
      = FloatOps.mulf (FloatOps.extf FTy.bf16 bitsLt_fp8e4m3_bf16 (FloatOps.ofBits FTy.fp8e4m3 (BitVec.setWidth 8 b))) (FloatOps.truncf FTy.bf16 bitsLt_bf16_f32 (xs (32 * q + r.val) l.val)) := fun a b h => by rw [h]
  refine key _ _ ?_
  by_cases g0 : r.val < 8
  · refine (dif_pos (show r.val < 8 from g0)).trans ?_
    exact h0 ⟨r.val, g0⟩ l
  refine (dif_neg (show ¬ r.val < 8 from g0)).trans ?_
  by_cases g1 : r.val - 8 < 8
  · refine (dif_pos (show r.val - 8 < 8 from g1)).trans ?_
    refine (h1 ⟨r.val - 8, g1⟩ l).trans ?_
    rw [show 32 * q + 8 + (r.val - 8) = 32 * q + r.val by omega]
  refine (dif_neg (show ¬ r.val - 8 < 8 from g1)).trans ?_
  by_cases g2 : r.val - 8 - 8 < 8
  · refine (dif_pos (show r.val - 8 - 8 < 8 from g2)).trans ?_
    refine (h2 ⟨r.val - 8 - 8, g2⟩ l).trans ?_
    rw [show 32 * q + 16 + (r.val - 8 - 8) = 32 * q + r.val by omega]
  refine (dif_neg (show ¬ r.val - 8 - 8 < 8 from g2)).trans ?_
  have := r.isLt
  refine (h3 ⟨r.val - 8 - 8 - 8, by omega⟩ l).trans ?_
  rw [show 32 * q + 24 + (r.val - 8 - 8 - 8) = 32 * q + r.val by omega]
end Cert.KernelIdeal.Gen
-- ==== Proof.Pieces.lean ====
module

public import proofs.«01_k».proof.Proof.Gen.KernelIdeal.Skeleton
public import proofs.«01_k».proof.Proof.Gen.KernelIdeal.Launch
public import proofs.«01_k».proof.Proof.Words
public import proofs.«01_k».proof.Proof.Half
public import Idealize.ShloMosaic.Lib.Writes
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words
open Idealize.ShloMosaic.Pipeline (Dat Cfg Window BodyObligation cellOf)

variable {F : FTy → Type} [FloatOps F]

local notation "𝕄" => MT nD τ sig Unit (Elt F) ℕ (UR sig nD τ) ℕ

/-- The first byte column, within its block of 128, of a group of 256 channels. -/
def byteW (k0_t2 : Fin k0_t2_loop.trips) : BitVec 32 :=
  Scalar.muli (Scalar.select (Scalar.andi (Scalar.xori (Scalar.cmpi .slt (Scalar.remsi (Scf.iv 0#32 1#32 k0_t2) (Scalar.select (Scalar.cmpi .eq 4#32 0#32) 1#32 4#32)) 0#32)
    (Scalar.cmpi .slt (Scalar.select (Scalar.cmpi .eq 4#32 0#32) 1#32 4#32) 0#32))
    (Scalar.cmpi .ne (Scalar.remsi (Scf.iv 0#32 1#32 k0_t2) (Scalar.select (Scalar.cmpi .eq 4#32 0#32) 1#32 4#32)) 0#32))
    (Scalar.addi (Scalar.remsi (Scf.iv 0#32 1#32 k0_t2) (Scalar.select (Scalar.cmpi .eq 4#32 0#32) 1#32 4#32)) (Scalar.select (Scalar.cmpi .eq 4#32 0#32) 1#32 4#32))
    (Scalar.remsi (Scf.iv 0#32 1#32 k0_t2) (Scalar.select (Scalar.cmpi .eq 4#32 0#32) 1#32 4#32))) 32#32

/-- The first mask byte of a group within its columns. -/
theorem byteW_eq : ∀ k : Fin k0_t2_loop.trips, byteW k = BitVec.ofNat 32 (32 * (k.val % 4)) := by decide +kernel
/-- Where a read of the table begins in a trip. -/
theorem off5_eq : ∀ k : Fin k0_t2_loop.trips, k0_off5 k = ![0, 128 * (k.val / 4)] := by decide +kernel
/-- Where a read of the table begins in a trip. -/
theorem off6_eq : ∀ k : Fin k0_t2_loop.trips, k0_off6 k = ![8, 128 * (k.val / 4)] := by decide +kernel
/-- Where a read of the table begins in a trip. -/
theorem off7_eq : ∀ k : Fin k0_t2_loop.trips, k0_off7 k = ![16, 128 * (k.val / 4)] := by decide +kernel
/-- Where a read of the table begins in a trip. -/
theorem off8_eq : ∀ k : Fin k0_t2_loop.trips, k0_off8 k = ![24, 128 * (k.val / 4)] := by decide +kernel
/-- Where a read of the table begins in a trip. -/
theorem off10_eq : ∀ k : Fin k0_t2_loop.trips, k0_off10 k = ![32, 128 * (k.val / 4)] := by decide +kernel
/-- Where a read of the table begins in a trip. -/
theorem off11_eq : ∀ k : Fin k0_t2_loop.trips, k0_off11 k = ![40, 128 * (k.val / 4)] := by decide +kernel
/-- Where a read of the table begins in a trip. -/
theorem off12_eq : ∀ k : Fin k0_t2_loop.trips, k0_off12 k = ![48, 128 * (k.val / 4)] := by decide +kernel
/-- Where a read of the table begins in a trip. -/
theorem off13_eq : ∀ k : Fin k0_t2_loop.trips, k0_off13 k = ![56, 128 * (k.val / 4)] := by decide +kernel
/-- Where a read of the table begins in a trip. -/
theorem off15_eq : ∀ k : Fin k0_t2_loop.trips, k0_off15 k = ![64, 128 * (k.val / 4)] := by decide +kernel
/-- Where a read of the table begins in a trip. -/
theorem off16_eq : ∀ k : Fin k0_t2_loop.trips, k0_off16 k = ![72, 128 * (k.val / 4)] := by decide +kernel
/-- Where a read of the table begins in a trip. -/
theorem off17_eq : ∀ k : Fin k0_t2_loop.trips, k0_off17 k = ![80, 128 * (k.val / 4)] := by decide +kernel
/-- Where a read of the table begins in a trip. -/
theorem off18_eq : ∀ k : Fin k0_t2_loop.trips, k0_off18 k = ![88, 128 * (k.val / 4)] := by decide +kernel
/-- Where a read of the table begins in a trip. -/
theorem off20_eq : ∀ k : Fin k0_t2_loop.trips, k0_off20 k = ![96, 128 * (k.val / 4)] := by decide +kernel
/-- Where a read of the table begins in a trip. -/
theorem off21_eq : ∀ k : Fin k0_t2_loop.trips, k0_off21 k = ![104, 128 * (k.val / 4)] := by decide +kernel
/-- Where a read of the table begins in a trip. -/
theorem off22_eq : ∀ k : Fin k0_t2_loop.trips, k0_off22 k = ![112, 128 * (k.val / 4)] := by decide +kernel
/-- Where a read of the table begins in a trip. -/
theorem off23_eq : ∀ k : Fin k0_t2_loop.trips, k0_off23 k = ![120, 128 * (k.val / 4)] := by decide +kernel

/-- Rows 0 to 31 of half 0 of a group of channels. -/
def piece0_0 (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) : FVec F S32x128 .bf16 :=
  rowsV (halfV (byteW k) 0#32 (arg13.view.readAt (Elt F) (Rect.unit (s := S128x512) (k0_off5 k) S8x128.size (k0_off5_inb k)).toLoadRect X13) (arg11.view.readAt (Elt F) (⟨![0, 0], S8x128.size, ![4, 1], inb_S512x128_S8x128_0_0_s_4_1⟩ : LoadRect S512x128) X11) (arg11.view.readAt (Elt F) (⟨![1, 0], S8x128.size, ![4, 1], inb_S512x128_S8x128_1_0_s_4_1⟩ : LoadRect S512x128) X11) (arg11.view.readAt (Elt F) (⟨![2, 0], S8x128.size, ![4, 1], inb_S512x128_S8x128_2_0_s_4_1⟩ : LoadRect S512x128) X11))
    (halfV (byteW k) 0#32 (arg13.view.readAt (Elt F) (Rect.unit (s := S128x512) (k0_off6 k) S8x128.size (k0_off6_inb k)).toLoadRect X13) (arg11.view.readAt (Elt F) (⟨![32, 0], S8x128.size, ![4, 1], inb_S512x128_S8x128_32_0_s_4_1⟩ : LoadRect S512x128) X11) (arg11.view.readAt (Elt F) (⟨![33, 0], S8x128.size, ![4, 1], inb_S512x128_S8x128_33_0_s_4_1⟩ : LoadRect S512x128) X11) (arg11.view.readAt (Elt F) (⟨![34, 0], S8x128.size, ![4, 1], inb_S512x128_S8x128_34_0_s_4_1⟩ : LoadRect S512x128) X11))
    (halfV (byteW k) 0#32 (arg13.view.readAt (Elt F) (Rect.unit (s := S128x512) (k0_off7 k) S8x128.size (k0_off7_inb k)).toLoadRect X13) (arg11.view.readAt (Elt F) (⟨![64, 0], S8x128.size, ![4, 1], inb_S512x128_S8x128_64_0_s_4_1⟩ : LoadRect S512x128) X11) (arg11.view.readAt (Elt F) (⟨![65, 0], S8x128.size, ![4, 1], inb_S512x128_S8x128_65_0_s_4_1⟩ : LoadRect S512x128) X11) (arg11.view.readAt (Elt F) (⟨![66, 0], S8x128.size, ![4, 1], inb_S512x128_S8x128_66_0_s_4_1⟩ : LoadRect S512x128) X11))
    (halfV (byteW k) 0#32 (arg13.view.readAt (Elt F) (Rect.unit (s := S128x512) (k0_off8 k) S8x128.size (k0_off8_inb k)).toLoadRect X13) (arg11.view.readAt (Elt F) (⟨![96, 0], S8x128.size, ![4, 1], inb_S512x128_S8x128_96_0_s_4_1⟩ : LoadRect S512x128) X11) (arg11.view.readAt (Elt F) (⟨![97, 0], S8x128.size, ![4, 1], inb_S512x128_S8x128_97_0_s_4_1⟩ : LoadRect S512x128) X11) (arg11.view.readAt (Elt F) (⟨![98, 0], S8x128.size, ![4, 1], inb_S512x128_S8x128_98_0_s_4_1⟩ : LoadRect S512x128) X11))
    (arg12.view.readAt (Elt F) (Rect.unit (s := S128x128) ![0, 0] S32x128.size inb_S128x128_S32x128_0_0).toLoadRect X12)

/-- What a store of the trip writes, at an entry. -/
theorem piece0_0_apply (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) (x : S32x128.Idx) :
    piece0_0 arg11 arg12 arg13 X11 X12 X13 k x = expandN (at2 (arg13.view.read (Elt F) X13)) (at2 (arg11.view.read (Elt F) X11)) (at2 (arg12.view.read (Elt F) X12)) (0 + (x 0).val) (256 * k.val + 128 * 0 + (x 1).val) := by
  have hk : k.val < 14 := Nat.lt_of_lt_of_le k.isLt k0_t2_abs.2.1
  idx_vars x
  refine rowsV_apply 0 (256 * k.val + 128 * 0) _ _ _ _ _ (at2 (arg13.view.read (Elt F) X13)) (at2 (arg11.view.read (Elt F) X11)) (at2 (arg12.view.read (Elt F) X12)) ?_ ?_ ?_ ?_ ?_ (by omega) _ _
  · intro r l
    refine halfV_apply k.val 0 0 hk (by decide) _ _ (byteW_eq k) rfl _ _ _ _ _ _ ?_ ?_ ?_ ?_ r l
    · intro r c
      exact readAt_at2 arg13.view X13 (k0_off5_inb k) 0 (128 * (k.val / 4)) (off5_eq k) (ValueIdx.ix2 r c)
    · intro r c
      refine (readAt_at2_fourth arg11.view X11 (⟨![0, 0], S8x128.size, ![4, 1], inb_S512x128_S8x128_0_0_s_4_1⟩ : LoadRect S512x128) 0 rfl rfl (ValueIdx.ix2 r c)).trans ?_
      exact congrArg (fun n => at2 (arg11.view.read (Elt F) X11) n c.val) (show 0 + 4 * r.val = 4 * (0 + r.val) by omega)
    · intro r c
      refine (readAt_at2_fourth arg11.view X11 (⟨![1, 0], S8x128.size, ![4, 1], inb_S512x128_S8x128_1_0_s_4_1⟩ : LoadRect S512x128) 1 rfl rfl (ValueIdx.ix2 r c)).trans ?_
      exact congrArg (fun n => at2 (arg11.view.read (Elt F) X11) n c.val) (show 1 + 4 * r.val = 4 * (0 + r.val) + 1 by omega)
    · intro r c
      refine (readAt_at2_fourth arg11.view X11 (⟨![2, 0], S8x128.size, ![4, 1], inb_S512x128_S8x128_2_0_s_4_1⟩ : LoadRect S512x128) 2 rfl rfl (ValueIdx.ix2 r c)).trans ?_
      exact congrArg (fun n => at2 (arg11.view.read (Elt F) X11) n c.val) (show 2 + 4 * r.val = 4 * (0 + r.val) + 2 by omega)
  · intro r l
    refine halfV_apply k.val 0 8 hk (by decide) _ _ (byteW_eq k) rfl _ _ _ _ _ _ ?_ ?_ ?_ ?_ r l
    · intro r c
      exact readAt_at2 arg13.view X13 (k0_off6_inb k) 8 (128 * (k.val / 4)) (off6_eq k) (ValueIdx.ix2 r c)
    · intro r c
      refine (readAt_at2_fourth arg11.view X11 (⟨![32, 0], S8x128.size, ![4, 1], inb_S512x128_S8x128_32_0_s_4_1⟩ : LoadRect S512x128) 32 rfl rfl (ValueIdx.ix2 r c)).trans ?_
      exact congrArg (fun n => at2 (arg11.view.read (Elt F) X11) n c.val) (show 32 + 4 * r.val = 4 * (8 + r.val) by omega)
    · intro r c
      refine (readAt_at2_fourth arg11.view X11 (⟨![33, 0], S8x128.size, ![4, 1], inb_S512x128_S8x128_33_0_s_4_1⟩ : LoadRect S512x128) 33 rfl rfl (ValueIdx.ix2 r c)).trans ?_
      exact congrArg (fun n => at2 (arg11.view.read (Elt F) X11) n c.val) (show 33 + 4 * r.val = 4 * (8 + r.val) + 1 by omega)
    · intro r c
      refine (readAt_at2_fourth arg11.view X11 (⟨![34, 0], S8x128.size, ![4, 1], inb_S512x128_S8x128_34_0_s_4_1⟩ : LoadRect S512x128) 34 rfl rfl (ValueIdx.ix2 r c)).trans ?_
      exact congrArg (fun n => at2 (arg11.view.read (Elt F) X11) n c.val) (show 34 + 4 * r.val = 4 * (8 + r.val) + 2 by omega)
  · intro r l
    refine halfV_apply k.val 0 16 hk (by decide) _ _ (byteW_eq k) rfl _ _ _ _ _ _ ?_ ?_ ?_ ?_ r l
    · intro r c
      exact readAt_at2 arg13.view X13 (k0_off7_inb k) 16 (128 * (k.val / 4)) (off7_eq k) (ValueIdx.ix2 r c)
    · intro r c
      refine (readAt_at2_fourth arg11.view X11 (⟨![64, 0], S8x128.size, ![4, 1], inb_S512x128_S8x128_64_0_s_4_1⟩ : LoadRect S512x128) 64 rfl rfl (ValueIdx.ix2 r c)).trans ?_
      exact congrArg (fun n => at2 (arg11.view.read (Elt F) X11) n c.val) (show 64 + 4 * r.val = 4 * (16 + r.val) by omega)
    · intro r c
      refine (readAt_at2_fourth arg11.view X11 (⟨![65, 0], S8x128.size, ![4, 1], inb_S512x128_S8x128_65_0_s_4_1⟩ : LoadRect S512x128) 65 rfl rfl (ValueIdx.ix2 r c)).trans ?_
      exact congrArg (fun n => at2 (arg11.view.read (Elt F) X11) n c.val) (show 65 + 4 * r.val = 4 * (16 + r.val) + 1 by omega)
    · intro r c
      refine (readAt_at2_fourth arg11.view X11 (⟨![66, 0], S8x128.size, ![4, 1], inb_S512x128_S8x128_66_0_s_4_1⟩ : LoadRect S512x128) 66 rfl rfl (ValueIdx.ix2 r c)).trans ?_
      exact congrArg (fun n => at2 (arg11.view.read (Elt F) X11) n c.val) (show 66 + 4 * r.val = 4 * (16 + r.val) + 2 by omega)
  · intro r l
    refine halfV_apply k.val 0 24 hk (by decide) _ _ (byteW_eq k) rfl _ _ _ _ _ _ ?_ ?_ ?_ ?_ r l
    · intro r c
      exact readAt_at2 arg13.view X13 (k0_off8_inb k) 24 (128 * (k.val / 4)) (off8_eq k) (ValueIdx.ix2 r c)
    · intro r c
      refine (readAt_at2_fourth arg11.view X11 (⟨![96, 0], S8x128.size, ![4, 1], inb_S512x128_S8x128_96_0_s_4_1⟩ : LoadRect S512x128) 96 rfl rfl (ValueIdx.ix2 r c)).trans ?_
      exact congrArg (fun n => at2 (arg11.view.read (Elt F) X11) n c.val) (show 96 + 4 * r.val = 4 * (24 + r.val) by omega)
    · intro r c
      refine (readAt_at2_fourth arg11.view X11 (⟨![97, 0], S8x128.size, ![4, 1], inb_S512x128_S8x128_97_0_s_4_1⟩ : LoadRect S512x128) 97 rfl rfl (ValueIdx.ix2 r c)).trans ?_
      exact congrArg (fun n => at2 (arg11.view.read (Elt F) X11) n c.val) (show 97 + 4 * r.val = 4 * (24 + r.val) + 1 by omega)
    · intro r c
      refine (readAt_at2_fourth arg11.view X11 (⟨![98, 0], S8x128.size, ![4, 1], inb_S512x128_S8x128_98_0_s_4_1⟩ : LoadRect S512x128) 98 rfl rfl (ValueIdx.ix2 r c)).trans ?_
      exact congrArg (fun n => at2 (arg11.view.read (Elt F) X11) n c.val) (show 98 + 4 * r.val = 4 * (24 + r.val) + 2 by omega)
  · intro r l
    refine (readAt_at2 arg12.view X12 inb_S128x128_S32x128_0_0 0 0 rfl (ValueIdx.ix2 r l)).trans ?_
    exact congrArg (fun n => at2 (arg12.view.read (Elt F) X12) (0 + r.val) n) (Nat.zero_add l.val)

/-- Rows 0 to 31 of half 1 of a group of channels. -/
def piece0_1 (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) : FVec F S32x128 .bf16 :=
  rowsV (halfV (byteW k) 16#32 (arg13.view.readAt (Elt F) (Rect.unit (s := S128x512) (k0_off5 k) S8x128.size (k0_off5_inb k)).toLoadRect X13) (arg11.view.readAt (Elt F) (⟨![0, 0], S8x128.size, ![4, 1], inb_S512x128_S8x128_0_0_s_4_1⟩ : LoadRect S512x128) X11) (arg11.view.readAt (Elt F) (⟨![1, 0], S8x128.size, ![4, 1], inb_S512x128_S8x128_1_0_s_4_1⟩ : LoadRect S512x128) X11) (arg11.view.readAt (Elt F) (⟨![2, 0], S8x128.size, ![4, 1], inb_S512x128_S8x128_2_0_s_4_1⟩ : LoadRect S512x128) X11))
    (halfV (byteW k) 16#32 (arg13.view.readAt (Elt F) (Rect.unit (s := S128x512) (k0_off6 k) S8x128.size (k0_off6_inb k)).toLoadRect X13) (arg11.view.readAt (Elt F) (⟨![32, 0], S8x128.size, ![4, 1], inb_S512x128_S8x128_32_0_s_4_1⟩ : LoadRect S512x128) X11) (arg11.view.readAt (Elt F) (⟨![33, 0], S8x128.size, ![4, 1], inb_S512x128_S8x128_33_0_s_4_1⟩ : LoadRect S512x128) X11) (arg11.view.readAt (Elt F) (⟨![34, 0], S8x128.size, ![4, 1], inb_S512x128_S8x128_34_0_s_4_1⟩ : LoadRect S512x128) X11))
    (halfV (byteW k) 16#32 (arg13.view.readAt (Elt F) (Rect.unit (s := S128x512) (k0_off7 k) S8x128.size (k0_off7_inb k)).toLoadRect X13) (arg11.view.readAt (Elt F) (⟨![64, 0], S8x128.size, ![4, 1], inb_S512x128_S8x128_64_0_s_4_1⟩ : LoadRect S512x128) X11) (arg11.view.readAt (Elt F) (⟨![65, 0], S8x128.size, ![4, 1], inb_S512x128_S8x128_65_0_s_4_1⟩ : LoadRect S512x128) X11) (arg11.view.readAt (Elt F) (⟨![66, 0], S8x128.size, ![4, 1], inb_S512x128_S8x128_66_0_s_4_1⟩ : LoadRect S512x128) X11))
    (halfV (byteW k) 16#32 (arg13.view.readAt (Elt F) (Rect.unit (s := S128x512) (k0_off8 k) S8x128.size (k0_off8_inb k)).toLoadRect X13) (arg11.view.readAt (Elt F) (⟨![96, 0], S8x128.size, ![4, 1], inb_S512x128_S8x128_96_0_s_4_1⟩ : LoadRect S512x128) X11) (arg11.view.readAt (Elt F) (⟨![97, 0], S8x128.size, ![4, 1], inb_S512x128_S8x128_97_0_s_4_1⟩ : LoadRect S512x128) X11) (arg11.view.readAt (Elt F) (⟨![98, 0], S8x128.size, ![4, 1], inb_S512x128_S8x128_98_0_s_4_1⟩ : LoadRect S512x128) X11))
    (arg12.view.readAt (Elt F) (Rect.unit (s := S128x128) ![0, 0] S32x128.size inb_S128x128_S32x128_0_0).toLoadRect X12)

/-- What a store of the trip writes, at an entry. -/
theorem piece0_1_apply (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) (x : S32x128.Idx) :
    piece0_1 arg11 arg12 arg13 X11 X12 X13 k x = expandN (at2 (arg13.view.read (Elt F) X13)) (at2 (arg11.view.read (Elt F) X11)) (at2 (arg12.view.read (Elt F) X12)) (0 + (x 0).val) (256 * k.val + 128 * 1 + (x 1).val) := by
  have hk : k.val < 14 := Nat.lt_of_lt_of_le k.isLt k0_t2_abs.2.1
  idx_vars x
  refine rowsV_apply 0 (256 * k.val + 128 * 1) _ _ _ _ _ (at2 (arg13.view.read (Elt F) X13)) (at2 (arg11.view.read (Elt F) X11)) (at2 (arg12.view.read (Elt F) X12)) ?_ ?_ ?_ ?_ ?_ (by omega) _ _
  · intro r l
    refine halfV_apply k.val 1 0 hk (by decide) _ _ (byteW_eq k) rfl _ _ _ _ _ _ ?_ ?_ ?_ ?_ r l
    · intro r c
      exact readAt_at2 arg13.view X13 (k0_off5_inb k) 0 (128 * (k.val / 4)) (off5_eq k) (ValueIdx.ix2 r c)
    · intro r c
      refine (readAt_at2_fourth arg11.view X11 (⟨![0, 0], S8x128.size, ![4, 1], inb_S512x128_S8x128_0_0_s_4_1⟩ : LoadRect S512x128) 0 rfl rfl (ValueIdx.ix2 r c)).trans ?_
      exact congrArg (fun n => at2 (arg11.view.read (Elt F) X11) n c.val) (show 0 + 4 * r.val = 4 * (0 + r.val) by omega)
    · intro r c
      refine (readAt_at2_fourth arg11.view X11 (⟨![1, 0], S8x128.size, ![4, 1], inb_S512x128_S8x128_1_0_s_4_1⟩ : LoadRect S512x128) 1 rfl rfl (ValueIdx.ix2 r c)).trans ?_
      exact congrArg (fun n => at2 (arg11.view.read (Elt F) X11) n c.val) (show 1 + 4 * r.val = 4 * (0 + r.val) + 1 by omega)
    · intro r c
      refine (readAt_at2_fourth arg11.view X11 (⟨![2, 0], S8x128.size, ![4, 1], inb_S512x128_S8x128_2_0_s_4_1⟩ : LoadRect S512x128) 2 rfl rfl (ValueIdx.ix2 r c)).trans ?_
      exact congrArg (fun n => at2 (arg11.view.read (Elt F) X11) n c.val) (show 2 + 4 * r.val = 4 * (0 + r.val) + 2 by omega)
  · intro r l
    refine halfV_apply k.val 1 8 hk (by decide) _ _ (byteW_eq k) rfl _ _ _ _ _ _ ?_ ?_ ?_ ?_ r l
    · intro r c
      exact readAt_at2 arg13.view X13 (k0_off6_inb k) 8 (128 * (k.val / 4)) (off6_eq k) (ValueIdx.ix2 r c)
    · intro r c
      refine (readAt_at2_fourth arg11.view X11 (⟨![32, 0], S8x128.size, ![4, 1], inb_S512x128_S8x128_32_0_s_4_1⟩ : LoadRect S512x128) 32 rfl rfl (ValueIdx.ix2 r c)).trans ?_
      exact congrArg (fun n => at2 (arg11.view.read (Elt F) X11) n c.val) (show 32 + 4 * r.val = 4 * (8 + r.val) by omega)
    · intro r c
      refine (readAt_at2_fourth arg11.view X11 (⟨![33, 0], S8x128.size, ![4, 1], inb_S512x128_S8x128_33_0_s_4_1⟩ : LoadRect S512x128) 33 rfl rfl (ValueIdx.ix2 r c)).trans ?_
      exact congrArg (fun n => at2 (arg11.view.read (Elt F) X11) n c.val) (show 33 + 4 * r.val = 4 * (8 + r.val) + 1 by omega)
    · intro r c
      refine (readAt_at2_fourth arg11.view X11 (⟨![34, 0], S8x128.size, ![4, 1], inb_S512x128_S8x128_34_0_s_4_1⟩ : LoadRect S512x128) 34 rfl rfl (ValueIdx.ix2 r c)).trans ?_
      exact congrArg (fun n => at2 (arg11.view.read (Elt F) X11) n c.val) (show 34 + 4 * r.val = 4 * (8 + r.val) + 2 by omega)
  · intro r l
    refine halfV_apply k.val 1 16 hk (by decide) _ _ (byteW_eq k) rfl _ _ _ _ _ _ ?_ ?_ ?_ ?_ r l
    · intro r c
      exact readAt_at2 arg13.view X13 (k0_off7_inb k) 16 (128 * (k.val / 4)) (off7_eq k) (ValueIdx.ix2 r c)
    · intro r c
      refine (readAt_at2_fourth arg11.view X11 (⟨![64, 0], S8x128.size, ![4, 1], inb_S512x128_S8x128_64_0_s_4_1⟩ : LoadRect S512x128) 64 rfl rfl (ValueIdx.ix2 r c)).trans ?_
      exact congrArg (fun n => at2 (arg11.view.read (Elt F) X11) n c.val) (show 64 + 4 * r.val = 4 * (16 + r.val) by omega)
    · intro r c
      refine (readAt_at2_fourth arg11.view X11 (⟨![65, 0], S8x128.size, ![4, 1], inb_S512x128_S8x128_65_0_s_4_1⟩ : LoadRect S512x128) 65 rfl rfl (ValueIdx.ix2 r c)).trans ?_
      exact congrArg (fun n => at2 (arg11.view.read (Elt F) X11) n c.val) (show 65 + 4 * r.val = 4 * (16 + r.val) + 1 by omega)
    · intro r c
      refine (readAt_at2_fourth arg11.view X11 (⟨![66, 0], S8x128.size, ![4, 1], inb_S512x128_S8x128_66_0_s_4_1⟩ : LoadRect S512x128) 66 rfl rfl (ValueIdx.ix2 r c)).trans ?_
      exact congrArg (fun n => at2 (arg11.view.read (Elt F) X11) n c.val) (show 66 + 4 * r.val = 4 * (16 + r.val) + 2 by omega)
  · intro r l
    refine halfV_apply k.val 1 24 hk (by decide) _ _ (byteW_eq k) rfl _ _ _ _ _ _ ?_ ?_ ?_ ?_ r l
    · intro r c
      exact readAt_at2 arg13.view X13 (k0_off8_inb k) 24 (128 * (k.val / 4)) (off8_eq k) (ValueIdx.ix2 r c)
    · intro r c
      refine (readAt_at2_fourth arg11.view X11 (⟨![96, 0], S8x128.size, ![4, 1], inb_S512x128_S8x128_96_0_s_4_1⟩ : LoadRect S512x128) 96 rfl rfl (ValueIdx.ix2 r c)).trans ?_
      exact congrArg (fun n => at2 (arg11.view.read (Elt F) X11) n c.val) (show 96 + 4 * r.val = 4 * (24 + r.val) by omega)
    · intro r c
      refine (readAt_at2_fourth arg11.view X11 (⟨![97, 0], S8x128.size, ![4, 1], inb_S512x128_S8x128_97_0_s_4_1⟩ : LoadRect S512x128) 97 rfl rfl (ValueIdx.ix2 r c)).trans ?_
      exact congrArg (fun n => at2 (arg11.view.read (Elt F) X11) n c.val) (show 97 + 4 * r.val = 4 * (24 + r.val) + 1 by omega)
    · intro r c
      refine (readAt_at2_fourth arg11.view X11 (⟨![98, 0], S8x128.size, ![4, 1], inb_S512x128_S8x128_98_0_s_4_1⟩ : LoadRect S512x128) 98 rfl rfl (ValueIdx.ix2 r c)).trans ?_
      exact congrArg (fun n => at2 (arg11.view.read (Elt F) X11) n c.val) (show 98 + 4 * r.val = 4 * (24 + r.val) + 2 by omega)
  · intro r l
    refine (readAt_at2 arg12.view X12 inb_S128x128_S32x128_0_0 0 0 rfl (ValueIdx.ix2 r l)).trans ?_
    exact congrArg (fun n => at2 (arg12.view.read (Elt F) X12) (0 + r.val) n) (Nat.zero_add l.val)

/-- Rows 32 to 63 of half 0 of a group of channels. -/
def piece1_0 (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) : FVec F S32x128 .bf16 :=
  rowsV (halfV (byteW k) 0#32 (arg13.view.readAt (Elt F) (Rect.unit (s := S128x512) (k0_off10 k) S8x128.size (k0_off10_inb k)).toLoadRect X13) (arg11.view.readAt (Elt F) (⟨![128, 0], S8x128.size, ![4, 1], inb_S512x128_S8x128_128_0_s_4_1⟩ : LoadRect S512x128) X11) (arg11.view.readAt (Elt F) (⟨![129, 0], S8x128.size, ![4, 1], inb_S512x128_S8x128_129_0_s_4_1⟩ : LoadRect S512x128) X11) (arg11.view.readAt (Elt F) (⟨![130, 0], S8x128.size, ![4, 1], inb_S512x128_S8x128_130_0_s_4_1⟩ : LoadRect S512x128) X11))
    (halfV (byteW k) 0#32 (arg13.view.readAt (Elt F) (Rect.unit (s := S128x512) (k0_off11 k) S8x128.size (k0_off11_inb k)).toLoadRect X13) (arg11.view.readAt (Elt F) (⟨![160, 0], S8x128.size, ![4, 1], inb_S512x128_S8x128_160_0_s_4_1⟩ : LoadRect S512x128) X11) (arg11.view.readAt (Elt F) (⟨![161, 0], S8x128.size, ![4, 1], inb_S512x128_S8x128_161_0_s_4_1⟩ : LoadRect S512x128) X11) (arg11.view.readAt (Elt F) (⟨![162, 0], S8x128.size, ![4, 1], inb_S512x128_S8x128_162_0_s_4_1⟩ : LoadRect S512x128) X11))
    (halfV (byteW k) 0#32 (arg13.view.readAt (Elt F) (Rect.unit (s := S128x512) (k0_off12 k) S8x128.size (k0_off12_inb k)).toLoadRect X13) (arg11.view.readAt (Elt F) (⟨![192, 0], S8x128.size, ![4, 1], inb_S512x128_S8x128_192_0_s_4_1⟩ : LoadRect S512x128) X11) (arg11.view.readAt (Elt F) (⟨![193, 0], S8x128.size, ![4, 1], inb_S512x128_S8x128_193_0_s_4_1⟩ : LoadRect S512x128) X11) (arg11.view.readAt (Elt F) (⟨![194, 0], S8x128.size, ![4, 1], inb_S512x128_S8x128_194_0_s_4_1⟩ : LoadRect S512x128) X11))
    (halfV (byteW k) 0#32 (arg13.view.readAt (Elt F) (Rect.unit (s := S128x512) (k0_off13 k) S8x128.size (k0_off13_inb k)).toLoadRect X13) (arg11.view.readAt (Elt F) (⟨![224, 0], S8x128.size, ![4, 1], inb_S512x128_S8x128_224_0_s_4_1⟩ : LoadRect S512x128) X11) (arg11.view.readAt (Elt F) (⟨![225, 0], S8x128.size, ![4, 1], inb_S512x128_S8x128_225_0_s_4_1⟩ : LoadRect S512x128) X11) (arg11.view.readAt (Elt F) (⟨![226, 0], S8x128.size, ![4, 1], inb_S512x128_S8x128_226_0_s_4_1⟩ : LoadRect S512x128) X11))
    (arg12.view.readAt (Elt F) (Rect.unit (s := S128x128) ![32, 0] S32x128.size inb_S128x128_S32x128_32_0).toLoadRect X12)

/-- What a store of the trip writes, at an entry. -/
theorem piece1_0_apply (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) (x : S32x128.Idx) :
    piece1_0 arg11 arg12 arg13 X11 X12 X13 k x = expandN (at2 (arg13.view.read (Elt F) X13)) (at2 (arg11.view.read (Elt F) X11)) (at2 (arg12.view.read (Elt F) X12)) (32 + (x 0).val) (256 * k.val + 128 * 0 + (x 1).val) := by
  have hk : k.val < 14 := Nat.lt_of_lt_of_le k.isLt k0_t2_abs.2.1
  idx_vars x
  refine rowsV_apply 1 (256 * k.val + 128 * 0) _ _ _ _ _ (at2 (arg13.view.read (Elt F) X13)) (at2 (arg11.view.read (Elt F) X11)) (at2 (arg12.view.read (Elt F) X12)) ?_ ?_ ?_ ?_ ?_ (by omega) _ _
  · intro r l
    refine halfV_apply k.val 0 32 hk (by decide) _ _ (byteW_eq k) rfl _ _ _ _ _ _ ?_ ?_ ?_ ?_ r l
    · intro r c
      exact readAt_at2 arg13.view X13 (k0_off10_inb k) 32 (128 * (k.val / 4)) (off10_eq k) (ValueIdx.ix2 r c)
    · intro r c
      refine (readAt_at2_fourth arg11.view X11 (⟨![128, 0], S8x128.size, ![4, 1], inb_S512x128_S8x128_128_0_s_4_1⟩ : LoadRect S512x128) 128 rfl rfl (ValueIdx.ix2 r c)).trans ?_
      exact congrArg (fun n => at2 (arg11.view.read (Elt F) X11) n c.val) (show 128 + 4 * r.val = 4 * (32 + r.val) by omega)
    · intro r c
      refine (readAt_at2_fourth arg11.view X11 (⟨![129, 0], S8x128.size, ![4, 1], inb_S512x128_S8x128_129_0_s_4_1⟩ : LoadRect S512x128) 129 rfl rfl (ValueIdx.ix2 r c)).trans ?_
      exact congrArg (fun n => at2 (arg11.view.read (Elt F) X11) n c.val) (show 129 + 4 * r.val = 4 * (32 + r.val) + 1 by omega)
    · intro r c
      refine (readAt_at2_fourth arg11.view X11 (⟨![130, 0], S8x128.size, ![4, 1], inb_S512x128_S8x128_130_0_s_4_1⟩ : LoadRect S512x128) 130 rfl rfl (ValueIdx.ix2 r c)).trans ?_
      exact congrArg (fun n => at2 (arg11.view.read (Elt F) X11) n c.val) (show 130 + 4 * r.val = 4 * (32 + r.val) + 2 by omega)
  · intro r l
    refine halfV_apply k.val 0 40 hk (by decide) _ _ (byteW_eq k) rfl _ _ _ _ _ _ ?_ ?_ ?_ ?_ r l
    · intro r c
      exact readAt_at2 arg13.view X13 (k0_off11_inb k) 40 (128 * (k.val / 4)) (off11_eq k) (ValueIdx.ix2 r c)
    · intro r c
      refine (readAt_at2_fourth arg11.view X11 (⟨![160, 0], S8x128.size, ![4, 1], inb_S512x128_S8x128_160_0_s_4_1⟩ : LoadRect S512x128) 160 rfl rfl (ValueIdx.ix2 r c)).trans ?_
      exact congrArg (fun n => at2 (arg11.view.read (Elt F) X11) n c.val) (show 160 + 4 * r.val = 4 * (40 + r.val) by omega)
    · intro r c
      refine (readAt_at2_fourth arg11.view X11 (⟨![161, 0], S8x128.size, ![4, 1], inb_S512x128_S8x128_161_0_s_4_1⟩ : LoadRect S512x128) 161 rfl rfl (ValueIdx.ix2 r c)).trans ?_
      exact congrArg (fun n => at2 (arg11.view.read (Elt F) X11) n c.val) (show 161 + 4 * r.val = 4 * (40 + r.val) + 1 by omega)
    · intro r c
      refine (readAt_at2_fourth arg11.view X11 (⟨![162, 0], S8x128.size, ![4, 1], inb_S512x128_S8x128_162_0_s_4_1⟩ : LoadRect S512x128) 162 rfl rfl (ValueIdx.ix2 r c)).trans ?_
      exact congrArg (fun n => at2 (arg11.view.read (Elt F) X11) n c.val) (show 162 + 4 * r.val = 4 * (40 + r.val) + 2 by omega)
  · intro r l
    refine halfV_apply k.val 0 48 hk (by decide) _ _ (byteW_eq k) rfl _ _ _ _ _ _ ?_ ?_ ?_ ?_ r l
    · intro r c
      exact readAt_at2 arg13.view X13 (k0_off12_inb k) 48 (128 * (k.val / 4)) (off12_eq k) (ValueIdx.ix2 r c)
    · intro r c
      refine (readAt_at2_fourth arg11.view X11 (⟨![192, 0], S8x128.size, ![4, 1], inb_S512x128_S8x128_192_0_s_4_1⟩ : LoadRect S512x128) 192 rfl rfl (ValueIdx.ix2 r c)).trans ?_
      exact congrArg (fun n => at2 (arg11.view.read (Elt F) X11) n c.val) (show 192 + 4 * r.val = 4 * (48 + r.val) by omega)
    · intro r c
      refine (readAt_at2_fourth arg11.view X11 (⟨![193, 0], S8x128.size, ![4, 1], inb_S512x128_S8x128_193_0_s_4_1⟩ : LoadRect S512x128) 193 rfl rfl (ValueIdx.ix2 r c)).trans ?_
      exact congrArg (fun n => at2 (arg11.view.read (Elt F) X11) n c.val) (show 193 + 4 * r.val = 4 * (48 + r.val) + 1 by omega)
    · intro r c
      refine (readAt_at2_fourth arg11.view X11 (⟨![194, 0], S8x128.size, ![4, 1], inb_S512x128_S8x128_194_0_s_4_1⟩ : LoadRect S512x128) 194 rfl rfl (ValueIdx.ix2 r c)).trans ?_
      exact congrArg (fun n => at2 (arg11.view.read (Elt F) X11) n c.val) (show 194 + 4 * r.val = 4 * (48 + r.val) + 2 by omega)
  · intro r l
    refine halfV_apply k.val 0 56 hk (by decide) _ _ (byteW_eq k) rfl _ _ _ _ _ _ ?_ ?_ ?_ ?_ r l
    · intro r c
      exact readAt_at2 arg13.view X13 (k0_off13_inb k) 56 (128 * (k.val / 4)) (off13_eq k) (ValueIdx.ix2 r c)
    · intro r c
      refine (readAt_at2_fourth arg11.view X11 (⟨![224, 0], S8x128.size, ![4, 1], inb_S512x128_S8x128_224_0_s_4_1⟩ : LoadRect S512x128) 224 rfl rfl (ValueIdx.ix2 r c)).trans ?_
      exact congrArg (fun n => at2 (arg11.view.read (Elt F) X11) n c.val) (show 224 + 4 * r.val = 4 * (56 + r.val) by omega)
    · intro r c
      refine (readAt_at2_fourth arg11.view X11 (⟨![225, 0], S8x128.size, ![4, 1], inb_S512x128_S8x128_225_0_s_4_1⟩ : LoadRect S512x128) 225 rfl rfl (ValueIdx.ix2 r c)).trans ?_
      exact congrArg (fun n => at2 (arg11.view.read (Elt F) X11) n c.val) (show 225 + 4 * r.val = 4 * (56 + r.val) + 1 by omega)
    · intro r c
      refine (readAt_at2_fourth arg11.view X11 (⟨![226, 0], S8x128.size, ![4, 1], inb_S512x128_S8x128_226_0_s_4_1⟩ : LoadRect S512x128) 226 rfl rfl (ValueIdx.ix2 r c)).trans ?_
      exact congrArg (fun n => at2 (arg11.view.read (Elt F) X11) n c.val) (show 226 + 4 * r.val = 4 * (56 + r.val) + 2 by omega)
  · intro r l
    refine (readAt_at2 arg12.view X12 inb_S128x128_S32x128_32_0 32 0 rfl (ValueIdx.ix2 r l)).trans ?_
    exact congrArg (fun n => at2 (arg12.view.read (Elt F) X12) (32 + r.val) n) (Nat.zero_add l.val)

/-- Rows 32 to 63 of half 1 of a group of channels. -/
def piece1_1 (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) : FVec F S32x128 .bf16 :=
  rowsV (halfV (byteW k) 16#32 (arg13.view.readAt (Elt F) (Rect.unit (s := S128x512) (k0_off10 k) S8x128.size (k0_off10_inb k)).toLoadRect X13) (arg11.view.readAt (Elt F) (⟨![128, 0], S8x128.size, ![4, 1], inb_S512x128_S8x128_128_0_s_4_1⟩ : LoadRect S512x128) X11) (arg11.view.readAt (Elt F) (⟨![129, 0], S8x128.size, ![4, 1], inb_S512x128_S8x128_129_0_s_4_1⟩ : LoadRect S512x128) X11) (arg11.view.readAt (Elt F) (⟨![130, 0], S8x128.size, ![4, 1], inb_S512x128_S8x128_130_0_s_4_1⟩ : LoadRect S512x128) X11))
    (halfV (byteW k) 16#32 (arg13.view.readAt (Elt F) (Rect.unit (s := S128x512) (k0_off11 k) S8x128.size (k0_off11_inb k)).toLoadRect X13) (arg11.view.readAt (Elt F) (⟨![160, 0], S8x128.size, ![4, 1], inb_S512x128_S8x128_160_0_s_4_1⟩ : LoadRect S512x128) X11) (arg11.view.readAt (Elt F) (⟨![161, 0], S8x128.size, ![4, 1], inb_S512x128_S8x128_161_0_s_4_1⟩ : LoadRect S512x128) X11) (arg11.view.readAt (Elt F) (⟨![162, 0], S8x128.size, ![4, 1], inb_S512x128_S8x128_162_0_s_4_1⟩ : LoadRect S512x128) X11))
    (halfV (byteW k) 16#32 (arg13.view.readAt (Elt F) (Rect.unit (s := S128x512) (k0_off12 k) S8x128.size (k0_off12_inb k)).toLoadRect X13) (arg11.view.readAt (Elt F) (⟨![192, 0], S8x128.size, ![4, 1], inb_S512x128_S8x128_192_0_s_4_1⟩ : LoadRect S512x128) X11) (arg11.view.readAt (Elt F) (⟨![193, 0], S8x128.size, ![4, 1], inb_S512x128_S8x128_193_0_s_4_1⟩ : LoadRect S512x128) X11) (arg11.view.readAt (Elt F) (⟨![194, 0], S8x128.size, ![4, 1], inb_S512x128_S8x128_194_0_s_4_1⟩ : LoadRect S512x128) X11))
    (halfV (byteW k) 16#32 (arg13.view.readAt (Elt F) (Rect.unit (s := S128x512) (k0_off13 k) S8x128.size (k0_off13_inb k)).toLoadRect X13) (arg11.view.readAt (Elt F) (⟨![224, 0], S8x128.size, ![4, 1], inb_S512x128_S8x128_224_0_s_4_1⟩ : LoadRect S512x128) X11) (arg11.view.readAt (Elt F) (⟨![225, 0], S8x128.size, ![4, 1], inb_S512x128_S8x128_225_0_s_4_1⟩ : LoadRect S512x128) X11) (arg11.view.readAt (Elt F) (⟨![226, 0], S8x128.size, ![4, 1], inb_S512x128_S8x128_226_0_s_4_1⟩ : LoadRect S512x128) X11))
    (arg12.view.readAt (Elt F) (Rect.unit (s := S128x128) ![32, 0] S32x128.size inb_S128x128_S32x128_32_0).toLoadRect X12)

/-- What a store of the trip writes, at an entry. -/
theorem piece1_1_apply (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) (x : S32x128.Idx) :
    piece1_1 arg11 arg12 arg13 X11 X12 X13 k x = expandN (at2 (arg13.view.read (Elt F) X13)) (at2 (arg11.view.read (Elt F) X11)) (at2 (arg12.view.read (Elt F) X12)) (32 + (x 0).val) (256 * k.val + 128 * 1 + (x 1).val) := by
  have hk : k.val < 14 := Nat.lt_of_lt_of_le k.isLt k0_t2_abs.2.1
  idx_vars x
  refine rowsV_apply 1 (256 * k.val + 128 * 1) _ _ _ _ _ (at2 (arg13.view.read (Elt F) X13)) (at2 (arg11.view.read (Elt F) X11)) (at2 (arg12.view.read (Elt F) X12)) ?_ ?_ ?_ ?_ ?_ (by omega) _ _
  · intro r l
    refine halfV_apply k.val 1 32 hk (by decide) _ _ (byteW_eq k) rfl _ _ _ _ _ _ ?_ ?_ ?_ ?_ r l
    · intro r c
      exact readAt_at2 arg13.view X13 (k0_off10_inb k) 32 (128 * (k.val / 4)) (off10_eq k) (ValueIdx.ix2 r c)
    · intro r c
      refine (readAt_at2_fourth arg11.view X11 (⟨![128, 0], S8x128.size, ![4, 1], inb_S512x128_S8x128_128_0_s_4_1⟩ : LoadRect S512x128) 128 rfl rfl (ValueIdx.ix2 r c)).trans ?_
      exact congrArg (fun n => at2 (arg11.view.read (Elt F) X11) n c.val) (show 128 + 4 * r.val = 4 * (32 + r.val) by omega)
    · intro r c
      refine (readAt_at2_fourth arg11.view X11 (⟨![129, 0], S8x128.size, ![4, 1], inb_S512x128_S8x128_129_0_s_4_1⟩ : LoadRect S512x128) 129 rfl rfl (ValueIdx.ix2 r c)).trans ?_
      exact congrArg (fun n => at2 (arg11.view.read (Elt F) X11) n c.val) (show 129 + 4 * r.val = 4 * (32 + r.val) + 1 by omega)
    · intro r c
      refine (readAt_at2_fourth arg11.view X11 (⟨![130, 0], S8x128.size, ![4, 1], inb_S512x128_S8x128_130_0_s_4_1⟩ : LoadRect S512x128) 130 rfl rfl (ValueIdx.ix2 r c)).trans ?_
      exact congrArg (fun n => at2 (arg11.view.read (Elt F) X11) n c.val) (show 130 + 4 * r.val = 4 * (32 + r.val) + 2 by omega)
  · intro r l
    refine halfV_apply k.val 1 40 hk (by decide) _ _ (byteW_eq k) rfl _ _ _ _ _ _ ?_ ?_ ?_ ?_ r l
    · intro r c
      exact readAt_at2 arg13.view X13 (k0_off11_inb k) 40 (128 * (k.val / 4)) (off11_eq k) (ValueIdx.ix2 r c)
    · intro r c
      refine (readAt_at2_fourth arg11.view X11 (⟨![160, 0], S8x128.size, ![4, 1], inb_S512x128_S8x128_160_0_s_4_1⟩ : LoadRect S512x128) 160 rfl rfl (ValueIdx.ix2 r c)).trans ?_
      exact congrArg (fun n => at2 (arg11.view.read (Elt F) X11) n c.val) (show 160 + 4 * r.val = 4 * (40 + r.val) by omega)
    · intro r c
      refine (readAt_at2_fourth arg11.view X11 (⟨![161, 0], S8x128.size, ![4, 1], inb_S512x128_S8x128_161_0_s_4_1⟩ : LoadRect S512x128) 161 rfl rfl (ValueIdx.ix2 r c)).trans ?_
      exact congrArg (fun n => at2 (arg11.view.read (Elt F) X11) n c.val) (show 161 + 4 * r.val = 4 * (40 + r.val) + 1 by omega)
    · intro r c
      refine (readAt_at2_fourth arg11.view X11 (⟨![162, 0], S8x128.size, ![4, 1], inb_S512x128_S8x128_162_0_s_4_1⟩ : LoadRect S512x128) 162 rfl rfl (ValueIdx.ix2 r c)).trans ?_
      exact congrArg (fun n => at2 (arg11.view.read (Elt F) X11) n c.val) (show 162 + 4 * r.val = 4 * (40 + r.val) + 2 by omega)
  · intro r l
    refine halfV_apply k.val 1 48 hk (by decide) _ _ (byteW_eq k) rfl _ _ _ _ _ _ ?_ ?_ ?_ ?_ r l
    · intro r c
      exact readAt_at2 arg13.view X13 (k0_off12_inb k) 48 (128 * (k.val / 4)) (off12_eq k) (ValueIdx.ix2 r c)
    · intro r c
      refine (readAt_at2_fourth arg11.view X11 (⟨![192, 0], S8x128.size, ![4, 1], inb_S512x128_S8x128_192_0_s_4_1⟩ : LoadRect S512x128) 192 rfl rfl (ValueIdx.ix2 r c)).trans ?_
      exact congrArg (fun n => at2 (arg11.view.read (Elt F) X11) n c.val) (show 192 + 4 * r.val = 4 * (48 + r.val) by omega)
    · intro r c
      refine (readAt_at2_fourth arg11.view X11 (⟨![193, 0], S8x128.size, ![4, 1], inb_S512x128_S8x128_193_0_s_4_1⟩ : LoadRect S512x128) 193 rfl rfl (ValueIdx.ix2 r c)).trans ?_
      exact congrArg (fun n => at2 (arg11.view.read (Elt F) X11) n c.val) (show 193 + 4 * r.val = 4 * (48 + r.val) + 1 by omega)
    · intro r c
      refine (readAt_at2_fourth arg11.view X11 (⟨![194, 0], S8x128.size, ![4, 1], inb_S512x128_S8x128_194_0_s_4_1⟩ : LoadRect S512x128) 194 rfl rfl (ValueIdx.ix2 r c)).trans ?_
      exact congrArg (fun n => at2 (arg11.view.read (Elt F) X11) n c.val) (show 194 + 4 * r.val = 4 * (48 + r.val) + 2 by omega)
  · intro r l
    refine halfV_apply k.val 1 56 hk (by decide) _ _ (byteW_eq k) rfl _ _ _ _ _ _ ?_ ?_ ?_ ?_ r l
    · intro r c
      exact readAt_at2 arg13.view X13 (k0_off13_inb k) 56 (128 * (k.val / 4)) (off13_eq k) (ValueIdx.ix2 r c)
    · intro r c
      refine (readAt_at2_fourth arg11.view X11 (⟨![224, 0], S8x128.size, ![4, 1], inb_S512x128_S8x128_224_0_s_4_1⟩ : LoadRect S512x128) 224 rfl rfl (ValueIdx.ix2 r c)).trans ?_
      exact congrArg (fun n => at2 (arg11.view.read (Elt F) X11) n c.val) (show 224 + 4 * r.val = 4 * (56 + r.val) by omega)
    · intro r c
      refine (readAt_at2_fourth arg11.view X11 (⟨![225, 0], S8x128.size, ![4, 1], inb_S512x128_S8x128_225_0_s_4_1⟩ : LoadRect S512x128) 225 rfl rfl (ValueIdx.ix2 r c)).trans ?_
      exact congrArg (fun n => at2 (arg11.view.read (Elt F) X11) n c.val) (show 225 + 4 * r.val = 4 * (56 + r.val) + 1 by omega)
    · intro r c
      refine (readAt_at2_fourth arg11.view X11 (⟨![226, 0], S8x128.size, ![4, 1], inb_S512x128_S8x128_226_0_s_4_1⟩ : LoadRect S512x128) 226 rfl rfl (ValueIdx.ix2 r c)).trans ?_
      exact congrArg (fun n => at2 (arg11.view.read (Elt F) X11) n c.val) (show 226 + 4 * r.val = 4 * (56 + r.val) + 2 by omega)
  · intro r l
    refine (readAt_at2 arg12.view X12 inb_S128x128_S32x128_32_0 32 0 rfl (ValueIdx.ix2 r l)).trans ?_
    exact congrArg (fun n => at2 (arg12.view.read (Elt F) X12) (32 + r.val) n) (Nat.zero_add l.val)

/-- Rows 64 to 95 of half 0 of a group of channels. -/
def piece2_0 (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) : FVec F S32x128 .bf16 :=
  rowsV (halfV (byteW k) 0#32 (arg13.view.readAt (Elt F) (Rect.unit (s := S128x512) (k0_off15 k) S8x128.size (k0_off15_inb k)).toLoadRect X13) (arg11.view.readAt (Elt F) (⟨![256, 0], S8x128.size, ![4, 1], inb_S512x128_S8x128_256_0_s_4_1⟩ : LoadRect S512x128) X11) (arg11.view.readAt (Elt F) (⟨![257, 0], S8x128.size, ![4, 1], inb_S512x128_S8x128_257_0_s_4_1⟩ : LoadRect S512x128) X11) (arg11.view.readAt (Elt F) (⟨![258, 0], S8x128.size, ![4, 1], inb_S512x128_S8x128_258_0_s_4_1⟩ : LoadRect S512x128) X11))
    (halfV (byteW k) 0#32 (arg13.view.readAt (Elt F) (Rect.unit (s := S128x512) (k0_off16 k) S8x128.size (k0_off16_inb k)).toLoadRect X13) (arg11.view.readAt (Elt F) (⟨![288, 0], S8x128.size, ![4, 1], inb_S512x128_S8x128_288_0_s_4_1⟩ : LoadRect S512x128) X11) (arg11.view.readAt (Elt F) (⟨![289, 0], S8x128.size, ![4, 1], inb_S512x128_S8x128_289_0_s_4_1⟩ : LoadRect S512x128) X11) (arg11.view.readAt (Elt F) (⟨![290, 0], S8x128.size, ![4, 1], inb_S512x128_S8x128_290_0_s_4_1⟩ : LoadRect S512x128) X11))
    (halfV (byteW k) 0#32 (arg13.view.readAt (Elt F) (Rect.unit (s := S128x512) (k0_off17 k) S8x128.size (k0_off17_inb k)).toLoadRect X13) (arg11.view.readAt (Elt F) (⟨![320, 0], S8x128.size, ![4, 1], inb_S512x128_S8x128_320_0_s_4_1⟩ : LoadRect S512x128) X11) (arg11.view.readAt (Elt F) (⟨![321, 0], S8x128.size, ![4, 1], inb_S512x128_S8x128_321_0_s_4_1⟩ : LoadRect S512x128) X11) (arg11.view.readAt (Elt F) (⟨![322, 0], S8x128.size, ![4, 1], inb_S512x128_S8x128_322_0_s_4_1⟩ : LoadRect S512x128) X11))
    (halfV (byteW k) 0#32 (arg13.view.readAt (Elt F) (Rect.unit (s := S128x512) (k0_off18 k) S8x128.size (k0_off18_inb k)).toLoadRect X13) (arg11.view.readAt (Elt F) (⟨![352, 0], S8x128.size, ![4, 1], inb_S512x128_S8x128_352_0_s_4_1⟩ : LoadRect S512x128) X11) (arg11.view.readAt (Elt F) (⟨![353, 0], S8x128.size, ![4, 1], inb_S512x128_S8x128_353_0_s_4_1⟩ : LoadRect S512x128) X11) (arg11.view.readAt (Elt F) (⟨![354, 0], S8x128.size, ![4, 1], inb_S512x128_S8x128_354_0_s_4_1⟩ : LoadRect S512x128) X11))
    (arg12.view.readAt (Elt F) (Rect.unit (s := S128x128) ![64, 0] S32x128.size inb_S128x128_S32x128_64_0).toLoadRect X12)

/-- What a store of the trip writes, at an entry. -/
theorem piece2_0_apply (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) (x : S32x128.Idx) :
    piece2_0 arg11 arg12 arg13 X11 X12 X13 k x = expandN (at2 (arg13.view.read (Elt F) X13)) (at2 (arg11.view.read (Elt F) X11)) (at2 (arg12.view.read (Elt F) X12)) (64 + (x 0).val) (256 * k.val + 128 * 0 + (x 1).val) := by
  have hk : k.val < 14 := Nat.lt_of_lt_of_le k.isLt k0_t2_abs.2.1
  idx_vars x
  refine rowsV_apply 2 (256 * k.val + 128 * 0) _ _ _ _ _ (at2 (arg13.view.read (Elt F) X13)) (at2 (arg11.view.read (Elt F) X11)) (at2 (arg12.view.read (Elt F) X12)) ?_ ?_ ?_ ?_ ?_ (by omega) _ _
  · intro r l
    refine halfV_apply k.val 0 64 hk (by decide) _ _ (byteW_eq k) rfl _ _ _ _ _ _ ?_ ?_ ?_ ?_ r l
    · intro r c
      exact readAt_at2 arg13.view X13 (k0_off15_inb k) 64 (128 * (k.val / 4)) (off15_eq k) (ValueIdx.ix2 r c)
    · intro r c
      refine (readAt_at2_fourth arg11.view X11 (⟨![256, 0], S8x128.size, ![4, 1], inb_S512x128_S8x128_256_0_s_4_1⟩ : LoadRect S512x128) 256 rfl rfl (ValueIdx.ix2 r c)).trans ?_
      exact congrArg (fun n => at2 (arg11.view.read (Elt F) X11) n c.val) (show 256 + 4 * r.val = 4 * (64 + r.val) by omega)
    · intro r c
      refine (readAt_at2_fourth arg11.view X11 (⟨![257, 0], S8x128.size, ![4, 1], inb_S512x128_S8x128_257_0_s_4_1⟩ : LoadRect S512x128) 257 rfl rfl (ValueIdx.ix2 r c)).trans ?_
      exact congrArg (fun n => at2 (arg11.view.read (Elt F) X11) n c.val) (show 257 + 4 * r.val = 4 * (64 + r.val) + 1 by omega)
    · intro r c
      refine (readAt_at2_fourth arg11.view X11 (⟨![258, 0], S8x128.size, ![4, 1], inb_S512x128_S8x128_258_0_s_4_1⟩ : LoadRect S512x128) 258 rfl rfl (ValueIdx.ix2 r c)).trans ?_
      exact congrArg (fun n => at2 (arg11.view.read (Elt F) X11) n c.val) (show 258 + 4 * r.val = 4 * (64 + r.val) + 2 by omega)
  · intro r l
    refine halfV_apply k.val 0 72 hk (by decide) _ _ (byteW_eq k) rfl _ _ _ _ _ _ ?_ ?_ ?_ ?_ r l
    · intro r c
      exact readAt_at2 arg13.view X13 (k0_off16_inb k) 72 (128 * (k.val / 4)) (off16_eq k) (ValueIdx.ix2 r c)
    · intro r c
      refine (readAt_at2_fourth arg11.view X11 (⟨![288, 0], S8x128.size, ![4, 1], inb_S512x128_S8x128_288_0_s_4_1⟩ : LoadRect S512x128) 288 rfl rfl (ValueIdx.ix2 r c)).trans ?_
      exact congrArg (fun n => at2 (arg11.view.read (Elt F) X11) n c.val) (show 288 + 4 * r.val = 4 * (72 + r.val) by omega)
    · intro r c
      refine (readAt_at2_fourth arg11.view X11 (⟨![289, 0], S8x128.size, ![4, 1], inb_S512x128_S8x128_289_0_s_4_1⟩ : LoadRect S512x128) 289 rfl rfl (ValueIdx.ix2 r c)).trans ?_
      exact congrArg (fun n => at2 (arg11.view.read (Elt F) X11) n c.val) (show 289 + 4 * r.val = 4 * (72 + r.val) + 1 by omega)
    · intro r c
      refine (readAt_at2_fourth arg11.view X11 (⟨![290, 0], S8x128.size, ![4, 1], inb_S512x128_S8x128_290_0_s_4_1⟩ : LoadRect S512x128) 290 rfl rfl (ValueIdx.ix2 r c)).trans ?_
      exact congrArg (fun n => at2 (arg11.view.read (Elt F) X11) n c.val) (show 290 + 4 * r.val = 4 * (72 + r.val) + 2 by omega)
  · intro r l
    refine halfV_apply k.val 0 80 hk (by decide) _ _ (byteW_eq k) rfl _ _ _ _ _ _ ?_ ?_ ?_ ?_ r l
    · intro r c
      exact readAt_at2 arg13.view X13 (k0_off17_inb k) 80 (128 * (k.val / 4)) (off17_eq k) (ValueIdx.ix2 r c)
    · intro r c
      refine (readAt_at2_fourth arg11.view X11 (⟨![320, 0], S8x128.size, ![4, 1], inb_S512x128_S8x128_320_0_s_4_1⟩ : LoadRect S512x128) 320 rfl rfl (ValueIdx.ix2 r c)).trans ?_
      exact congrArg (fun n => at2 (arg11.view.read (Elt F) X11) n c.val) (show 320 + 4 * r.val = 4 * (80 + r.val) by omega)
    · intro r c
      refine (readAt_at2_fourth arg11.view X11 (⟨![321, 0], S8x128.size, ![4, 1], inb_S512x128_S8x128_321_0_s_4_1⟩ : LoadRect S512x128) 321 rfl rfl (ValueIdx.ix2 r c)).trans ?_
      exact congrArg (fun n => at2 (arg11.view.read (Elt F) X11) n c.val) (show 321 + 4 * r.val = 4 * (80 + r.val) + 1 by omega)
    · intro r c
      refine (readAt_at2_fourth arg11.view X11 (⟨![322, 0], S8x128.size, ![4, 1], inb_S512x128_S8x128_322_0_s_4_1⟩ : LoadRect S512x128) 322 rfl rfl (ValueIdx.ix2 r c)).trans ?_
      exact congrArg (fun n => at2 (arg11.view.read (Elt F) X11) n c.val) (show 322 + 4 * r.val = 4 * (80 + r.val) + 2 by omega)
  · intro r l
    refine halfV_apply k.val 0 88 hk (by decide) _ _ (byteW_eq k) rfl _ _ _ _ _ _ ?_ ?_ ?_ ?_ r l
    · intro r c
      exact readAt_at2 arg13.view X13 (k0_off18_inb k) 88 (128 * (k.val / 4)) (off18_eq k) (ValueIdx.ix2 r c)
    · intro r c
      refine (readAt_at2_fourth arg11.view X11 (⟨![352, 0], S8x128.size, ![4, 1], inb_S512x128_S8x128_352_0_s_4_1⟩ : LoadRect S512x128) 352 rfl rfl (ValueIdx.ix2 r c)).trans ?_
      exact congrArg (fun n => at2 (arg11.view.read (Elt F) X11) n c.val) (show 352 + 4 * r.val = 4 * (88 + r.val) by omega)
    · intro r c
      refine (readAt_at2_fourth arg11.view X11 (⟨![353, 0], S8x128.size, ![4, 1], inb_S512x128_S8x128_353_0_s_4_1⟩ : LoadRect S512x128) 353 rfl rfl (ValueIdx.ix2 r c)).trans ?_
      exact congrArg (fun n => at2 (arg11.view.read (Elt F) X11) n c.val) (show 353 + 4 * r.val = 4 * (88 + r.val) + 1 by omega)
    · intro r c
      refine (readAt_at2_fourth arg11.view X11 (⟨![354, 0], S8x128.size, ![4, 1], inb_S512x128_S8x128_354_0_s_4_1⟩ : LoadRect S512x128) 354 rfl rfl (ValueIdx.ix2 r c)).trans ?_
      exact congrArg (fun n => at2 (arg11.view.read (Elt F) X11) n c.val) (show 354 + 4 * r.val = 4 * (88 + r.val) + 2 by omega)
  · intro r l
    refine (readAt_at2 arg12.view X12 inb_S128x128_S32x128_64_0 64 0 rfl (ValueIdx.ix2 r l)).trans ?_
    exact congrArg (fun n => at2 (arg12.view.read (Elt F) X12) (64 + r.val) n) (Nat.zero_add l.val)

/-- Rows 64 to 95 of half 1 of a group of channels. -/
def piece2_1 (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) : FVec F S32x128 .bf16 :=
  rowsV (halfV (byteW k) 16#32 (arg13.view.readAt (Elt F) (Rect.unit (s := S128x512) (k0_off15 k) S8x128.size (k0_off15_inb k)).toLoadRect X13) (arg11.view.readAt (Elt F) (⟨![256, 0], S8x128.size, ![4, 1], inb_S512x128_S8x128_256_0_s_4_1⟩ : LoadRect S512x128) X11) (arg11.view.readAt (Elt F) (⟨![257, 0], S8x128.size, ![4, 1], inb_S512x128_S8x128_257_0_s_4_1⟩ : LoadRect S512x128) X11) (arg11.view.readAt (Elt F) (⟨![258, 0], S8x128.size, ![4, 1], inb_S512x128_S8x128_258_0_s_4_1⟩ : LoadRect S512x128) X11))
    (halfV (byteW k) 16#32 (arg13.view.readAt (Elt F) (Rect.unit (s := S128x512) (k0_off16 k) S8x128.size (k0_off16_inb k)).toLoadRect X13) (arg11.view.readAt (Elt F) (⟨![288, 0], S8x128.size, ![4, 1], inb_S512x128_S8x128_288_0_s_4_1⟩ : LoadRect S512x128) X11) (arg11.view.readAt (Elt F) (⟨![289, 0], S8x128.size, ![4, 1], inb_S512x128_S8x128_289_0_s_4_1⟩ : LoadRect S512x128) X11) (arg11.view.readAt (Elt F) (⟨![290, 0], S8x128.size, ![4, 1], inb_S512x128_S8x128_290_0_s_4_1⟩ : LoadRect S512x128) X11))
    (halfV (byteW k) 16#32 (arg13.view.readAt (Elt F) (Rect.unit (s := S128x512) (k0_off17 k) S8x128.size (k0_off17_inb k)).toLoadRect X13) (arg11.view.readAt (Elt F) (⟨![320, 0], S8x128.size, ![4, 1], inb_S512x128_S8x128_320_0_s_4_1⟩ : LoadRect S512x128) X11) (arg11.view.readAt (Elt F) (⟨![321, 0], S8x128.size, ![4, 1], inb_S512x128_S8x128_321_0_s_4_1⟩ : LoadRect S512x128) X11) (arg11.view.readAt (Elt F) (⟨![322, 0], S8x128.size, ![4, 1], inb_S512x128_S8x128_322_0_s_4_1⟩ : LoadRect S512x128) X11))
    (halfV (byteW k) 16#32 (arg13.view.readAt (Elt F) (Rect.unit (s := S128x512) (k0_off18 k) S8x128.size (k0_off18_inb k)).toLoadRect X13) (arg11.view.readAt (Elt F) (⟨![352, 0], S8x128.size, ![4, 1], inb_S512x128_S8x128_352_0_s_4_1⟩ : LoadRect S512x128) X11) (arg11.view.readAt (Elt F) (⟨![353, 0], S8x128.size, ![4, 1], inb_S512x128_S8x128_353_0_s_4_1⟩ : LoadRect S512x128) X11) (arg11.view.readAt (Elt F) (⟨![354, 0], S8x128.size, ![4, 1], inb_S512x128_S8x128_354_0_s_4_1⟩ : LoadRect S512x128) X11))
    (arg12.view.readAt (Elt F) (Rect.unit (s := S128x128) ![64, 0] S32x128.size inb_S128x128_S32x128_64_0).toLoadRect X12)

/-- What a store of the trip writes, at an entry. -/
theorem piece2_1_apply (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) (x : S32x128.Idx) :
    piece2_1 arg11 arg12 arg13 X11 X12 X13 k x = expandN (at2 (arg13.view.read (Elt F) X13)) (at2 (arg11.view.read (Elt F) X11)) (at2 (arg12.view.read (Elt F) X12)) (64 + (x 0).val) (256 * k.val + 128 * 1 + (x 1).val) := by
  have hk : k.val < 14 := Nat.lt_of_lt_of_le k.isLt k0_t2_abs.2.1
  idx_vars x
  refine rowsV_apply 2 (256 * k.val + 128 * 1) _ _ _ _ _ (at2 (arg13.view.read (Elt F) X13)) (at2 (arg11.view.read (Elt F) X11)) (at2 (arg12.view.read (Elt F) X12)) ?_ ?_ ?_ ?_ ?_ (by omega) _ _
  · intro r l
    refine halfV_apply k.val 1 64 hk (by decide) _ _ (byteW_eq k) rfl _ _ _ _ _ _ ?_ ?_ ?_ ?_ r l
    · intro r c
      exact readAt_at2 arg13.view X13 (k0_off15_inb k) 64 (128 * (k.val / 4)) (off15_eq k) (ValueIdx.ix2 r c)
    · intro r c
      refine (readAt_at2_fourth arg11.view X11 (⟨![256, 0], S8x128.size, ![4, 1], inb_S512x128_S8x128_256_0_s_4_1⟩ : LoadRect S512x128) 256 rfl rfl (ValueIdx.ix2 r c)).trans ?_
      exact congrArg (fun n => at2 (arg11.view.read (Elt F) X11) n c.val) (show 256 + 4 * r.val = 4 * (64 + r.val) by omega)
    · intro r c
      refine (readAt_at2_fourth arg11.view X11 (⟨![257, 0], S8x128.size, ![4, 1], inb_S512x128_S8x128_257_0_s_4_1⟩ : LoadRect S512x128) 257 rfl rfl (ValueIdx.ix2 r c)).trans ?_
      exact congrArg (fun n => at2 (arg11.view.read (Elt F) X11) n c.val) (show 257 + 4 * r.val = 4 * (64 + r.val) + 1 by omega)
    · intro r c
      refine (readAt_at2_fourth arg11.view X11 (⟨![258, 0], S8x128.size, ![4, 1], inb_S512x128_S8x128_258_0_s_4_1⟩ : LoadRect S512x128) 258 rfl rfl (ValueIdx.ix2 r c)).trans ?_
      exact congrArg (fun n => at2 (arg11.view.read (Elt F) X11) n c.val) (show 258 + 4 * r.val = 4 * (64 + r.val) + 2 by omega)
  · intro r l
    refine halfV_apply k.val 1 72 hk (by decide) _ _ (byteW_eq k) rfl _ _ _ _ _ _ ?_ ?_ ?_ ?_ r l
    · intro r c
      exact readAt_at2 arg13.view X13 (k0_off16_inb k) 72 (128 * (k.val / 4)) (off16_eq k) (ValueIdx.ix2 r c)
    · intro r c
      refine (readAt_at2_fourth arg11.view X11 (⟨![288, 0], S8x128.size, ![4, 1], inb_S512x128_S8x128_288_0_s_4_1⟩ : LoadRect S512x128) 288 rfl rfl (ValueIdx.ix2 r c)).trans ?_
      exact congrArg (fun n => at2 (arg11.view.read (Elt F) X11) n c.val) (show 288 + 4 * r.val = 4 * (72 + r.val) by omega)
    · intro r c
      refine (readAt_at2_fourth arg11.view X11 (⟨![289, 0], S8x128.size, ![4, 1], inb_S512x128_S8x128_289_0_s_4_1⟩ : LoadRect S512x128) 289 rfl rfl (ValueIdx.ix2 r c)).trans ?_
      exact congrArg (fun n => at2 (arg11.view.read (Elt F) X11) n c.val) (show 289 + 4 * r.val = 4 * (72 + r.val) + 1 by omega)
    · intro r c
      refine (readAt_at2_fourth arg11.view X11 (⟨![290, 0], S8x128.size, ![4, 1], inb_S512x128_S8x128_290_0_s_4_1⟩ : LoadRect S512x128) 290 rfl rfl (ValueIdx.ix2 r c)).trans ?_
      exact congrArg (fun n => at2 (arg11.view.read (Elt F) X11) n c.val) (show 290 + 4 * r.val = 4 * (72 + r.val) + 2 by omega)
  · intro r l
    refine halfV_apply k.val 1 80 hk (by decide) _ _ (byteW_eq k) rfl _ _ _ _ _ _ ?_ ?_ ?_ ?_ r l
    · intro r c
      exact readAt_at2 arg13.view X13 (k0_off17_inb k) 80 (128 * (k.val / 4)) (off17_eq k) (ValueIdx.ix2 r c)
    · intro r c
      refine (readAt_at2_fourth arg11.view X11 (⟨![320, 0], S8x128.size, ![4, 1], inb_S512x128_S8x128_320_0_s_4_1⟩ : LoadRect S512x128) 320 rfl rfl (ValueIdx.ix2 r c)).trans ?_
      exact congrArg (fun n => at2 (arg11.view.read (Elt F) X11) n c.val) (show 320 + 4 * r.val = 4 * (80 + r.val) by omega)
    · intro r c
      refine (readAt_at2_fourth arg11.view X11 (⟨![321, 0], S8x128.size, ![4, 1], inb_S512x128_S8x128_321_0_s_4_1⟩ : LoadRect S512x128) 321 rfl rfl (ValueIdx.ix2 r c)).trans ?_
      exact congrArg (fun n => at2 (arg11.view.read (Elt F) X11) n c.val) (show 321 + 4 * r.val = 4 * (80 + r.val) + 1 by omega)
    · intro r c
      refine (readAt_at2_fourth arg11.view X11 (⟨![322, 0], S8x128.size, ![4, 1], inb_S512x128_S8x128_322_0_s_4_1⟩ : LoadRect S512x128) 322 rfl rfl (ValueIdx.ix2 r c)).trans ?_
      exact congrArg (fun n => at2 (arg11.view.read (Elt F) X11) n c.val) (show 322 + 4 * r.val = 4 * (80 + r.val) + 2 by omega)
  · intro r l
    refine halfV_apply k.val 1 88 hk (by decide) _ _ (byteW_eq k) rfl _ _ _ _ _ _ ?_ ?_ ?_ ?_ r l
    · intro r c
      exact readAt_at2 arg13.view X13 (k0_off18_inb k) 88 (128 * (k.val / 4)) (off18_eq k) (ValueIdx.ix2 r c)
    · intro r c
      refine (readAt_at2_fourth arg11.view X11 (⟨![352, 0], S8x128.size, ![4, 1], inb_S512x128_S8x128_352_0_s_4_1⟩ : LoadRect S512x128) 352 rfl rfl (ValueIdx.ix2 r c)).trans ?_
      exact congrArg (fun n => at2 (arg11.view.read (Elt F) X11) n c.val) (show 352 + 4 * r.val = 4 * (88 + r.val) by omega)
    · intro r c
      refine (readAt_at2_fourth arg11.view X11 (⟨![353, 0], S8x128.size, ![4, 1], inb_S512x128_S8x128_353_0_s_4_1⟩ : LoadRect S512x128) 353 rfl rfl (ValueIdx.ix2 r c)).trans ?_
      exact congrArg (fun n => at2 (arg11.view.read (Elt F) X11) n c.val) (show 353 + 4 * r.val = 4 * (88 + r.val) + 1 by omega)
    · intro r c
      refine (readAt_at2_fourth arg11.view X11 (⟨![354, 0], S8x128.size, ![4, 1], inb_S512x128_S8x128_354_0_s_4_1⟩ : LoadRect S512x128) 354 rfl rfl (ValueIdx.ix2 r c)).trans ?_
      exact congrArg (fun n => at2 (arg11.view.read (Elt F) X11) n c.val) (show 354 + 4 * r.val = 4 * (88 + r.val) + 2 by omega)
  · intro r l
    refine (readAt_at2 arg12.view X12 inb_S128x128_S32x128_64_0 64 0 rfl (ValueIdx.ix2 r l)).trans ?_
    exact congrArg (fun n => at2 (arg12.view.read (Elt F) X12) (64 + r.val) n) (Nat.zero_add l.val)

/-- Rows 96 to 127 of half 0 of a group of channels. -/
def piece3_0 (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) : FVec F S32x128 .bf16 :=
  rowsV (halfV (byteW k) 0#32 (arg13.view.readAt (Elt F) (Rect.unit (s := S128x512) (k0_off20 k) S8x128.size (k0_off20_inb k)).toLoadRect X13) (arg11.view.readAt (Elt F) (⟨![384, 0], S8x128.size, ![4, 1], inb_S512x128_S8x128_384_0_s_4_1⟩ : LoadRect S512x128) X11) (arg11.view.readAt (Elt F) (⟨![385, 0], S8x128.size, ![4, 1], inb_S512x128_S8x128_385_0_s_4_1⟩ : LoadRect S512x128) X11) (arg11.view.readAt (Elt F) (⟨![386, 0], S8x128.size, ![4, 1], inb_S512x128_S8x128_386_0_s_4_1⟩ : LoadRect S512x128) X11))
    (halfV (byteW k) 0#32 (arg13.view.readAt (Elt F) (Rect.unit (s := S128x512) (k0_off21 k) S8x128.size (k0_off21_inb k)).toLoadRect X13) (arg11.view.readAt (Elt F) (⟨![416, 0], S8x128.size, ![4, 1], inb_S512x128_S8x128_416_0_s_4_1⟩ : LoadRect S512x128) X11) (arg11.view.readAt (Elt F) (⟨![417, 0], S8x128.size, ![4, 1], inb_S512x128_S8x128_417_0_s_4_1⟩ : LoadRect S512x128) X11) (arg11.view.readAt (Elt F) (⟨![418, 0], S8x128.size, ![4, 1], inb_S512x128_S8x128_418_0_s_4_1⟩ : LoadRect S512x128) X11))
    (halfV (byteW k) 0#32 (arg13.view.readAt (Elt F) (Rect.unit (s := S128x512) (k0_off22 k) S8x128.size (k0_off22_inb k)).toLoadRect X13) (arg11.view.readAt (Elt F) (⟨![448, 0], S8x128.size, ![4, 1], inb_S512x128_S8x128_448_0_s_4_1⟩ : LoadRect S512x128) X11) (arg11.view.readAt (Elt F) (⟨![449, 0], S8x128.size, ![4, 1], inb_S512x128_S8x128_449_0_s_4_1⟩ : LoadRect S512x128) X11) (arg11.view.readAt (Elt F) (⟨![450, 0], S8x128.size, ![4, 1], inb_S512x128_S8x128_450_0_s_4_1⟩ : LoadRect S512x128) X11))
    (halfV (byteW k) 0#32 (arg13.view.readAt (Elt F) (Rect.unit (s := S128x512) (k0_off23 k) S8x128.size (k0_off23_inb k)).toLoadRect X13) (arg11.view.readAt (Elt F) (⟨![480, 0], S8x128.size, ![4, 1], inb_S512x128_S8x128_480_0_s_4_1⟩ : LoadRect S512x128) X11) (arg11.view.readAt (Elt F) (⟨![481, 0], S8x128.size, ![4, 1], inb_S512x128_S8x128_481_0_s_4_1⟩ : LoadRect S512x128) X11) (arg11.view.readAt (Elt F) (⟨![482, 0], S8x128.size, ![4, 1], inb_S512x128_S8x128_482_0_s_4_1⟩ : LoadRect S512x128) X11))
    (arg12.view.readAt (Elt F) (Rect.unit (s := S128x128) ![96, 0] S32x128.size inb_S128x128_S32x128_96_0).toLoadRect X12)

/-- What a store of the trip writes, at an entry. -/
theorem piece3_0_apply (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) (x : S32x128.Idx) :
    piece3_0 arg11 arg12 arg13 X11 X12 X13 k x = expandN (at2 (arg13.view.read (Elt F) X13)) (at2 (arg11.view.read (Elt F) X11)) (at2 (arg12.view.read (Elt F) X12)) (96 + (x 0).val) (256 * k.val + 128 * 0 + (x 1).val) := by
  have hk : k.val < 14 := Nat.lt_of_lt_of_le k.isLt k0_t2_abs.2.1
  idx_vars x
  refine rowsV_apply 3 (256 * k.val + 128 * 0) _ _ _ _ _ (at2 (arg13.view.read (Elt F) X13)) (at2 (arg11.view.read (Elt F) X11)) (at2 (arg12.view.read (Elt F) X12)) ?_ ?_ ?_ ?_ ?_ (by omega) _ _
  · intro r l
    refine halfV_apply k.val 0 96 hk (by decide) _ _ (byteW_eq k) rfl _ _ _ _ _ _ ?_ ?_ ?_ ?_ r l
    · intro r c
      exact readAt_at2 arg13.view X13 (k0_off20_inb k) 96 (128 * (k.val / 4)) (off20_eq k) (ValueIdx.ix2 r c)
    · intro r c
      refine (readAt_at2_fourth arg11.view X11 (⟨![384, 0], S8x128.size, ![4, 1], inb_S512x128_S8x128_384_0_s_4_1⟩ : LoadRect S512x128) 384 rfl rfl (ValueIdx.ix2 r c)).trans ?_
      exact congrArg (fun n => at2 (arg11.view.read (Elt F) X11) n c.val) (show 384 + 4 * r.val = 4 * (96 + r.val) by omega)
    · intro r c
      refine (readAt_at2_fourth arg11.view X11 (⟨![385, 0], S8x128.size, ![4, 1], inb_S512x128_S8x128_385_0_s_4_1⟩ : LoadRect S512x128) 385 rfl rfl (ValueIdx.ix2 r c)).trans ?_
      exact congrArg (fun n => at2 (arg11.view.read (Elt F) X11) n c.val) (show 385 + 4 * r.val = 4 * (96 + r.val) + 1 by omega)
    · intro r c
      refine (readAt_at2_fourth arg11.view X11 (⟨![386, 0], S8x128.size, ![4, 1], inb_S512x128_S8x128_386_0_s_4_1⟩ : LoadRect S512x128) 386 rfl rfl (ValueIdx.ix2 r c)).trans ?_
      exact congrArg (fun n => at2 (arg11.view.read (Elt F) X11) n c.val) (show 386 + 4 * r.val = 4 * (96 + r.val) + 2 by omega)
  · intro r l
    refine halfV_apply k.val 0 104 hk (by decide) _ _ (byteW_eq k) rfl _ _ _ _ _ _ ?_ ?_ ?_ ?_ r l
    · intro r c
      exact readAt_at2 arg13.view X13 (k0_off21_inb k) 104 (128 * (k.val / 4)) (off21_eq k) (ValueIdx.ix2 r c)
    · intro r c
      refine (readAt_at2_fourth arg11.view X11 (⟨![416, 0], S8x128.size, ![4, 1], inb_S512x128_S8x128_416_0_s_4_1⟩ : LoadRect S512x128) 416 rfl rfl (ValueIdx.ix2 r c)).trans ?_
      exact congrArg (fun n => at2 (arg11.view.read (Elt F) X11) n c.val) (show 416 + 4 * r.val = 4 * (104 + r.val) by omega)
    · intro r c
      refine (readAt_at2_fourth arg11.view X11 (⟨![417, 0], S8x128.size, ![4, 1], inb_S512x128_S8x128_417_0_s_4_1⟩ : LoadRect S512x128) 417 rfl rfl (ValueIdx.ix2 r c)).trans ?_
      exact congrArg (fun n => at2 (arg11.view.read (Elt F) X11) n c.val) (show 417 + 4 * r.val = 4 * (104 + r.val) + 1 by omega)
    · intro r c
      refine (readAt_at2_fourth arg11.view X11 (⟨![418, 0], S8x128.size, ![4, 1], inb_S512x128_S8x128_418_0_s_4_1⟩ : LoadRect S512x128) 418 rfl rfl (ValueIdx.ix2 r c)).trans ?_
      exact congrArg (fun n => at2 (arg11.view.read (Elt F) X11) n c.val) (show 418 + 4 * r.val = 4 * (104 + r.val) + 2 by omega)
  · intro r l
    refine halfV_apply k.val 0 112 hk (by decide) _ _ (byteW_eq k) rfl _ _ _ _ _ _ ?_ ?_ ?_ ?_ r l
    · intro r c
      exact readAt_at2 arg13.view X13 (k0_off22_inb k) 112 (128 * (k.val / 4)) (off22_eq k) (ValueIdx.ix2 r c)
    · intro r c
      refine (readAt_at2_fourth arg11.view X11 (⟨![448, 0], S8x128.size, ![4, 1], inb_S512x128_S8x128_448_0_s_4_1⟩ : LoadRect S512x128) 448 rfl rfl (ValueIdx.ix2 r c)).trans ?_
      exact congrArg (fun n => at2 (arg11.view.read (Elt F) X11) n c.val) (show 448 + 4 * r.val = 4 * (112 + r.val) by omega)
    · intro r c
      refine (readAt_at2_fourth arg11.view X11 (⟨![449, 0], S8x128.size, ![4, 1], inb_S512x128_S8x128_449_0_s_4_1⟩ : LoadRect S512x128) 449 rfl rfl (ValueIdx.ix2 r c)).trans ?_
      exact congrArg (fun n => at2 (arg11.view.read (Elt F) X11) n c.val) (show 449 + 4 * r.val = 4 * (112 + r.val) + 1 by omega)
    · intro r c
      refine (readAt_at2_fourth arg11.view X11 (⟨![450, 0], S8x128.size, ![4, 1], inb_S512x128_S8x128_450_0_s_4_1⟩ : LoadRect S512x128) 450 rfl rfl (ValueIdx.ix2 r c)).trans ?_
      exact congrArg (fun n => at2 (arg11.view.read (Elt F) X11) n c.val) (show 450 + 4 * r.val = 4 * (112 + r.val) + 2 by omega)
  · intro r l
    refine halfV_apply k.val 0 120 hk (by decide) _ _ (byteW_eq k) rfl _ _ _ _ _ _ ?_ ?_ ?_ ?_ r l
    · intro r c
      exact readAt_at2 arg13.view X13 (k0_off23_inb k) 120 (128 * (k.val / 4)) (off23_eq k) (ValueIdx.ix2 r c)
    · intro r c
      refine (readAt_at2_fourth arg11.view X11 (⟨![480, 0], S8x128.size, ![4, 1], inb_S512x128_S8x128_480_0_s_4_1⟩ : LoadRect S512x128) 480 rfl rfl (ValueIdx.ix2 r c)).trans ?_
      exact congrArg (fun n => at2 (arg11.view.read (Elt F) X11) n c.val) (show 480 + 4 * r.val = 4 * (120 + r.val) by omega)
    · intro r c
      refine (readAt_at2_fourth arg11.view X11 (⟨![481, 0], S8x128.size, ![4, 1], inb_S512x128_S8x128_481_0_s_4_1⟩ : LoadRect S512x128) 481 rfl rfl (ValueIdx.ix2 r c)).trans ?_
      exact congrArg (fun n => at2 (arg11.view.read (Elt F) X11) n c.val) (show 481 + 4 * r.val = 4 * (120 + r.val) + 1 by omega)
    · intro r c
      refine (readAt_at2_fourth arg11.view X11 (⟨![482, 0], S8x128.size, ![4, 1], inb_S512x128_S8x128_482_0_s_4_1⟩ : LoadRect S512x128) 482 rfl rfl (ValueIdx.ix2 r c)).trans ?_
      exact congrArg (fun n => at2 (arg11.view.read (Elt F) X11) n c.val) (show 482 + 4 * r.val = 4 * (120 + r.val) + 2 by omega)
  · intro r l
    refine (readAt_at2 arg12.view X12 inb_S128x128_S32x128_96_0 96 0 rfl (ValueIdx.ix2 r l)).trans ?_
    exact congrArg (fun n => at2 (arg12.view.read (Elt F) X12) (96 + r.val) n) (Nat.zero_add l.val)

/-- Rows 96 to 127 of half 1 of a group of channels. -/
def piece3_1 (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) : FVec F S32x128 .bf16 :=
  rowsV (halfV (byteW k) 16#32 (arg13.view.readAt (Elt F) (Rect.unit (s := S128x512) (k0_off20 k) S8x128.size (k0_off20_inb k)).toLoadRect X13) (arg11.view.readAt (Elt F) (⟨![384, 0], S8x128.size, ![4, 1], inb_S512x128_S8x128_384_0_s_4_1⟩ : LoadRect S512x128) X11) (arg11.view.readAt (Elt F) (⟨![385, 0], S8x128.size, ![4, 1], inb_S512x128_S8x128_385_0_s_4_1⟩ : LoadRect S512x128) X11) (arg11.view.readAt (Elt F) (⟨![386, 0], S8x128.size, ![4, 1], inb_S512x128_S8x128_386_0_s_4_1⟩ : LoadRect S512x128) X11))
    (halfV (byteW k) 16#32 (arg13.view.readAt (Elt F) (Rect.unit (s := S128x512) (k0_off21 k) S8x128.size (k0_off21_inb k)).toLoadRect X13) (arg11.view.readAt (Elt F) (⟨![416, 0], S8x128.size, ![4, 1], inb_S512x128_S8x128_416_0_s_4_1⟩ : LoadRect S512x128) X11) (arg11.view.readAt (Elt F) (⟨![417, 0], S8x128.size, ![4, 1], inb_S512x128_S8x128_417_0_s_4_1⟩ : LoadRect S512x128) X11) (arg11.view.readAt (Elt F) (⟨![418, 0], S8x128.size, ![4, 1], inb_S512x128_S8x128_418_0_s_4_1⟩ : LoadRect S512x128) X11))
    (halfV (byteW k) 16#32 (arg13.view.readAt (Elt F) (Rect.unit (s := S128x512) (k0_off22 k) S8x128.size (k0_off22_inb k)).toLoadRect X13) (arg11.view.readAt (Elt F) (⟨![448, 0], S8x128.size, ![4, 1], inb_S512x128_S8x128_448_0_s_4_1⟩ : LoadRect S512x128) X11) (arg11.view.readAt (Elt F) (⟨![449, 0], S8x128.size, ![4, 1], inb_S512x128_S8x128_449_0_s_4_1⟩ : LoadRect S512x128) X11) (arg11.view.readAt (Elt F) (⟨![450, 0], S8x128.size, ![4, 1], inb_S512x128_S8x128_450_0_s_4_1⟩ : LoadRect S512x128) X11))
    (halfV (byteW k) 16#32 (arg13.view.readAt (Elt F) (Rect.unit (s := S128x512) (k0_off23 k) S8x128.size (k0_off23_inb k)).toLoadRect X13) (arg11.view.readAt (Elt F) (⟨![480, 0], S8x128.size, ![4, 1], inb_S512x128_S8x128_480_0_s_4_1⟩ : LoadRect S512x128) X11) (arg11.view.readAt (Elt F) (⟨![481, 0], S8x128.size, ![4, 1], inb_S512x128_S8x128_481_0_s_4_1⟩ : LoadRect S512x128) X11) (arg11.view.readAt (Elt F) (⟨![482, 0], S8x128.size, ![4, 1], inb_S512x128_S8x128_482_0_s_4_1⟩ : LoadRect S512x128) X11))
    (arg12.view.readAt (Elt F) (Rect.unit (s := S128x128) ![96, 0] S32x128.size inb_S128x128_S32x128_96_0).toLoadRect X12)

/-- What a store of the trip writes, at an entry. -/
theorem piece3_1_apply (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) (x : S32x128.Idx) :
    piece3_1 arg11 arg12 arg13 X11 X12 X13 k x = expandN (at2 (arg13.view.read (Elt F) X13)) (at2 (arg11.view.read (Elt F) X11)) (at2 (arg12.view.read (Elt F) X12)) (96 + (x 0).val) (256 * k.val + 128 * 1 + (x 1).val) := by
  have hk : k.val < 14 := Nat.lt_of_lt_of_le k.isLt k0_t2_abs.2.1
  idx_vars x
  refine rowsV_apply 3 (256 * k.val + 128 * 1) _ _ _ _ _ (at2 (arg13.view.read (Elt F) X13)) (at2 (arg11.view.read (Elt F) X11)) (at2 (arg12.view.read (Elt F) X12)) ?_ ?_ ?_ ?_ ?_ (by omega) _ _
  · intro r l
    refine halfV_apply k.val 1 96 hk (by decide) _ _ (byteW_eq k) rfl _ _ _ _ _ _ ?_ ?_ ?_ ?_ r l
    · intro r c
      exact readAt_at2 arg13.view X13 (k0_off20_inb k) 96 (128 * (k.val / 4)) (off20_eq k) (ValueIdx.ix2 r c)
    · intro r c
      refine (readAt_at2_fourth arg11.view X11 (⟨![384, 0], S8x128.size, ![4, 1], inb_S512x128_S8x128_384_0_s_4_1⟩ : LoadRect S512x128) 384 rfl rfl (ValueIdx.ix2 r c)).trans ?_
      exact congrArg (fun n => at2 (arg11.view.read (Elt F) X11) n c.val) (show 384 + 4 * r.val = 4 * (96 + r.val) by omega)
    · intro r c
      refine (readAt_at2_fourth arg11.view X11 (⟨![385, 0], S8x128.size, ![4, 1], inb_S512x128_S8x128_385_0_s_4_1⟩ : LoadRect S512x128) 385 rfl rfl (ValueIdx.ix2 r c)).trans ?_
      exact congrArg (fun n => at2 (arg11.view.read (Elt F) X11) n c.val) (show 385 + 4 * r.val = 4 * (96 + r.val) + 1 by omega)
    · intro r c
      refine (readAt_at2_fourth arg11.view X11 (⟨![386, 0], S8x128.size, ![4, 1], inb_S512x128_S8x128_386_0_s_4_1⟩ : LoadRect S512x128) 386 rfl rfl (ValueIdx.ix2 r c)).trans ?_
      exact congrArg (fun n => at2 (arg11.view.read (Elt F) X11) n c.val) (show 386 + 4 * r.val = 4 * (96 + r.val) + 2 by omega)
  · intro r l
    refine halfV_apply k.val 1 104 hk (by decide) _ _ (byteW_eq k) rfl _ _ _ _ _ _ ?_ ?_ ?_ ?_ r l
    · intro r c
      exact readAt_at2 arg13.view X13 (k0_off21_inb k) 104 (128 * (k.val / 4)) (off21_eq k) (ValueIdx.ix2 r c)
    · intro r c
      refine (readAt_at2_fourth arg11.view X11 (⟨![416, 0], S8x128.size, ![4, 1], inb_S512x128_S8x128_416_0_s_4_1⟩ : LoadRect S512x128) 416 rfl rfl (ValueIdx.ix2 r c)).trans ?_
      exact congrArg (fun n => at2 (arg11.view.read (Elt F) X11) n c.val) (show 416 + 4 * r.val = 4 * (104 + r.val) by omega)
    · intro r c
      refine (readAt_at2_fourth arg11.view X11 (⟨![417, 0], S8x128.size, ![4, 1], inb_S512x128_S8x128_417_0_s_4_1⟩ : LoadRect S512x128) 417 rfl rfl (ValueIdx.ix2 r c)).trans ?_
      exact congrArg (fun n => at2 (arg11.view.read (Elt F) X11) n c.val) (show 417 + 4 * r.val = 4 * (104 + r.val) + 1 by omega)
    · intro r c
      refine (readAt_at2_fourth arg11.view X11 (⟨![418, 0], S8x128.size, ![4, 1], inb_S512x128_S8x128_418_0_s_4_1⟩ : LoadRect S512x128) 418 rfl rfl (ValueIdx.ix2 r c)).trans ?_
      exact congrArg (fun n => at2 (arg11.view.read (Elt F) X11) n c.val) (show 418 + 4 * r.val = 4 * (104 + r.val) + 2 by omega)
  · intro r l
    refine halfV_apply k.val 1 112 hk (by decide) _ _ (byteW_eq k) rfl _ _ _ _ _ _ ?_ ?_ ?_ ?_ r l
    · intro r c
      exact readAt_at2 arg13.view X13 (k0_off22_inb k) 112 (128 * (k.val / 4)) (off22_eq k) (ValueIdx.ix2 r c)
    · intro r c
      refine (readAt_at2_fourth arg11.view X11 (⟨![448, 0], S8x128.size, ![4, 1], inb_S512x128_S8x128_448_0_s_4_1⟩ : LoadRect S512x128) 448 rfl rfl (ValueIdx.ix2 r c)).trans ?_
      exact congrArg (fun n => at2 (arg11.view.read (Elt F) X11) n c.val) (show 448 + 4 * r.val = 4 * (112 + r.val) by omega)
    · intro r c
      refine (readAt_at2_fourth arg11.view X11 (⟨![449, 0], S8x128.size, ![4, 1], inb_S512x128_S8x128_449_0_s_4_1⟩ : LoadRect S512x128) 449 rfl rfl (ValueIdx.ix2 r c)).trans ?_
      exact congrArg (fun n => at2 (arg11.view.read (Elt F) X11) n c.val) (show 449 + 4 * r.val = 4 * (112 + r.val) + 1 by omega)
    · intro r c
      refine (readAt_at2_fourth arg11.view X11 (⟨![450, 0], S8x128.size, ![4, 1], inb_S512x128_S8x128_450_0_s_4_1⟩ : LoadRect S512x128) 450 rfl rfl (ValueIdx.ix2 r c)).trans ?_
      exact congrArg (fun n => at2 (arg11.view.read (Elt F) X11) n c.val) (show 450 + 4 * r.val = 4 * (112 + r.val) + 2 by omega)
  · intro r l
    refine halfV_apply k.val 1 120 hk (by decide) _ _ (byteW_eq k) rfl _ _ _ _ _ _ ?_ ?_ ?_ ?_ r l
    · intro r c
      exact readAt_at2 arg13.view X13 (k0_off23_inb k) 120 (128 * (k.val / 4)) (off23_eq k) (ValueIdx.ix2 r c)
    · intro r c
      refine (readAt_at2_fourth arg11.view X11 (⟨![480, 0], S8x128.size, ![4, 1], inb_S512x128_S8x128_480_0_s_4_1⟩ : LoadRect S512x128) 480 rfl rfl (ValueIdx.ix2 r c)).trans ?_
      exact congrArg (fun n => at2 (arg11.view.read (Elt F) X11) n c.val) (show 480 + 4 * r.val = 4 * (120 + r.val) by omega)
    · intro r c
      refine (readAt_at2_fourth arg11.view X11 (⟨![481, 0], S8x128.size, ![4, 1], inb_S512x128_S8x128_481_0_s_4_1⟩ : LoadRect S512x128) 481 rfl rfl (ValueIdx.ix2 r c)).trans ?_
      exact congrArg (fun n => at2 (arg11.view.read (Elt F) X11) n c.val) (show 481 + 4 * r.val = 4 * (120 + r.val) + 1 by omega)
    · intro r c
      refine (readAt_at2_fourth arg11.view X11 (⟨![482, 0], S8x128.size, ![4, 1], inb_S512x128_S8x128_482_0_s_4_1⟩ : LoadRect S512x128) 482 rfl rfl (ValueIdx.ix2 r c)).trans ?_
      exact congrArg (fun n => at2 (arg11.view.read (Elt F) X11) n c.val) (show 482 + 4 * r.val = 4 * (120 + r.val) + 2 by omega)
  · intro r l
    refine (readAt_at2 arg12.view X12 inb_S128x128_S32x128_96_0 96 0 rfl (ValueIdx.ix2 r l)).trans ?_
    exact congrArg (fun n => at2 (arg12.view.read (Elt F) X12) (96 + r.val) n) (Nat.zero_add l.val)

/-- What a trip of the loop over groups of channels stores into the rebuilt block, the last store first. -/
def pieces (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) : List (View.Piece (Elt F) S128x3584 .bf16) :=
  [⟨Rect.unit (s := S128x3584) (k0_off24 k 128#32) S32x128.size (k0_off24_inb k 1), piece3_1 arg11 arg12 arg13 X11 X12 X13 k⟩,
    ⟨Rect.unit (s := S128x3584) (k0_off24 k 0#32) S32x128.size (k0_off24_inb k 0), piece3_0 arg11 arg12 arg13 X11 X12 X13 k⟩,
    ⟨Rect.unit (s := S128x3584) (k0_off19 k 128#32) S32x128.size (k0_off19_inb k 1), piece2_1 arg11 arg12 arg13 X11 X12 X13 k⟩,
    ⟨Rect.unit (s := S128x3584) (k0_off19 k 0#32) S32x128.size (k0_off19_inb k 0), piece2_0 arg11 arg12 arg13 X11 X12 X13 k⟩,
    ⟨Rect.unit (s := S128x3584) (k0_off14 k 128#32) S32x128.size (k0_off14_inb k 1), piece1_1 arg11 arg12 arg13 X11 X12 X13 k⟩,
    ⟨Rect.unit (s := S128x3584) (k0_off14 k 0#32) S32x128.size (k0_off14_inb k 0), piece1_0 arg11 arg12 arg13 X11 X12 X13 k⟩,
    ⟨Rect.unit (s := S128x3584) (k0_off9 k 128#32) S32x128.size (k0_off9_inb k 1), piece0_1 arg11 arg12 arg13 X11 X12 X13 k⟩,
    ⟨Rect.unit (s := S128x3584) (k0_off9 k 0#32) S32x128.size (k0_off9_inb k 0), piece0_0 arg11 arg12 arg13 X11 X12 X13 k⟩]

/-- Every store of the trip writes the rebuilt activation of its entry. -/
theorem pieces_good (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) : ∀ p ∈ pieces arg11 arg12 arg13 X11 X12 X13 k, ∀ x : p.1.shape.Idx, p.2 x = (fun y : S128x3584.Idx => expandN (at2 (arg13.view.read (Elt F) X13)) (at2 (arg11.view.read (Elt F) X11)) (at2 (arg12.view.read (Elt F) X12)) (y 0).val (y 1).val) (p.1.emb x) := by
  intro p hp
  unfold pieces at hp
  fin_cases hp
  · intro x
    refine (piece3_1_apply arg11 arg12 arg13 X11 X12 X13 k x).trans ?_
    have e := k0_off24_eq k 1
    have e0 : k0_off24 k 128#32 0 = 96 := congrFun e 0
    have e1 : k0_off24 k 128#32 1 = 256 * k.val + 128 * 1 := congrFun e 1
    show _ = expandN (at2 (arg13.view.read (Elt F) X13)) (at2 (arg11.view.read (Elt F) X11)) (at2 (arg12.view.read (Elt F) X12)) (k0_off24 k 128#32 0 + 1 * (x 0).val) (k0_off24 k 128#32 1 + 1 * (x 1).val)
    rw [e0, e1, Nat.one_mul, Nat.one_mul]
  · intro x
    refine (piece3_0_apply arg11 arg12 arg13 X11 X12 X13 k x).trans ?_
    have e := k0_off24_eq k 0
    have e0 : k0_off24 k 0#32 0 = 96 := congrFun e 0
    have e1 : k0_off24 k 0#32 1 = 256 * k.val + 128 * 0 := congrFun e 1
    show _ = expandN (at2 (arg13.view.read (Elt F) X13)) (at2 (arg11.view.read (Elt F) X11)) (at2 (arg12.view.read (Elt F) X12)) (k0_off24 k 0#32 0 + 1 * (x 0).val) (k0_off24 k 0#32 1 + 1 * (x 1).val)
    rw [e0, e1, Nat.one_mul, Nat.one_mul]
  · intro x
    refine (piece2_1_apply arg11 arg12 arg13 X11 X12 X13 k x).trans ?_
    have e := k0_off19_eq k 1
    have e0 : k0_off19 k 128#32 0 = 64 := congrFun e 0
    have e1 : k0_off19 k 128#32 1 = 256 * k.val + 128 * 1 := congrFun e 1
    show _ = expandN (at2 (arg13.view.read (Elt F) X13)) (at2 (arg11.view.read (Elt F) X11)) (at2 (arg12.view.read (Elt F) X12)) (k0_off19 k 128#32 0 + 1 * (x 0).val) (k0_off19 k 128#32 1 + 1 * (x 1).val)
    rw [e0, e1, Nat.one_mul, Nat.one_mul]
  · intro x
    refine (piece2_0_apply arg11 arg12 arg13 X11 X12 X13 k x).trans ?_
    have e := k0_off19_eq k 0
    have e0 : k0_off19 k 0#32 0 = 64 := congrFun e 0
    have e1 : k0_off19 k 0#32 1 = 256 * k.val + 128 * 0 := congrFun e 1
    show _ = expandN (at2 (arg13.view.read (Elt F) X13)) (at2 (arg11.view.read (Elt F) X11)) (at2 (arg12.view.read (Elt F) X12)) (k0_off19 k 0#32 0 + 1 * (x 0).val) (k0_off19 k 0#32 1 + 1 * (x 1).val)
    rw [e0, e1, Nat.one_mul, Nat.one_mul]
  · intro x
    refine (piece1_1_apply arg11 arg12 arg13 X11 X12 X13 k x).trans ?_
    have e := k0_off14_eq k 1
    have e0 : k0_off14 k 128#32 0 = 32 := congrFun e 0
    have e1 : k0_off14 k 128#32 1 = 256 * k.val + 128 * 1 := congrFun e 1
    show _ = expandN (at2 (arg13.view.read (Elt F) X13)) (at2 (arg11.view.read (Elt F) X11)) (at2 (arg12.view.read (Elt F) X12)) (k0_off14 k 128#32 0 + 1 * (x 0).val) (k0_off14 k 128#32 1 + 1 * (x 1).val)
    rw [e0, e1, Nat.one_mul, Nat.one_mul]
  · intro x
    refine (piece1_0_apply arg11 arg12 arg13 X11 X12 X13 k x).trans ?_
    have e := k0_off14_eq k 0
    have e0 : k0_off14 k 0#32 0 = 32 := congrFun e 0
    have e1 : k0_off14 k 0#32 1 = 256 * k.val + 128 * 0 := congrFun e 1
    show _ = expandN (at2 (arg13.view.read (Elt F) X13)) (at2 (arg11.view.read (Elt F) X11)) (at2 (arg12.view.read (Elt F) X12)) (k0_off14 k 0#32 0 + 1 * (x 0).val) (k0_off14 k 0#32 1 + 1 * (x 1).val)
    rw [e0, e1, Nat.one_mul, Nat.one_mul]
  · intro x
    refine (piece0_1_apply arg11 arg12 arg13 X11 X12 X13 k x).trans ?_
    have e := k0_off9_eq k 1
    have e0 : k0_off9 k 128#32 0 = 0 := congrFun e 0
    have e1 : k0_off9 k 128#32 1 = 256 * k.val + 128 * 1 := congrFun e 1
    show _ = expandN (at2 (arg13.view.read (Elt F) X13)) (at2 (arg11.view.read (Elt F) X11)) (at2 (arg12.view.read (Elt F) X12)) (k0_off9 k 128#32 0 + 1 * (x 0).val) (k0_off9 k 128#32 1 + 1 * (x 1).val)
    rw [e0, e1, Nat.one_mul, Nat.one_mul]
  · intro x
    refine (piece0_0_apply arg11 arg12 arg13 X11 X12 X13 k x).trans ?_
    have e := k0_off9_eq k 0
    have e0 : k0_off9 k 0#32 0 = 0 := congrFun e 0
    have e1 : k0_off9 k 0#32 1 = 256 * k.val + 128 * 0 := congrFun e 1
    show _ = expandN (at2 (arg13.view.read (Elt F) X13)) (at2 (arg11.view.read (Elt F) X11)) (at2 (arg12.view.read (Elt F) X12)) (k0_off9 k 0#32 0 + 1 * (x 0).val) (k0_off9 k 0#32 1 + 1 * (x 1).val)
    rw [e0, e1, Nat.one_mul, Nat.one_mul]

/-- The stores of the trip cover its columns. -/
theorem pieces_cover (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) (y : S128x3584.Idx) (h0 : 256 * k.val ≤ (y 1).val) (h1 : (y 1).val < 256 * k.val + 256) : ∃ p ∈ pieces arg11 arg12 arg13 X11 X12 X13 k, y ∈ p.1.set := by
  have hy0 : (y 0).val < 128 := (y 0).isLt
  unfold pieces
  by_cases c0 : 96 ≤ (y 0).val ∧ (y 0).val < 128 ∧ 256 * k.val + 128 ≤ (y 1).val ∧ (y 1).val < 256 * k.val + 256
  · refine ⟨_, List.mem_cons_self, ?_⟩
    show y ∈ (Rect.unit (s := S128x3584) (k0_off24 k 128#32) S32x128.size (k0_off24_inb k 1)).set
    have e : k0_off24 k 128#32 = ![96, 256 * k.val + 128 * 1] := k0_off24_eq k 1
    rw [Rect.mem_set_unit, e]
    intro a
    match a with
    | ⟨0, _⟩ => exact ⟨show 96 ≤ (y 0).val by omega, show (y 0).val < 96 + 32 by omega⟩
    | ⟨1, _⟩ => exact ⟨show 256 * k.val + 128 * 1 ≤ (y 1).val by omega, show (y 1).val < 256 * k.val + 128 * 1 + 128 by omega⟩
  by_cases c1 : 96 ≤ (y 0).val ∧ (y 0).val < 128 ∧ 256 * k.val + 0 ≤ (y 1).val ∧ (y 1).val < 256 * k.val + 128
  · refine ⟨_, (List.mem_cons_of_mem _ List.mem_cons_self), ?_⟩
    show y ∈ (Rect.unit (s := S128x3584) (k0_off24 k 0#32) S32x128.size (k0_off24_inb k 0)).set
    have e : k0_off24 k 0#32 = ![96, 256 * k.val + 128 * 0] := k0_off24_eq k 0
    rw [Rect.mem_set_unit, e]
    intro a
    match a with
    | ⟨0, _⟩ => exact ⟨show 96 ≤ (y 0).val by omega, show (y 0).val < 96 + 32 by omega⟩
    | ⟨1, _⟩ => exact ⟨show 256 * k.val + 128 * 0 ≤ (y 1).val by omega, show (y 1).val < 256 * k.val + 128 * 0 + 128 by omega⟩
  by_cases c2 : 64 ≤ (y 0).val ∧ (y 0).val < 96 ∧ 256 * k.val + 128 ≤ (y 1).val ∧ (y 1).val < 256 * k.val + 256
  · refine ⟨_, (List.mem_cons_of_mem _ (List.mem_cons_of_mem _ List.mem_cons_self)), ?_⟩
    show y ∈ (Rect.unit (s := S128x3584) (k0_off19 k 128#32) S32x128.size (k0_off19_inb k 1)).set
    have e : k0_off19 k 128#32 = ![64, 256 * k.val + 128 * 1] := k0_off19_eq k 1
    rw [Rect.mem_set_unit, e]
    intro a
    match a with
    | ⟨0, _⟩ => exact ⟨show 64 ≤ (y 0).val by omega, show (y 0).val < 64 + 32 by omega⟩
    | ⟨1, _⟩ => exact ⟨show 256 * k.val + 128 * 1 ≤ (y 1).val by omega, show (y 1).val < 256 * k.val + 128 * 1 + 128 by omega⟩
  by_cases c3 : 64 ≤ (y 0).val ∧ (y 0).val < 96 ∧ 256 * k.val + 0 ≤ (y 1).val ∧ (y 1).val < 256 * k.val + 128
  · refine ⟨_, (List.mem_cons_of_mem _ (List.mem_cons_of_mem _ (List.mem_cons_of_mem _ List.mem_cons_self))), ?_⟩
    show y ∈ (Rect.unit (s := S128x3584) (k0_off19 k 0#32) S32x128.size (k0_off19_inb k 0)).set
    have e : k0_off19 k 0#32 = ![64, 256 * k.val + 128 * 0] := k0_off19_eq k 0
    rw [Rect.mem_set_unit, e]
    intro a
    match a with
    | ⟨0, _⟩ => exact ⟨show 64 ≤ (y 0).val by omega, show (y 0).val < 64 + 32 by omega⟩
    | ⟨1, _⟩ => exact ⟨show 256 * k.val + 128 * 0 ≤ (y 1).val by omega, show (y 1).val < 256 * k.val + 128 * 0 + 128 by omega⟩
  by_cases c4 : 32 ≤ (y 0).val ∧ (y 0).val < 64 ∧ 256 * k.val + 128 ≤ (y 1).val ∧ (y 1).val < 256 * k.val + 256
  · refine ⟨_, (List.mem_cons_of_mem _ (List.mem_cons_of_mem _ (List.mem_cons_of_mem _ (List.mem_cons_of_mem _ List.mem_cons_self)))), ?_⟩
    show y ∈ (Rect.unit (s := S128x3584) (k0_off14 k 128#32) S32x128.size (k0_off14_inb k 1)).set
    have e : k0_off14 k 128#32 = ![32, 256 * k.val + 128 * 1] := k0_off14_eq k 1
    rw [Rect.mem_set_unit, e]
    intro a
    match a with
    | ⟨0, _⟩ => exact ⟨show 32 ≤ (y 0).val by omega, show (y 0).val < 32 + 32 by omega⟩
    | ⟨1, _⟩ => exact ⟨show 256 * k.val + 128 * 1 ≤ (y 1).val by omega, show (y 1).val < 256 * k.val + 128 * 1 + 128 by omega⟩
  by_cases c5 : 32 ≤ (y 0).val ∧ (y 0).val < 64 ∧ 256 * k.val + 0 ≤ (y 1).val ∧ (y 1).val < 256 * k.val + 128
  · refine ⟨_, (List.mem_cons_of_mem _ (List.mem_cons_of_mem _ (List.mem_cons_of_mem _ (List.mem_cons_of_mem _ (List.mem_cons_of_mem _ List.mem_cons_self))))), ?_⟩
    show y ∈ (Rect.unit (s := S128x3584) (k0_off14 k 0#32) S32x128.size (k0_off14_inb k 0)).set
    have e : k0_off14 k 0#32 = ![32, 256 * k.val + 128 * 0] := k0_off14_eq k 0
    rw [Rect.mem_set_unit, e]
    intro a
    match a with
    | ⟨0, _⟩ => exact ⟨show 32 ≤ (y 0).val by omega, show (y 0).val < 32 + 32 by omega⟩
    | ⟨1, _⟩ => exact ⟨show 256 * k.val + 128 * 0 ≤ (y 1).val by omega, show (y 1).val < 256 * k.val + 128 * 0 + 128 by omega⟩
  by_cases c6 : 0 ≤ (y 0).val ∧ (y 0).val < 32 ∧ 256 * k.val + 128 ≤ (y 1).val ∧ (y 1).val < 256 * k.val + 256
  · refine ⟨_, (List.mem_cons_of_mem _ (List.mem_cons_of_mem _ (List.mem_cons_of_mem _ (List.mem_cons_of_mem _ (List.mem_cons_of_mem _ (List.mem_cons_of_mem _ List.mem_cons_self)))))), ?_⟩
    show y ∈ (Rect.unit (s := S128x3584) (k0_off9 k 128#32) S32x128.size (k0_off9_inb k 1)).set
    have e : k0_off9 k 128#32 = ![0, 256 * k.val + 128 * 1] := k0_off9_eq k 1
    rw [Rect.mem_set_unit, e]
    intro a
    match a with
    | ⟨0, _⟩ => exact ⟨show 0 ≤ (y 0).val by omega, show (y 0).val < 0 + 32 by omega⟩
    | ⟨1, _⟩ => exact ⟨show 256 * k.val + 128 * 1 ≤ (y 1).val by omega, show (y 1).val < 256 * k.val + 128 * 1 + 128 by omega⟩
  by_cases c7 : 0 ≤ (y 0).val ∧ (y 0).val < 32 ∧ 256 * k.val + 0 ≤ (y 1).val ∧ (y 1).val < 256 * k.val + 128
  · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
    show y ∈ (Rect.unit (s := S128x3584) (k0_off9 k 0#32) S32x128.size (k0_off9_inb k 0)).set
    have e : k0_off9 k 0#32 = ![0, 256 * k.val + 128 * 0] := k0_off9_eq k 0
    rw [Rect.mem_set_unit, e]
    intro a
    match a with
    | ⟨0, _⟩ => exact ⟨show 0 ≤ (y 0).val by omega, show (y 0).val < 0 + 32 by omega⟩
    | ⟨1, _⟩ => exact ⟨show 256 * k.val + 128 * 0 ≤ (y 1).val by omega, show (y 1).val < 256 * k.val + 128 * 0 + 128 by omega⟩
  omega

/-- The stores of the trip write nothing in the columns of earlier trips. -/
theorem pieces_before (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty) (k : Fin k0_t2_loop.trips) (y : S128x3584.Idx) (h : (y 1).val < 256 * k.val) : ∀ p ∈ pieces arg11 arg12 arg13 X11 X12 X13 k, y ∉ p.1.set := by
  intro p hp
  unfold pieces at hp
  fin_cases hp
  · refine Rect.not_mem_set_of_axis _ y (1 : Fin 2) (256 * k.val + 128 * 1) 128 (congrFun (k0_off24_eq k 1) 1) rfl rfl (Or.inl (by omega))
  · refine Rect.not_mem_set_of_axis _ y (1 : Fin 2) (256 * k.val + 128 * 0) 128 (congrFun (k0_off24_eq k 0) 1) rfl rfl (Or.inl (by omega))
  · refine Rect.not_mem_set_of_axis _ y (1 : Fin 2) (256 * k.val + 128 * 1) 128 (congrFun (k0_off19_eq k 1) 1) rfl rfl (Or.inl (by omega))
  · refine Rect.not_mem_set_of_axis _ y (1 : Fin 2) (256 * k.val + 128 * 0) 128 (congrFun (k0_off19_eq k 0) 1) rfl rfl (Or.inl (by omega))
  · refine Rect.not_mem_set_of_axis _ y (1 : Fin 2) (256 * k.val + 128 * 1) 128 (congrFun (k0_off14_eq k 1) 1) rfl rfl (Or.inl (by omega))
  · refine Rect.not_mem_set_of_axis _ y (1 : Fin 2) (256 * k.val + 128 * 0) 128 (congrFun (k0_off14_eq k 0) 1) rfl rfl (Or.inl (by omega))
  · refine Rect.not_mem_set_of_axis _ y (1 : Fin 2) (256 * k.val + 128 * 1) 128 (congrFun (k0_off9_eq k 1) 1) rfl rfl (Or.inl (by omega))
  · refine Rect.not_mem_set_of_axis _ y (1 : Fin 2) (256 * k.val + 128 * 0) 128 (congrFun (k0_off9_eq k 0) 1) rfl rfl (Or.inl (by omega))

end Cert.KernelIdeal.Gen
-- ==== Proof.Expand.lean ====
module

public import proofs.«01_k».proof.Proof.Gen.KernelIdeal.Skeleton
public import proofs.«01_k».proof.Proof.Gen.KernelIdeal.Launch
public import proofs.«01_k».proof.Proof.Words
public import proofs.«01_k».proof.Proof.Pieces
public import Idealize.ShloMosaic.Lib.Writes
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words
open Idealize.ShloMosaic.Pipeline (Dat Cfg Window BodyObligation cellOf)

variable {F : FTy → Type} [FloatOps F]

local notation "𝕄" => MT nD τ sig Unit (Elt F) ℕ (UR sig nD τ) ℕ

/-- What the loop over groups of channels holds: the scales, the window and the table it reads, and the two results it fills. -/
def expandInv (c : Dev nD) (arg6 : Memref sig .tc .vmem S128x3584 .bf16) (arg7 : Memref sig .tc .vmem S3584x128 .bf16)
    (arg11 : Memref sig .tc .vmem S512x128 .i32) (arg12 : Memref sig .tc .vmem S128x128 .f32) (arg13 : Memref sig .tc .vmem S128x512 .i32)
    (X11 : BufTy.Contents (Elt F) arg11.view.ty) (X12 : BufTy.Contents (Elt F) arg12.view.ty) (X13 : BufTy.Contents (Elt F) arg13.view.ty)
    (k : ℕ) : sProp 𝕄 :=
  iprop((arg11.view.loc (c : Thread nD τ) ↦[arg11.view.set]{fullShare} X11) ∗ (arg12.view.loc (c : Thread nD τ) ↦[arg12.view.set]{fullShare} X12)
    ∗ (arg13.view.loc (c : Thread nD τ) ↦[arg13.view.set]{fullShare} X13)
    ∗ (∃ f, (arg6.view.loc (c : Thread nD τ) ↦[arg6.view.set]{fullShare} f) ∗ ⌜∀ y, (y 1).val < 256 * k → arg6.view.read (Elt F) f y
        = expandN (at2 (arg13.view.read (Elt F) X13)) (at2 (arg11.view.read (Elt F) X11)) (at2 (arg12.view.read (Elt F) X12)) (y 0).val (y 1).val⌝)
    ∗ (∃ f, (arg7.view.loc (c : Thread nD τ) ↦[arg7.view.set]{fullShare} f) ∗ ⌜∀ y, (y 0).val < 256 * k → arg7.view.read (Elt F) f y
        = expandN (at2 (arg13.view.read (Elt F) X13)) (at2 (arg11.view.read (Elt F) X11)) (at2 (arg12.view.read (Elt F) X12)) (y 1).val (y 0).val⌝))

set_option maxHeartbeats 40000000 in
/-- One trip of the loop over groups of channels rebuilds the next 256 channels of every token. -/
theorem expand_step (c : Dev nD) (i : grid0.Coords) (arg1 : Memref sig .tc .smem S3x640 .i32) (harg1 : arg1.IsWhole) (arg2 : Memref sig .tc .smem S3x640 .f32) (harg2 : arg2.IsWhole) (arg3 : Memref sig .tc .smem S3x640 .f32) (harg3 : arg3.IsWhole) (arg4 : Memref sig .tc .vmem S128x448 .i8) (harg4 : arg4.IsWhole) (arg5 : Memref sig .tc .vmem S13440x128 .i8) (harg5 : arg5.IsWhole) (arg6 : Memref sig .tc .vmem S128x3584 .bf16) (harg6 : arg6.IsWhole) (arg7 : Memref sig .tc .vmem S3584x128 .bf16) (harg7 : arg7.IsWhole) (arg8 : Memref sig .tc .vmem S128x128 .f32) (harg8 : arg8.IsWhole) (arg9 : Memref sig .tc .smem S1 .i32) (harg9 : arg9.IsWhole) (arg10 : Memref sig .tc .vmem S3360x128 .i32) (harg10 : arg10.IsWhole) (arg11 : Memref sig .tc .vmem S512x128 .i32) (harg11 : arg11.IsWhole) (arg12 : Memref sig .tc .vmem S128x128 .f32) (harg12 : arg12.IsWhole) (arg13 : Memref sig .tc .vmem S128x512 .i32) (harg13 : arg13.IsWhole) (arg14 : Memref sig .tc .vmem S448x448 .bf16) (harg14 : arg14.IsWhole)
    (X11 : BufTy.Contents (Elt F) arg11.view.ty) (X12 : BufTy.Contents (Elt F) arg12.view.ty) (X13 : BufTy.Contents (Elt F) arg13.view.ty)
    (k : Fin k0_t2_loop.trips) :
    expandInv (F := F) c arg6 arg7 arg11 arg12 arg13 X11 X12 X13 k.val
      ⊢ wp frame (wpE (defs₀ (F := F)) Variants.none (c : Thread nD τ) none) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 k ⟨⟩)
        (fun _ => expandInv (F := F) c arg6 arg7 arg11 arg12 arg13 X11 X12 X13 (k.val + 1)) := by
  have hk : k.val < 14 := Nat.lt_of_lt_of_le k.isLt k0_t2_abs.2.1
  unfold expandInv k0_t2_body
  iintro ⟨H11, H12, H13, ⟨%f6, H6, %h6⟩, ⟨%f7, H7, %h7⟩⟩
  sl_exec
  sl_step
  have eL : expand_step.sl.H6_8 arg11 arg12 arg13 X11 X12 X13 k = pieces arg11 arg12 arg13 X11 X12 X13 k := by
    have ew : expand_step.sl.v691 k = byteW k := (by decide +kernel : ∀ k, expand_step.sl.v691 k = byteW k) k
    have eB0 : expand_step.sl.v711 arg13 X13 k = baseV (expand_step.sl.v691 k) (arg13.view.readAt (Elt F) (Rect.unit (s := S128x512) (k0_off5 k) S8x128.size (k0_off5_inb k)).toLoadRect X13) := rfl
    have eG0 : expand_step.sl.v733 arg11 arg13 X11 X13 k = groupV (expand_step.sl.v711 arg13 X13 k) (arg11.view.readAt (Elt F) (⟨![0, 0], S8x128.size, ![4, 1], inb_S512x128_S8x128_0_0_s_4_1⟩ : LoadRect S512x128) X11) (arg11.view.readAt (Elt F) (⟨![1, 0], S8x128.size, ![4, 1], inb_S512x128_S8x128_1_0_s_4_1⟩ : LoadRect S512x128) X11) (arg11.view.readAt (Elt F) (⟨![2, 0], S8x128.size, ![4, 1], inb_S512x128_S8x128_2_0_s_4_1⟩ : LoadRect S512x128) X11) := rfl
    have eX0 : expand_step.sl.v746 arg13 X13 k = wordV (Scalar.addi (expand_step.sl.v691 k) 0#32) (arg13.view.readAt (Elt F) (Rect.unit (s := S128x512) (k0_off5 k) S8x128.size (k0_off5_inb k)).toLoadRect X13) := rfl
    have eY0 : expand_step.sl.v783 arg13 X13 k = wordV (Scalar.addi (expand_step.sl.v691 k) 16#32) (arg13.view.readAt (Elt F) (Rect.unit (s := S128x512) (k0_off5 k) S8x128.size (k0_off5_inb k)).toLoadRect X13) := rfl
    have eC0 : expand_step.sl.v772 arg11 arg13 X11 X13 k = codeV (expand_step.sl.v711 arg13 X13 k) (expand_step.sl.v733 arg11 arg13 X11 X13 k) (expand_step.sl.v746 arg13 X13 k) := rfl
    have eD0 : expand_step.sl.v809 arg11 arg13 X11 X13 k = codeV (expand_step.sl.v711 arg13 X13 k) (expand_step.sl.v733 arg11 arg13 X11 X13 k) (expand_step.sl.v783 arg13 X13 k) := rfl
    have eB1 : expand_step.sl.v827 arg13 X13 k = baseV (expand_step.sl.v691 k) (arg13.view.readAt (Elt F) (Rect.unit (s := S128x512) (k0_off6 k) S8x128.size (k0_off6_inb k)).toLoadRect X13) := rfl
    have eG1 : expand_step.sl.v849 arg11 arg13 X11 X13 k = groupV (expand_step.sl.v827 arg13 X13 k) (arg11.view.readAt (Elt F) (⟨![32, 0], S8x128.size, ![4, 1], inb_S512x128_S8x128_32_0_s_4_1⟩ : LoadRect S512x128) X11) (arg11.view.readAt (Elt F) (⟨![33, 0], S8x128.size, ![4, 1], inb_S512x128_S8x128_33_0_s_4_1⟩ : LoadRect S512x128) X11) (arg11.view.readAt (Elt F) (⟨![34, 0], S8x128.size, ![4, 1], inb_S512x128_S8x128_34_0_s_4_1⟩ : LoadRect S512x128) X11) := rfl
    have eX1 : expand_step.sl.v862 arg13 X13 k = wordV (Scalar.addi (expand_step.sl.v691 k) 0#32) (arg13.view.readAt (Elt F) (Rect.unit (s := S128x512) (k0_off6 k) S8x128.size (k0_off6_inb k)).toLoadRect X13) := rfl
    have eY1 : expand_step.sl.v899 arg13 X13 k = wordV (Scalar.addi (expand_step.sl.v691 k) 16#32) (arg13.view.readAt (Elt F) (Rect.unit (s := S128x512) (k0_off6 k) S8x128.size (k0_off6_inb k)).toLoadRect X13) := rfl
    have eC1 : expand_step.sl.v888 arg11 arg13 X11 X13 k = codeV (expand_step.sl.v827 arg13 X13 k) (expand_step.sl.v849 arg11 arg13 X11 X13 k) (expand_step.sl.v862 arg13 X13 k) := rfl
    have eD1 : expand_step.sl.v925 arg11 arg13 X11 X13 k = codeV (expand_step.sl.v827 arg13 X13 k) (expand_step.sl.v849 arg11 arg13 X11 X13 k) (expand_step.sl.v899 arg13 X13 k) := rfl
    have eB2 : expand_step.sl.v943 arg13 X13 k = baseV (expand_step.sl.v691 k) (arg13.view.readAt (Elt F) (Rect.unit (s := S128x512) (k0_off7 k) S8x128.size (k0_off7_inb k)).toLoadRect X13) := rfl
    have eG2 : expand_step.sl.v965 arg11 arg13 X11 X13 k = groupV (expand_step.sl.v943 arg13 X13 k) (arg11.view.readAt (Elt F) (⟨![64, 0], S8x128.size, ![4, 1], inb_S512x128_S8x128_64_0_s_4_1⟩ : LoadRect S512x128) X11) (arg11.view.readAt (Elt F) (⟨![65, 0], S8x128.size, ![4, 1], inb_S512x128_S8x128_65_0_s_4_1⟩ : LoadRect S512x128) X11) (arg11.view.readAt (Elt F) (⟨![66, 0], S8x128.size, ![4, 1], inb_S512x128_S8x128_66_0_s_4_1⟩ : LoadRect S512x128) X11) := rfl
    have eX2 : expand_step.sl.v978 arg13 X13 k = wordV (Scalar.addi (expand_step.sl.v691 k) 0#32) (arg13.view.readAt (Elt F) (Rect.unit (s := S128x512) (k0_off7 k) S8x128.size (k0_off7_inb k)).toLoadRect X13) := rfl
    have eY2 : expand_step.sl.v1015 arg13 X13 k = wordV (Scalar.addi (expand_step.sl.v691 k) 16#32) (arg13.view.readAt (Elt F) (Rect.unit (s := S128x512) (k0_off7 k) S8x128.size (k0_off7_inb k)).toLoadRect X13) := rfl
    have eC2 : expand_step.sl.v1004 arg11 arg13 X11 X13 k = codeV (expand_step.sl.v943 arg13 X13 k) (expand_step.sl.v965 arg11 arg13 X11 X13 k) (expand_step.sl.v978 arg13 X13 k) := rfl
    have eD2 : expand_step.sl.v1041 arg11 arg13 X11 X13 k = codeV (expand_step.sl.v943 arg13 X13 k) (expand_step.sl.v965 arg11 arg13 X11 X13 k) (expand_step.sl.v1015 arg13 X13 k) := rfl
    have eB3 : expand_step.sl.v1059 arg13 X13 k = baseV (expand_step.sl.v691 k) (arg13.view.readAt (Elt F) (Rect.unit (s := S128x512) (k0_off8 k) S8x128.size (k0_off8_inb k)).toLoadRect X13) := rfl
    have eG3 : expand_step.sl.v1081 arg11 arg13 X11 X13 k = groupV (expand_step.sl.v1059 arg13 X13 k) (arg11.view.readAt (Elt F) (⟨![96, 0], S8x128.size, ![4, 1], inb_S512x128_S8x128_96_0_s_4_1⟩ : LoadRect S512x128) X11) (arg11.view.readAt (Elt F) (⟨![97, 0], S8x128.size, ![4, 1], inb_S512x128_S8x128_97_0_s_4_1⟩ : LoadRect S512x128) X11) (arg11.view.readAt (Elt F) (⟨![98, 0], S8x128.size, ![4, 1], inb_S512x128_S8x128_98_0_s_4_1⟩ : LoadRect S512x128) X11) := rfl
    have eX3 : expand_step.sl.v1094 arg13 X13 k = wordV (Scalar.addi (expand_step.sl.v691 k) 0#32) (arg13.view.readAt (Elt F) (Rect.unit (s := S128x512) (k0_off8 k) S8x128.size (k0_off8_inb k)).toLoadRect X13) := rfl
    have eY3 : expand_step.sl.v1131 arg13 X13 k = wordV (Scalar.addi (expand_step.sl.v691 k) 16#32) (arg13.view.readAt (Elt F) (Rect.unit (s := S128x512) (k0_off8 k) S8x128.size (k0_off8_inb k)).toLoadRect X13) := rfl
    have eC3 : expand_step.sl.v1120 arg11 arg13 X11 X13 k = codeV (expand_step.sl.v1059 arg13 X13 k) (expand_step.sl.v1081 arg11 arg13 X11 X13 k) (expand_step.sl.v1094 arg13 X13 k) := rfl
    have eB4 : expand_step.sl.v1195 arg13 X13 k = baseV (expand_step.sl.v691 k) (arg13.view.readAt (Elt F) (Rect.unit (s := S128x512) (k0_off10 k) S8x128.size (k0_off10_inb k)).toLoadRect X13) := rfl
    have eG4 : expand_step.sl.v1217 arg11 arg13 X11 X13 k = groupV (expand_step.sl.v1195 arg13 X13 k) (arg11.view.readAt (Elt F) (⟨![128, 0], S8x128.size, ![4, 1], inb_S512x128_S8x128_128_0_s_4_1⟩ : LoadRect S512x128) X11) (arg11.view.readAt (Elt F) (⟨![129, 0], S8x128.size, ![4, 1], inb_S512x128_S8x128_129_0_s_4_1⟩ : LoadRect S512x128) X11) (arg11.view.readAt (Elt F) (⟨![130, 0], S8x128.size, ![4, 1], inb_S512x128_S8x128_130_0_s_4_1⟩ : LoadRect S512x128) X11) := rfl
    have eX4 : expand_step.sl.v1230 arg13 X13 k = wordV (Scalar.addi (expand_step.sl.v691 k) 0#32) (arg13.view.readAt (Elt F) (Rect.unit (s := S128x512) (k0_off10 k) S8x128.size (k0_off10_inb k)).toLoadRect X13) := rfl
    have eY4 : expand_step.sl.v1267 arg13 X13 k = wordV (Scalar.addi (expand_step.sl.v691 k) 16#32) (arg13.view.readAt (Elt F) (Rect.unit (s := S128x512) (k0_off10 k) S8x128.size (k0_off10_inb k)).toLoadRect X13) := rfl
    have eC4 : expand_step.sl.v1256 arg11 arg13 X11 X13 k = codeV (expand_step.sl.v1195 arg13 X13 k) (expand_step.sl.v1217 arg11 arg13 X11 X13 k) (expand_step.sl.v1230 arg13 X13 k) := rfl
    have eD4 : expand_step.sl.v1293 arg11 arg13 X11 X13 k = codeV (expand_step.sl.v1195 arg13 X13 k) (expand_step.sl.v1217 arg11 arg13 X11 X13 k) (expand_step.sl.v1267 arg13 X13 k) := rfl
    have eB5 : expand_step.sl.v1311 arg13 X13 k = baseV (expand_step.sl.v691 k) (arg13.view.readAt (Elt F) (Rect.unit (s := S128x512) (k0_off11 k) S8x128.size (k0_off11_inb k)).toLoadRect X13) := rfl
    have eG5 : expand_step.sl.v1333 arg11 arg13 X11 X13 k = groupV (expand_step.sl.v1311 arg13 X13 k) (arg11.view.readAt (Elt F) (⟨![160, 0], S8x128.size, ![4, 1], inb_S512x128_S8x128_160_0_s_4_1⟩ : LoadRect S512x128) X11) (arg11.view.readAt (Elt F) (⟨![161, 0], S8x128.size, ![4, 1], inb_S512x128_S8x128_161_0_s_4_1⟩ : LoadRect S512x128) X11) (arg11.view.readAt (Elt F) (⟨![162, 0], S8x128.size, ![4, 1], inb_S512x128_S8x128_162_0_s_4_1⟩ : LoadRect S512x128) X11) := rfl
    have eX5 : expand_step.sl.v1346 arg13 X13 k = wordV (Scalar.addi (expand_step.sl.v691 k) 0#32) (arg13.view.readAt (Elt F) (Rect.unit (s := S128x512) (k0_off11 k) S8x128.size (k0_off11_inb k)).toLoadRect X13) := rfl
    have eY5 : expand_step.sl.v1383 arg13 X13 k = wordV (Scalar.addi (expand_step.sl.v691 k) 16#32) (arg13.view.readAt (Elt F) (Rect.unit (s := S128x512) (k0_off11 k) S8x128.size (k0_off11_inb k)).toLoadRect X13) := rfl
    have eC5 : expand_step.sl.v1372 arg11 arg13 X11 X13 k = codeV (expand_step.sl.v1311 arg13 X13 k) (expand_step.sl.v1333 arg11 arg13 X11 X13 k) (expand_step.sl.v1346 arg13 X13 k) := rfl
    have eD5 : expand_step.sl.v1409 arg11 arg13 X11 X13 k = codeV (expand_step.sl.v1311 arg13 X13 k) (expand_step.sl.v1333 arg11 arg13 X11 X13 k) (expand_step.sl.v1383 arg13 X13 k) := rfl
    have eB6 : expand_step.sl.v1427 arg13 X13 k = baseV (expand_step.sl.v691 k) (arg13.view.readAt (Elt F) (Rect.unit (s := S128x512) (k0_off12 k) S8x128.size (k0_off12_inb k)).toLoadRect X13) := rfl
    have eG6 : expand_step.sl.v1449 arg11 arg13 X11 X13 k = groupV (expand_step.sl.v1427 arg13 X13 k) (arg11.view.readAt (Elt F) (⟨![192, 0], S8x128.size, ![4, 1], inb_S512x128_S8x128_192_0_s_4_1⟩ : LoadRect S512x128) X11) (arg11.view.readAt (Elt F) (⟨![193, 0], S8x128.size, ![4, 1], inb_S512x128_S8x128_193_0_s_4_1⟩ : LoadRect S512x128) X11) (arg11.view.readAt (Elt F) (⟨![194, 0], S8x128.size, ![4, 1], inb_S512x128_S8x128_194_0_s_4_1⟩ : LoadRect S512x128) X11) := rfl
    have eX6 : expand_step.sl.v1462 arg13 X13 k = wordV (Scalar.addi (expand_step.sl.v691 k) 0#32) (arg13.view.readAt (Elt F) (Rect.unit (s := S128x512) (k0_off12 k) S8x128.size (k0_off12_inb k)).toLoadRect X13) := rfl
    have eY6 : expand_step.sl.v1499 arg13 X13 k = wordV (Scalar.addi (expand_step.sl.v691 k) 16#32) (arg13.view.readAt (Elt F) (Rect.unit (s := S128x512) (k0_off12 k) S8x128.size (k0_off12_inb k)).toLoadRect X13) := rfl
    have eC6 : expand_step.sl.v1488 arg11 arg13 X11 X13 k = codeV (expand_step.sl.v1427 arg13 X13 k) (expand_step.sl.v1449 arg11 arg13 X11 X13 k) (expand_step.sl.v1462 arg13 X13 k) := rfl
    have eD6 : expand_step.sl.v1525 arg11 arg13 X11 X13 k = codeV (expand_step.sl.v1427 arg13 X13 k) (expand_step.sl.v1449 arg11 arg13 X11 X13 k) (expand_step.sl.v1499 arg13 X13 k) := rfl
    have eB7 : expand_step.sl.v1543 arg13 X13 k = baseV (expand_step.sl.v691 k) (arg13.view.readAt (Elt F) (Rect.unit (s := S128x512) (k0_off13 k) S8x128.size (k0_off13_inb k)).toLoadRect X13) := rfl
    have eG7 : expand_step.sl.v1565 arg11 arg13 X11 X13 k = groupV (expand_step.sl.v1543 arg13 X13 k) (arg11.view.readAt (Elt F) (⟨![224, 0], S8x128.size, ![4, 1], inb_S512x128_S8x128_224_0_s_4_1⟩ : LoadRect S512x128) X11) (arg11.view.readAt (Elt F) (⟨![225, 0], S8x128.size, ![4, 1], inb_S512x128_S8x128_225_0_s_4_1⟩ : LoadRect S512x128) X11) (arg11.view.readAt (Elt F) (⟨![226, 0], S8x128.size, ![4, 1], inb_S512x128_S8x128_226_0_s_4_1⟩ : LoadRect S512x128) X11) := rfl
    have eX7 : expand_step.sl.v1578 arg13 X13 k = wordV (Scalar.addi (expand_step.sl.v691 k) 0#32) (arg13.view.readAt (Elt F) (Rect.unit (s := S128x512) (k0_off13 k) S8x128.size (k0_off13_inb k)).toLoadRect X13) := rfl
    have eY7 : expand_step.sl.v1615 arg13 X13 k = wordV (Scalar.addi (expand_step.sl.v691 k) 16#32) (arg13.view.readAt (Elt F) (Rect.unit (s := S128x512) (k0_off13 k) S8x128.size (k0_off13_inb k)).toLoadRect X13) := rfl
    have eC7 : expand_step.sl.v1604 arg11 arg13 X11 X13 k = codeV (expand_step.sl.v1543 arg13 X13 k) (expand_step.sl.v1565 arg11 arg13 X11 X13 k) (expand_step.sl.v1578 arg13 X13 k) := rfl
    have eB8 : expand_step.sl.v1679 arg13 X13 k = baseV (expand_step.sl.v691 k) (arg13.view.readAt (Elt F) (Rect.unit (s := S128x512) (k0_off15 k) S8x128.size (k0_off15_inb k)).toLoadRect X13) := rfl
    have eG8 : expand_step.sl.v1701 arg11 arg13 X11 X13 k = groupV (expand_step.sl.v1679 arg13 X13 k) (arg11.view.readAt (Elt F) (⟨![256, 0], S8x128.size, ![4, 1], inb_S512x128_S8x128_256_0_s_4_1⟩ : LoadRect S512x128) X11) (arg11.view.readAt (Elt F) (⟨![257, 0], S8x128.size, ![4, 1], inb_S512x128_S8x128_257_0_s_4_1⟩ : LoadRect S512x128) X11) (arg11.view.readAt (Elt F) (⟨![258, 0], S8x128.size, ![4, 1], inb_S512x128_S8x128_258_0_s_4_1⟩ : LoadRect S512x128) X11) := rfl
    have eX8 : expand_step.sl.v1714 arg13 X13 k = wordV (Scalar.addi (expand_step.sl.v691 k) 0#32) (arg13.view.readAt (Elt F) (Rect.unit (s := S128x512) (k0_off15 k) S8x128.size (k0_off15_inb k)).toLoadRect X13) := rfl
    have eY8 : expand_step.sl.v1751 arg13 X13 k = wordV (Scalar.addi (expand_step.sl.v691 k) 16#32) (arg13.view.readAt (Elt F) (Rect.unit (s := S128x512) (k0_off15 k) S8x128.size (k0_off15_inb k)).toLoadRect X13) := rfl
    have eC8 : expand_step.sl.v1740 arg11 arg13 X11 X13 k = codeV (expand_step.sl.v1679 arg13 X13 k) (expand_step.sl.v1701 arg11 arg13 X11 X13 k) (expand_step.sl.v1714 arg13 X13 k) := rfl
    have eD8 : expand_step.sl.v1777 arg11 arg13 X11 X13 k = codeV (expand_step.sl.v1679 arg13 X13 k) (expand_step.sl.v1701 arg11 arg13 X11 X13 k) (expand_step.sl.v1751 arg13 X13 k) := rfl
    have eB9 : expand_step.sl.v1795 arg13 X13 k = baseV (expand_step.sl.v691 k) (arg13.view.readAt (Elt F) (Rect.unit (s := S128x512) (k0_off16 k) S8x128.size (k0_off16_inb k)).toLoadRect X13) := rfl
    have eG9 : expand_step.sl.v1817 arg11 arg13 X11 X13 k = groupV (expand_step.sl.v1795 arg13 X13 k) (arg11.view.readAt (Elt F) (⟨![288, 0], S8x128.size, ![4, 1], inb_S512x128_S8x128_288_0_s_4_1⟩ : LoadRect S512x128) X11) (arg11.view.readAt (Elt F) (⟨![289, 0], S8x128.size, ![4, 1], inb_S512x128_S8x128_289_0_s_4_1⟩ : LoadRect S512x128) X11) (arg11.view.readAt (Elt F) (⟨![290, 0], S8x128.size, ![4, 1], inb_S512x128_S8x128_290_0_s_4_1⟩ : LoadRect S512x128) X11) := rfl
    have eX9 : expand_step.sl.v1830 arg13 X13 k = wordV (Scalar.addi (expand_step.sl.v691 k) 0#32) (arg13.view.readAt (Elt F) (Rect.unit (s := S128x512) (k0_off16 k) S8x128.size (k0_off16_inb k)).toLoadRect X13) := rfl
    have eY9 : expand_step.sl.v1867 arg13 X13 k = wordV (Scalar.addi (expand_step.sl.v691 k) 16#32) (arg13.view.readAt (Elt F) (Rect.unit (s := S128x512) (k0_off16 k) S8x128.size (k0_off16_inb k)).toLoadRect X13) := rfl
    have eC9 : expand_step.sl.v1856 arg11 arg13 X11 X13 k = codeV (expand_step.sl.v1795 arg13 X13 k) (expand_step.sl.v1817 arg11 arg13 X11 X13 k) (expand_step.sl.v1830 arg13 X13 k) := rfl
    have eD9 : expand_step.sl.v1893 arg11 arg13 X11 X13 k = codeV (expand_step.sl.v1795 arg13 X13 k) (expand_step.sl.v1817 arg11 arg13 X11 X13 k) (expand_step.sl.v1867 arg13 X13 k) := rfl
    have eB10 : expand_step.sl.v1911 arg13 X13 k = baseV (expand_step.sl.v691 k) (arg13.view.readAt (Elt F) (Rect.unit (s := S128x512) (k0_off17 k) S8x128.size (k0_off17_inb k)).toLoadRect X13) := rfl
    have eG10 : expand_step.sl.v1933 arg11 arg13 X11 X13 k = groupV (expand_step.sl.v1911 arg13 X13 k) (arg11.view.readAt (Elt F) (⟨![320, 0], S8x128.size, ![4, 1], inb_S512x128_S8x128_320_0_s_4_1⟩ : LoadRect S512x128) X11) (arg11.view.readAt (Elt F) (⟨![321, 0], S8x128.size, ![4, 1], inb_S512x128_S8x128_321_0_s_4_1⟩ : LoadRect S512x128) X11) (arg11.view.readAt (Elt F) (⟨![322, 0], S8x128.size, ![4, 1], inb_S512x128_S8x128_322_0_s_4_1⟩ : LoadRect S512x128) X11) := rfl
    have eX10 : expand_step.sl.v1946 arg13 X13 k = wordV (Scalar.addi (expand_step.sl.v691 k) 0#32) (arg13.view.readAt (Elt F) (Rect.unit (s := S128x512) (k0_off17 k) S8x128.size (k0_off17_inb k)).toLoadRect X13) := rfl
    have eY10 : expand_step.sl.v1983 arg13 X13 k = wordV (Scalar.addi (expand_step.sl.v691 k) 16#32) (arg13.view.readAt (Elt F) (Rect.unit (s := S128x512) (k0_off17 k) S8x128.size (k0_off17_inb k)).toLoadRect X13) := rfl
    have eC10 : expand_step.sl.v1972 arg11 arg13 X11 X13 k = codeV (expand_step.sl.v1911 arg13 X13 k) (expand_step.sl.v1933 arg11 arg13 X11 X13 k) (expand_step.sl.v1946 arg13 X13 k) := rfl
    have eD10 : expand_step.sl.v2009 arg11 arg13 X11 X13 k = codeV (expand_step.sl.v1911 arg13 X13 k) (expand_step.sl.v1933 arg11 arg13 X11 X13 k) (expand_step.sl.v1983 arg13 X13 k) := rfl
    have eB11 : expand_step.sl.v2027 arg13 X13 k = baseV (expand_step.sl.v691 k) (arg13.view.readAt (Elt F) (Rect.unit (s := S128x512) (k0_off18 k) S8x128.size (k0_off18_inb k)).toLoadRect X13) := rfl
    have eG11 : expand_step.sl.v2049 arg11 arg13 X11 X13 k = groupV (expand_step.sl.v2027 arg13 X13 k) (arg11.view.readAt (Elt F) (⟨![352, 0], S8x128.size, ![4, 1], inb_S512x128_S8x128_352_0_s_4_1⟩ : LoadRect S512x128) X11) (arg11.view.readAt (Elt F) (⟨![353, 0], S8x128.size, ![4, 1], inb_S512x128_S8x128_353_0_s_4_1⟩ : LoadRect S512x128) X11) (arg11.view.readAt (Elt F) (⟨![354, 0], S8x128.size, ![4, 1], inb_S512x128_S8x128_354_0_s_4_1⟩ : LoadRect S512x128) X11) := rfl
    have eX11 : expand_step.sl.v2062 arg13 X13 k = wordV (Scalar.addi (expand_step.sl.v691 k) 0#32) (arg13.view.readAt (Elt F) (Rect.unit (s := S128x512) (k0_off18 k) S8x128.size (k0_off18_inb k)).toLoadRect X13) := rfl
    have eY11 : expand_step.sl.v2099 arg13 X13 k = wordV (Scalar.addi (expand_step.sl.v691 k) 16#32) (arg13.view.readAt (Elt F) (Rect.unit (s := S128x512) (k0_off18 k) S8x128.size (k0_off18_inb k)).toLoadRect X13) := rfl
    have eC11 : expand_step.sl.v2088 arg11 arg13 X11 X13 k = codeV (expand_step.sl.v2027 arg13 X13 k) (expand_step.sl.v2049 arg11 arg13 X11 X13 k) (expand_step.sl.v2062 arg13 X13 k) := rfl
    have eB12 : expand_step.sl.v2163 arg13 X13 k = baseV (expand_step.sl.v691 k) (arg13.view.readAt (Elt F) (Rect.unit (s := S128x512) (k0_off20 k) S8x128.size (k0_off20_inb k)).toLoadRect X13) := rfl
    have eG12 : expand_step.sl.v2185 arg11 arg13 X11 X13 k = groupV (expand_step.sl.v2163 arg13 X13 k) (arg11.view.readAt (Elt F) (⟨![384, 0], S8x128.size, ![4, 1], inb_S512x128_S8x128_384_0_s_4_1⟩ : LoadRect S512x128) X11) (arg11.view.readAt (Elt F) (⟨![385, 0], S8x128.size, ![4, 1], inb_S512x128_S8x128_385_0_s_4_1⟩ : LoadRect S512x128) X11) (arg11.view.readAt (Elt F) (⟨![386, 0], S8x128.size, ![4, 1], inb_S512x128_S8x128_386_0_s_4_1⟩ : LoadRect S512x128) X11) := rfl
    have eX12 : expand_step.sl.v2198 arg13 X13 k = wordV (Scalar.addi (expand_step.sl.v691 k) 0#32) (arg13.view.readAt (Elt F) (Rect.unit (s := S128x512) (k0_off20 k) S8x128.size (k0_off20_inb k)).toLoadRect X13) := rfl
    have eY12 : expand_step.sl.v2235 arg13 X13 k = wordV (Scalar.addi (expand_step.sl.v691 k) 16#32) (arg13.view.readAt (Elt F) (Rect.unit (s := S128x512) (k0_off20 k) S8x128.size (k0_off20_inb k)).toLoadRect X13) := rfl
    have eC12 : expand_step.sl.v2224 arg11 arg13 X11 X13 k = codeV (expand_step.sl.v2163 arg13 X13 k) (expand_step.sl.v2185 arg11 arg13 X11 X13 k) (expand_step.sl.v2198 arg13 X13 k) := rfl
    have eD12 : expand_step.sl.v2261 arg11 arg13 X11 X13 k = codeV (expand_step.sl.v2163 arg13 X13 k) (expand_step.sl.v2185 arg11 arg13 X11 X13 k) (expand_step.sl.v2235 arg13 X13 k) := rfl
    have eB13 : expand_step.sl.v2279 arg13 X13 k = baseV (expand_step.sl.v691 k) (arg13.view.readAt (Elt F) (Rect.unit (s := S128x512) (k0_off21 k) S8x128.size (k0_off21_inb k)).toLoadRect X13) := rfl
    have eG13 : expand_step.sl.v2301 arg11 arg13 X11 X13 k = groupV (expand_step.sl.v2279 arg13 X13 k) (arg11.view.readAt (Elt F) (⟨![416, 0], S8x128.size, ![4, 1], inb_S512x128_S8x128_416_0_s_4_1⟩ : LoadRect S512x128) X11) (arg11.view.readAt (Elt F) (⟨![417, 0], S8x128.size, ![4, 1], inb_S512x128_S8x128_417_0_s_4_1⟩ : LoadRect S512x128) X11) (arg11.view.readAt (Elt F) (⟨![418, 0], S8x128.size, ![4, 1], inb_S512x128_S8x128_418_0_s_4_1⟩ : LoadRect S512x128) X11) := rfl
    have eX13 : expand_step.sl.v2314 arg13 X13 k = wordV (Scalar.addi (expand_step.sl.v691 k) 0#32) (arg13.view.readAt (Elt F) (Rect.unit (s := S128x512) (k0_off21 k) S8x128.size (k0_off21_inb k)).toLoadRect X13) := rfl
    have eY13 : expand_step.sl.v2351 arg13 X13 k = wordV (Scalar.addi (expand_step.sl.v691 k) 16#32) (arg13.view.readAt (Elt F) (Rect.unit (s := S128x512) (k0_off21 k) S8x128.size (k0_off21_inb k)).toLoadRect X13) := rfl
    have eC13 : expand_step.sl.v2340 arg11 arg13 X11 X13 k = codeV (expand_step.sl.v2279 arg13 X13 k) (expand_step.sl.v2301 arg11 arg13 X11 X13 k) (expand_step.sl.v2314 arg13 X13 k) := rfl
    have eD13 : expand_step.sl.v2377 arg11 arg13 X11 X13 k = codeV (expand_step.sl.v2279 arg13 X13 k) (expand_step.sl.v2301 arg11 arg13 X11 X13 k) (expand_step.sl.v2351 arg13 X13 k) := rfl
    have eB14 : expand_step.sl.v2395 arg13 X13 k = baseV (expand_step.sl.v691 k) (arg13.view.readAt (Elt F) (Rect.unit (s := S128x512) (k0_off22 k) S8x128.size (k0_off22_inb k)).toLoadRect X13) := rfl
    have eG14 : expand_step.sl.v2417 arg11 arg13 X11 X13 k = groupV (expand_step.sl.v2395 arg13 X13 k) (arg11.view.readAt (Elt F) (⟨![448, 0], S8x128.size, ![4, 1], inb_S512x128_S8x128_448_0_s_4_1⟩ : LoadRect S512x128) X11) (arg11.view.readAt (Elt F) (⟨![449, 0], S8x128.size, ![4, 1], inb_S512x128_S8x128_449_0_s_4_1⟩ : LoadRect S512x128) X11) (arg11.view.readAt (Elt F) (⟨![450, 0], S8x128.size, ![4, 1], inb_S512x128_S8x128_450_0_s_4_1⟩ : LoadRect S512x128) X11) := rfl
    have eX14 : expand_step.sl.v2430 arg13 X13 k = wordV (Scalar.addi (expand_step.sl.v691 k) 0#32) (arg13.view.readAt (Elt F) (Rect.unit (s := S128x512) (k0_off22 k) S8x128.size (k0_off22_inb k)).toLoadRect X13) := rfl
    have eY14 : expand_step.sl.v2467 arg13 X13 k = wordV (Scalar.addi (expand_step.sl.v691 k) 16#32) (arg13.view.readAt (Elt F) (Rect.unit (s := S128x512) (k0_off22 k) S8x128.size (k0_off22_inb k)).toLoadRect X13) := rfl
    have eC14 : expand_step.sl.v2456 arg11 arg13 X11 X13 k = codeV (expand_step.sl.v2395 arg13 X13 k) (expand_step.sl.v2417 arg11 arg13 X11 X13 k) (expand_step.sl.v2430 arg13 X13 k) := rfl
    have eD14 : expand_step.sl.v2493 arg11 arg13 X11 X13 k = codeV (expand_step.sl.v2395 arg13 X13 k) (expand_step.sl.v2417 arg11 arg13 X11 X13 k) (expand_step.sl.v2467 arg13 X13 k) := rfl
    have eB15 : expand_step.sl.v2511 arg13 X13 k = baseV (expand_step.sl.v691 k) (arg13.view.readAt (Elt F) (Rect.unit (s := S128x512) (k0_off23 k) S8x128.size (k0_off23_inb k)).toLoadRect X13) := rfl
    have eG15 : expand_step.sl.v2533 arg11 arg13 X11 X13 k = groupV (expand_step.sl.v2511 arg13 X13 k) (arg11.view.readAt (Elt F) (⟨![480, 0], S8x128.size, ![4, 1], inb_S512x128_S8x128_480_0_s_4_1⟩ : LoadRect S512x128) X11) (arg11.view.readAt (Elt F) (⟨![481, 0], S8x128.size, ![4, 1], inb_S512x128_S8x128_481_0_s_4_1⟩ : LoadRect S512x128) X11) (arg11.view.readAt (Elt F) (⟨![482, 0], S8x128.size, ![4, 1], inb_S512x128_S8x128_482_0_s_4_1⟩ : LoadRect S512x128) X11) := rfl
    have eX15 : expand_step.sl.v2546 arg13 X13 k = wordV (Scalar.addi (expand_step.sl.v691 k) 0#32) (arg13.view.readAt (Elt F) (Rect.unit (s := S128x512) (k0_off23 k) S8x128.size (k0_off23_inb k)).toLoadRect X13) := rfl
    have eY15 : expand_step.sl.v2583 arg13 X13 k = wordV (Scalar.addi (expand_step.sl.v691 k) 16#32) (arg13.view.readAt (Elt F) (Rect.unit (s := S128x512) (k0_off23 k) S8x128.size (k0_off23_inb k)).toLoadRect X13) := rfl
    have eC15 : expand_step.sl.v2572 arg11 arg13 X11 X13 k = codeV (expand_step.sl.v2511 arg13 X13 k) (expand_step.sl.v2533 arg11 arg13 X11 X13 k) (expand_step.sl.v2546 arg13 X13 k) := rfl
    have eP0_0 : k0_pay55 (expand_step.sl.v772 arg11 arg13 X11 X13 k) (expand_step.sl.v888 arg11 arg13 X11 X13 k) (expand_step.sl.v1004 arg11 arg13 X11 X13 k) (expand_step.sl.v1120 arg11 arg13 X11 X13 k) (arg12.view.readAt (Elt F) (Rect.unit (s := S128x128) ![0, 0] S32x128.size inb_S128x128_S32x128_0_0).toLoadRect X12) = piece0_0 arg11 arg12 arg13 X11 X12 X13 k := by
      rw [eC0, eG0, eB0, eX0, eC1, eG1, eB1, eX1, eC2, eG2, eB2, eX2, eC3, eG3, eB3, eX3, ew]; rfl
    have eP0_1 : rowsV (expand_step.sl.v809 arg11 arg13 X11 X13 k) (expand_step.sl.v925 arg11 arg13 X11 X13 k) (expand_step.sl.v1041 arg11 arg13 X11 X13 k) (codeV (expand_step.sl.v1059 arg13 X13 k) (expand_step.sl.v1081 arg11 arg13 X11 X13 k) (expand_step.sl.v1131 arg13 X13 k)) (arg12.view.readAt (Elt F) (Rect.unit (s := S128x128) ![0, 0] S32x128.size inb_S128x128_S32x128_0_0).toLoadRect X12) = piece0_1 arg11 arg12 arg13 X11 X12 X13 k := by
      rw [eD0, eG0, eB0, eY0, eD1, eG1, eB1, eY1, eD2, eG2, eB2, eY2, eG3, eB3, eY3, ew]; rfl
    have eP1_0 : k0_pay100 (expand_step.sl.v1256 arg11 arg13 X11 X13 k) (expand_step.sl.v1372 arg11 arg13 X11 X13 k) (expand_step.sl.v1488 arg11 arg13 X11 X13 k) (expand_step.sl.v1604 arg11 arg13 X11 X13 k) (arg12.view.readAt (Elt F) (Rect.unit (s := S128x128) ![32, 0] S32x128.size inb_S128x128_S32x128_32_0).toLoadRect X12) = piece1_0 arg11 arg12 arg13 X11 X12 X13 k := by
      rw [eC4, eG4, eB4, eX4, eC5, eG5, eB5, eX5, eC6, eG6, eB6, eX6, eC7, eG7, eB7, eX7, ew]; rfl
    have eP1_1 : rowsV (expand_step.sl.v1293 arg11 arg13 X11 X13 k) (expand_step.sl.v1409 arg11 arg13 X11 X13 k) (expand_step.sl.v1525 arg11 arg13 X11 X13 k) (codeV (expand_step.sl.v1543 arg13 X13 k) (expand_step.sl.v1565 arg11 arg13 X11 X13 k) (expand_step.sl.v1615 arg13 X13 k)) (arg12.view.readAt (Elt F) (Rect.unit (s := S128x128) ![32, 0] S32x128.size inb_S128x128_S32x128_32_0).toLoadRect X12) = piece1_1 arg11 arg12 arg13 X11 X12 X13 k := by
      rw [eD4, eG4, eB4, eY4, eD5, eG5, eB5, eY5, eD6, eG6, eB6, eY6, eG7, eB7, eY7, ew]; rfl
    have eP2_0 : k0_pay145 (expand_step.sl.v1740 arg11 arg13 X11 X13 k) (expand_step.sl.v1856 arg11 arg13 X11 X13 k) (expand_step.sl.v1972 arg11 arg13 X11 X13 k) (expand_step.sl.v2088 arg11 arg13 X11 X13 k) (arg12.view.readAt (Elt F) (Rect.unit (s := S128x128) ![64, 0] S32x128.size inb_S128x128_S32x128_64_0).toLoadRect X12) = piece2_0 arg11 arg12 arg13 X11 X12 X13 k := by
      rw [eC8, eG8, eB8, eX8, eC9, eG9, eB9, eX9, eC10, eG10, eB10, eX10, eC11, eG11, eB11, eX11, ew]; rfl
    have eP2_1 : rowsV (expand_step.sl.v1777 arg11 arg13 X11 X13 k) (expand_step.sl.v1893 arg11 arg13 X11 X13 k) (expand_step.sl.v2009 arg11 arg13 X11 X13 k) (codeV (expand_step.sl.v2027 arg13 X13 k) (expand_step.sl.v2049 arg11 arg13 X11 X13 k) (expand_step.sl.v2099 arg13 X13 k)) (arg12.view.readAt (Elt F) (Rect.unit (s := S128x128) ![64, 0] S32x128.size inb_S128x128_S32x128_64_0).toLoadRect X12) = piece2_1 arg11 arg12 arg13 X11 X12 X13 k := by
      rw [eD8, eG8, eB8, eY8, eD9, eG9, eB9, eY9, eD10, eG10, eB10, eY10, eG11, eB11, eY11, ew]; rfl
    have eP3_0 : k0_pay6 (expand_step.sl.v2224 arg11 arg13 X11 X13 k) (expand_step.sl.v2340 arg11 arg13 X11 X13 k) (expand_step.sl.v2456 arg11 arg13 X11 X13 k) (expand_step.sl.v2572 arg11 arg13 X11 X13 k) (arg12.view.readAt (Elt F) (Rect.unit (s := S128x128) ![96, 0] S32x128.size inb_S128x128_S32x128_96_0).toLoadRect X12) = piece3_0 arg11 arg12 arg13 X11 X12 X13 k := by
      rw [eC12, eG12, eB12, eX12, eC13, eG13, eB13, eX13, eC14, eG14, eB14, eX14, eC15, eG15, eB15, eX15, ew]; rfl
    have eP3_1 : rowsV (expand_step.sl.v2261 arg11 arg13 X11 X13 k) (expand_step.sl.v2377 arg11 arg13 X11 X13 k) (expand_step.sl.v2493 arg11 arg13 X11 X13 k) (codeV (expand_step.sl.v2511 arg13 X13 k) (expand_step.sl.v2533 arg11 arg13 X11 X13 k) (expand_step.sl.v2583 arg13 X13 k)) (arg12.view.readAt (Elt F) (Rect.unit (s := S128x128) ![96, 0] S32x128.size inb_S128x128_S32x128_96_0).toLoadRect X12) = piece3_1 arg11 arg12 arg13 X11 X12 X13 k := by
      rw [eD12, eG12, eB12, eY12, eD13, eG13, eB13, eY13, eD14, eG14, eB14, eY14, eG15, eB15, eY15, ew]; rfl
    unfold expand_step.sl.H6_8 pieces
    rw [← eP0_0, ← eP0_1, ← eP1_0, ← eP1_1, ← eP2_0, ← eP2_1, ← eP3_0, ← eP3_1]
    rfl
  isplitl [H11]
  · iexact H11
  isplitl [H12]
  · iexact H12
  isplitl [H13]
  · iexact H13
  isplitl [H6]
  · iexists _
    isplitl [H6]
    · iexact H6
    ipureintro
    intro y hy
    rw [eL]
    by_cases h : (y 1).val < 256 * k.val
    · rw [View.read_writes_apply_of_forall_not_mem arg6.view f6 y (pieces arg11 arg12 arg13 X11 X12 X13 k) (pieces_before arg11 arg12 arg13 X11 X12 X13 k y h)]
      exact h6 y h
    · exact View.read_writes_apply_of_pieces arg6.view f6 (fun y : S128x3584.Idx => expandN (at2 (arg13.view.read (Elt F) X13)) (at2 (arg11.view.read (Elt F) X11)) (at2 (arg12.view.read (Elt F) X12)) (y 0).val (y 1).val) (pieces arg11 arg12 arg13 X11 X12 X13 k) (pieces_good arg11 arg12 arg13 X11 X12 X13 k) y (pieces_cover arg11 arg12 arg13 X11 X12 X13 k y (by omega) (by omega))
  iexists _
  isplitl [H7]
  · iexact H7
  ipureintro
  intro y hy
  by_cases h : (y 0).val < 256 * k.val
  · rw [View.read_writes_cons_unit_of_not_mem (heq := k0_off26_eq k) (a := 0) (ha := Or.inl h), View.writes_nil]
    exact h7 y h
  · have e := View.read_writes_cons_unit_of_mem arg7.view f7 (k0_off26_inb k) (k0_pay8 (expand_step.sl.v2631 arg6 arg11 arg12 arg13 X11 X12 X13 k)) [] y
      (fun | 0 => ⟨(y 0).val - 256 * k.val, show _ < 256 by omega⟩ | 1 => ⟨(y 1).val, (y 1).isLt⟩) (k0_off26_eq k)
      (fun | 0 => show (y 0).val = 256 * k.val + ((y 0).val - 256 * k.val) by omega | 1 => show (y 1).val = 0 + (y 1).val by omega)
    refine e.trans ?_
    have t : k0_pay8 (expand_step.sl.v2631 arg6 arg11 arg12 arg13 X11 X12 X13 k) (fun | 0 => ⟨(y 0).val - 256 * k.val, show _ < 256 by omega⟩ | 1 => ⟨(y 1).val, (y 1).isLt⟩)
        = expand_step.sl.v2631 arg6 arg11 arg12 arg13 X11 X12 X13 k (ValueIdx.ix2 ⟨(y 1).val, (y 1).isLt⟩ ⟨(y 0).val - 256 * k.val, show _ < 256 by omega⟩) := by
      unfold k0_pay8
      pointwise
      rfl
    refine t.trans ?_
    have eV : expand_step.sl.v2631 arg6 arg11 arg12 arg13 X11 X12 X13 k = arg6.view.readAt (Elt F) (Rect.unit (s := S128x3584) (k0_off25 k) S128x256.size (k0_off25_inb k)).toLoadRect (arg6.view.writes (Elt F) arg6.view.junk (pieces arg11 arg12 arg13 X11 X12 X13 k)) := by
      rw [← eL]; rfl
    rw [eV]
    have eb := k0_off25_eq k
    have e0 : k0_off25 k 0 = 0 := congrFun eb 0
    have e1 : k0_off25 k 1 = 256 * k.val := congrFun eb 1
    refine (View.read_writes_apply_of_pieces arg6.view _ (fun y : S128x3584.Idx => expandN (at2 (arg13.view.read (Elt F) X13)) (at2 (arg11.view.read (Elt F) X11)) (at2 (arg12.view.read (Elt F) X12)) (y 0).val (y 1).val) (pieces arg11 arg12 arg13 X11 X12 X13 k) (pieces_good arg11 arg12 arg13 X11 X12 X13 k) _ (pieces_cover arg11 arg12 arg13 X11 X12 X13 k _ ?_ ?_)).trans ?_
    · show 256 * k.val ≤ k0_off25 k 1 + 1 * ((y 0).val - 256 * k.val)
      rw [e1]; omega
    · show k0_off25 k 1 + 1 * ((y 0).val - 256 * k.val) < 256 * k.val + 256
      rw [e1]; omega
    · show expandN _ _ _ (k0_off25 k 0 + 1 * (y 1).val) (k0_off25 k 1 + 1 * ((y 0).val - 256 * k.val)) = _
      rw [e0, e1, show 0 + 1 * (y 1).val = (y 1).val by omega, show 256 * k.val + 1 * ((y 0).val - 256 * k.val) = (y 0).val by omega]
end Cert.KernelIdeal.Gen
-- ==== Proof.First.lean ====
module

public import proofs.«01_k».proof.Proof.Gen.KernelIdeal.Skeleton
public import proofs.«01_k».proof.Proof.Gen.KernelIdeal.Launch
public import proofs.«01_k».proof.Proof.Outs
public import proofs.«01_k».proof.Proof.Gather
public import proofs.«01_k».proof.Proof.Expand
public import Idealize.ShloMosaic.Lib.VecWindow
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The first step: it starts the tokens over, unpacks the codes into words, and rebuilds 128 tokens. -/
theorem run_first (c : Dev nD) (i : grid0.Coords) (arg1 : Memref sig .tc .smem S3x640 .i32) (harg1 : arg1.IsWhole) (arg2 : Memref sig .tc .smem S3x640 .f32) (harg2 : arg2.IsWhole) (arg3 : Memref sig .tc .smem S3x640 .f32) (harg3 : arg3.IsWhole) (arg4 : Memref sig .tc .vmem S128x448 .i8) (harg4 : arg4.IsWhole) (arg5 : Memref sig .tc .vmem S13440x128 .i8) (harg5 : arg5.IsWhole) (arg6 : Memref sig .tc .vmem S128x3584 .bf16) (harg6 : arg6.IsWhole) (arg7 : Memref sig .tc .vmem S3584x128 .bf16) (harg7 : arg7.IsWhole) (arg8 : Memref sig .tc .vmem S128x128 .f32) (harg8 : arg8.IsWhole) (arg9 : Memref sig .tc .smem S1 .i32) (harg9 : arg9.IsWhole) (arg10 : Memref sig .tc .vmem S3360x128 .i32) (harg10 : arg10.IsWhole) (arg11 : Memref sig .tc .vmem S512x128 .i32) (harg11 : arg11.IsWhole) (arg12 : Memref sig .tc .vmem S128x128 .f32) (harg12 : arg12.IsWhole) (arg13 : Memref sig .tc .vmem S128x512 .i32) (harg13 : arg13.IsWhole) (arg14 : Memref sig .tc .vmem S448x448 .bf16) (harg14 : arg14.IsWhole) (hc0 : cond0_0 i)
    (x1 : IVec S3x640 32) (x2 x3 : FVec F S3x640 .f32) (x4 : Vec F S128x448 .i8) (x5 : Vec F S13440x128 .i8)
    (hst : ∀ n < 1920, (startN (cntN x1) n).toNat ≤ 1720320) (hi : (i 0).val = 0) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (fun y => rebuiltN (128 * (i 0).val) x1 x2 x4 k0_pay191 (k0_pay192 x5) (y 0).val (y 1).val) ∗ owns (c : Thread nD τ) arg7 fullShare (fun y => rebuiltN (128 * (i 0).val) x1 x2 x4 k0_pay191 (k0_pay192 x5) (y 1).val (y 0).val) ∗ owns (c : Thread nD τ) arg8 fullShare (fun y => cntN x3 ((128 * (i 0).val) + (y 0).val)) ∗ owns (c : Thread nD τ) arg9 fullShare (fun _ => startN (cntN x1) ((128 * (i 0).val) + 128)) ∗ owns (c : Thread nD τ) arg10 fullShare (k0_pay192 x5) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare k0_pay191) -∗ K ⟨⟩))
      ⊢ wp frame (wpE (defs₀ (F := F)) Variants.none c none) Set.univ (cc0_rebuild i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_rebuild_eq_skeleton]; unfold cc0_rebuild_skel
  simp only [k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2; obtain rfl := harg3.eq_unread hf3; obtain rfl := harg4.eq_unread hf4; obtain rfl := harg5.eq_unread hf5
  sl_exec (disch := first | sl_exact hc0)
  have e1 : arg1.view.read (Elt F) (harg1.unread x1) = x1 := harg1.read_unread _
  have hst' : ∀ n < 1920, (startN (cntN (arg1.view.read (Elt F) (harg1.unread x1))) n).toNat ≤ 1720320 := by rw [e1]; exact hst
  sl_for (gatherInv (F := F) c arg1 arg2 arg3 arg8 arg10 arg11 arg12 (harg1.unread x1) (harg2.unread x2) (harg3.unread x3) (arg10.view.writes (Elt F) arg10.view.junk [⟨(Rect.unit (s := S3360x128) ![0, 0] S3360x128.size inb_S3360x128_S3360x128_0_0), k0_pay192 (arg5.view.readAt (Elt F) (Rect.unit (s := S13440x128) ![0, 0] S13440x128.size inb_S13440x128_S13440x128_0_0).toLoadRect (harg5.unread x5))⟩]) (128 * (i 0).val)) $$ [H1 H2 H3 H8 H10 H11 H12]
  · intro k acc
    exact gather_step c i arg1 harg1 arg2 harg2 arg3 harg3 arg4 harg4 arg5 harg5 arg6 harg6 arg7 harg7 arg8 harg8 arg9 harg9 arg10 harg10 arg11 harg11 arg12 harg12 arg13 harg13 arg14 harg14 _ _ (harg1.unread x1) (harg2.unread x2) (harg3.unread x3) (arg10.view.writes (Elt F) arg10.view.junk [⟨(Rect.unit (s := S3360x128) ![0, 0] S3360x128.size inb_S3360x128_S3360x128_0_0), k0_pay192 (arg5.view.readAt (Elt F) (Rect.unit (s := S13440x128) ![0, 0] S13440x128.size inb_S13440x128_S13440x128_0_0).toLoadRect (harg5.unread x5))⟩]) hst' k acc
  · unfold gatherInv
    isplitl [H1]; · iexact H1
    isplitl [H2]; · iexact H2
    isplitl [H3]; · iexact H3
    isplitl [H10]; · iexact H10
    isplitl [H11]
    · iexists _; isplitl [H11]; · iexact H11
      ipureintro; intro y hy; exact absurd hy (Nat.not_lt_zero _)
    isplitl [H12]
    · iexists _; isplitl [H12]; · iexact H12
      ipureintro; intro y hy; exact absurd hy (Nat.not_lt_zero _)
    isplitl [H8]
    · iexists _; isplitl [H8]; · iexact H8
      ipureintro; intro y hy; exact absurd hy (Nat.not_lt_zero _)
    ipureintro
    rw [hi]; rfl
  iintro %acc HI
  unfold gatherInv
  icases HI with ⟨H1, H2, H3, H10, ⟨%g11, H11, %h11⟩, ⟨%g12, H12, %h12⟩, ⟨%g8, H8, %h8⟩, %hacc⟩
  sl_exec (disch := first | sl_exact hc0)
  sl_for (fun k _ => expandInv (F := F) c arg6 arg7 arg11 arg12 arg13 g11 g12 (arg13.view.writes (Elt F) f13 (tablePieces (k0_pay194 (arg4.view.readAt (Elt F) (Rect.unit (s := S128x448) ![0, 0] S128x448.size inb_S128x448_S128x448_0_0).toLoadRect (harg4.unread x4)) (arg14.view.readAt (Elt F) (Rect.unit (s := S448x448) ![0, 0] S448x448.size inb_S448x448_S448x448_0_0).toLoadRect (arg14.view.writes (Elt F) arg14.view.junk [⟨(Rect.unit (s := S448x448) ![0, 0] S448x448.size inb_S448x448_S448x448_0_0), (k0_pay191 : Vec F S448x448 .bf16)⟩]))) (k0_pay193 (arg4.view.readAt (Elt F) (Rect.unit (s := S128x448) ![0, 0] S128x448.size inb_S128x448_S128x448_0_0).toLoadRect (harg4.unread x4))) arg11 g11)) k) $$ [H6 H7 H11 H12 H13]
  · intro k acc
    exact expand_step c i arg1 harg1 arg2 harg2 arg3 harg3 arg4 harg4 arg5 harg5 arg6 harg6 arg7 harg7 arg8 harg8 arg9 harg9 arg10 harg10 arg11 harg11 arg12 harg12 arg13 harg13 arg14 harg14 g11 g12 _ k
  · unfold expandInv
    isplitl [H11]; · iexact H11
    isplitl [H12]; · iexact H12
    isplitl [H13]; · iexact H13
    isplitl [H6]
    · iexists _; isplitl [H6]; · iexact H6
      ipureintro; intro y hy; exact absurd hy (Nat.not_lt_zero _)
    iexists _; isplitl [H7]; · iexact H7
    ipureintro; intro y hy; exact absurd hy (Nat.not_lt_zero _)
  iintro %acc2 HI
  unfold expandInv
  icases HI with ⟨H11, H12, H13, ⟨%g6, H6, %h6⟩, ⟨%g7, H7, %h7⟩⟩
  sl_exec (disch := first | sl_exact hc0)
  sl_step
  iapply Hk
  have t1 : k0_t1_loop.trips = 128 := by decide +kernel
  have t2 : k0_t2_loop.trips = 14 := by decide +kernel
  have e2 : arg2.view.read (Elt F) (harg2.unread x2) = x2 := harg2.read_unread _
  have e3 : arg3.view.read (Elt F) (harg3.unread x3) = x3 := harg3.read_unread _
  have e4 : arg4.view.readAt (Elt F) (Rect.unit (s := S128x448) ![0, 0] S128x448.size inb_S128x448_S128x448_0_0).toLoadRect (harg4.unread x4) = x4 :=
    (View.readAt_full arg4.view _ inb_S128x448_S128x448_0_0).trans (harg4.read_unread _)
  have e14 : (arg14.view.readAt (Elt F) (Rect.unit (s := S448x448) ![0, 0] S448x448.size inb_S448x448_S448x448_0_0).toLoadRect (arg14.view.writes (Elt F) arg14.view.junk [⟨(Rect.unit (s := S448x448) ![0, 0] S448x448.size inb_S448x448_S448x448_0_0), (k0_pay191 : Vec F S448x448 .bf16)⟩])) = (k0_pay191 : Vec F S448x448 .bf16) := View.readAt_writes_full arg14.view _ inb_S448x448_S448x448_0_0 inb_S448x448_S448x448_0_0 _ _
  have e10 : arg10.view.read (Elt F) (arg10.view.writes (Elt F) arg10.view.junk [⟨(Rect.unit (s := S3360x128) ![0, 0] S3360x128.size inb_S3360x128_S3360x128_0_0), k0_pay192 (arg5.view.readAt (Elt F) (Rect.unit (s := S13440x128) ![0, 0] S13440x128.size inb_S13440x128_S13440x128_0_0).toLoadRect (harg5.unread x5))⟩]) = (k0_pay192 x5) := by
    rw [View.readAt_full arg5.view _ inb_S13440x128_S13440x128_0_0, harg5.read_unread]
    exact View.read_writes_full arg10.view _ inb_S3360x128_S3360x128_0_0 _ _
  rw [e4, e14] at h6 h7
  have h11' : ∀ y : S512x128.Idx, arg11.view.read (Elt F) g11 y = winN (at2 (k0_pay192 x5)) (fun j => startN (cntN x1) ((128 * (i 0).val) + j)) (y 0).val (y 1).val := by
    intro y
    have := h11 y (by show (y 0).val < 4 * k0_t1_loop.trips; rw [t1]; exact (y 0).isLt)
    rw [e10, e1] at this
    exact this
  have h12' : ∀ y : S128x128.Idx, arg12.view.read (Elt F) g12 y = cntN x2 ((128 * (i 0).val) + (y 0).val) := by
    intro y
    have := h12 y (by show (y 0).val < k0_t1_loop.trips; rw [t1]; exact (y 0).isLt)
    rw [e2] at this
    exact this
  have h8' : ∀ y : S128x128.Idx, arg8.view.read (Elt F) g8 y = cntN x3 ((128 * (i 0).val) + (y 0).val) := by
    intro y
    have := h8 y (by show (y 0).val < k0_t1_loop.trips; rw [t1]; exact (y 0).isLt)
    rw [e3] at this
    exact this
  have hacc' : acc = startN (cntN x1) ((128 * (i 0).val) + 128) := by
    refine hacc.trans ?_
    rw [e1]
    exact congrArg (fun n => startN (cntN x1) ((128 * (i 0).val) + n)) t1
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    funext y
    exact (h6 y (by show (y 1).val < 256 * k0_t2_loop.trips; rw [t2]; exact (y 1).isLt)).trans
      (rebuilt_of (128 * (i 0).val) x1 x2 x4 k0_pay191 (k0_pay192 x5) arg11 arg12 arg13 g11 g12 f13 h11' h12' _ _ (y 0).isLt (y 1).isLt)
  isplitl [H7]
  · iexists _; isplitr; swap; · iexact H7
    ipureintro
    funext y
    exact (h7 y (by show (y 0).val < 256 * k0_t2_loop.trips; rw [t2]; exact (y 0).isLt)).trans
      (rebuilt_of (128 * (i 0).val) x1 x2 x4 k0_pay191 (k0_pay192 x5) arg11 arg12 arg13 g11 g12 f13 h11' h12' _ _ (y 1).isLt (y 0).isLt)
  isplitl [H8]
  · iexists _; isplitr; swap; · iexact H8
    ipureintro; exact funext h8'
  isplitl [H9]
  · iexists _; isplitr; swap; · iexact H9
    ipureintro
    rw [← hacc']
    exact View.read_writes_full arg9.view _ inb_S1_S1_0 _ _
  isplitl [H10]
  · iexists _; isplitr; swap; · iexact H10
    ipureintro; exact e10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _; isplitr; swap; · iexact H14
  ipureintro; exact View.read_writes_full arg14.view _ inb_S448x448_S448x448_0_0 _ _
end Cert.KernelIdeal.Gen
-- ==== Proof.Later.lean ====
module

public import proofs.«01_k».proof.Proof.Gen.KernelIdeal.Skeleton
public import proofs.«01_k».proof.Proof.Gen.KernelIdeal.Launch
public import proofs.«01_k».proof.Proof.Outs
public import proofs.«01_k».proof.Proof.Gather
public import proofs.«01_k».proof.Proof.Expand
public import Idealize.ShloMosaic.Lib.VecWindow
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- A later step rebuilds the next 128 tokens from what the steps before left. -/
theorem run_later (c : Dev nD) (i : grid0.Coords) (arg1 : Memref sig .tc .smem S3x640 .i32) (harg1 : arg1.IsWhole) (arg2 : Memref sig .tc .smem S3x640 .f32) (harg2 : arg2.IsWhole) (arg3 : Memref sig .tc .smem S3x640 .f32) (harg3 : arg3.IsWhole) (arg4 : Memref sig .tc .vmem S128x448 .i8) (harg4 : arg4.IsWhole) (arg5 : Memref sig .tc .vmem S13440x128 .i8) (harg5 : arg5.IsWhole) (arg6 : Memref sig .tc .vmem S128x3584 .bf16) (harg6 : arg6.IsWhole) (arg7 : Memref sig .tc .vmem S3584x128 .bf16) (harg7 : arg7.IsWhole) (arg8 : Memref sig .tc .vmem S128x128 .f32) (harg8 : arg8.IsWhole) (arg9 : Memref sig .tc .smem S1 .i32) (harg9 : arg9.IsWhole) (arg10 : Memref sig .tc .vmem S3360x128 .i32) (harg10 : arg10.IsWhole) (arg11 : Memref sig .tc .vmem S512x128 .i32) (harg11 : arg11.IsWhole) (arg12 : Memref sig .tc .vmem S128x128 .f32) (harg12 : arg12.IsWhole) (arg13 : Memref sig .tc .vmem S128x512 .i32) (harg13 : arg13.IsWhole) (arg14 : Memref sig .tc .vmem S448x448 .bf16) (harg14 : arg14.IsWhole) (hc0 : ¬cond0_0 i)
    (x1 : IVec S3x640 32) (x2 x3 : FVec F S3x640 .f32) (x4 : Vec F S128x448 .i8) (x5 : Vec F S13440x128 .i8) (x10 : IVec S3360x128 32)
    (hst : ∀ n < 1920, (startN (cntN x1) n).toNat ≤ 1720320)  (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare (fun _ => startN (cntN x1) (128 * (i 0).val)) ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare k0_pay191
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (fun y => rebuiltN (128 * (i 0).val) x1 x2 x4 k0_pay191 x10 (y 0).val (y 1).val) ∗ owns (c : Thread nD τ) arg7 fullShare (fun y => rebuiltN (128 * (i 0).val) x1 x2 x4 k0_pay191 x10 (y 1).val (y 0).val) ∗ owns (c : Thread nD τ) arg8 fullShare (fun y => cntN x3 ((128 * (i 0).val) + (y 0).val)) ∗ owns (c : Thread nD τ) arg9 fullShare (fun _ => startN (cntN x1) ((128 * (i 0).val) + 128)) ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare k0_pay191) -∗ K ⟨⟩))
      ⊢ wp frame (wpE (defs₀ (F := F)) Variants.none c none) Set.univ (cc0_rebuild i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_rebuild_eq_skeleton]; unfold cc0_rebuild_skel
  simp only [k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%d11, %f11, -, H11⟩, ⟨%d12, %f12, -, H12⟩, ⟨%d13, %f13, -, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg14.eq_unread hf14
  sl_exec (disch := first | sl_exact hc0)
  have e1 : arg1.view.read (Elt F) (harg1.unread x1) = x1 := harg1.read_unread _
  have hst' : ∀ n < 1920, (startN (cntN (arg1.view.read (Elt F) (harg1.unread x1))) n).toNat ≤ 1720320 := by rw [e1]; exact hst
  sl_for (gatherInv (F := F) c arg1 arg2 arg3 arg8 arg10 arg11 arg12 (harg1.unread x1) (harg2.unread x2) (harg3.unread x3) (harg10.unread x10) (128 * (i 0).val)) $$ [H1 H2 H3 H8 H10 H11 H12]
  · intro k acc
    exact gather_step c i arg1 harg1 arg2 harg2 arg3 harg3 arg4 harg4 arg5 harg5 arg6 harg6 arg7 harg7 arg8 harg8 arg9 harg9 arg10 harg10 arg11 harg11 arg12 harg12 arg13 harg13 arg14 harg14 _ _ (harg1.unread x1) (harg2.unread x2) (harg3.unread x3) (harg10.unread x10) hst' k acc
  · unfold gatherInv
    isplitl [H1]; · iexact H1
    isplitl [H2]; · iexact H2
    isplitl [H3]; · iexact H3
    isplitl [H10]; · iexact H10
    isplitl [H11]
    · iexists _; isplitl [H11]; · iexact H11
      ipureintro; intro y hy; exact absurd hy (Nat.not_lt_zero _)
    isplitl [H12]
    · iexists _; isplitl [H12]; · iexact H12
      ipureintro; intro y hy; exact absurd hy (Nat.not_lt_zero _)
    isplitl [H8]
    · iexists _; isplitl [H8]; · iexact H8
      ipureintro; intro y hy; exact absurd hy (Nat.not_lt_zero _)
    ipureintro
    unfold run_later.sl.r; rw [e1]; exact congrFun (harg9.read_unread _) _
  iintro %acc HI
  unfold gatherInv
  icases HI with ⟨H1, H2, H3, H10, ⟨%g11, H11, %h11⟩, ⟨%g12, H12, %h12⟩, ⟨%g8, H8, %h8⟩, %hacc⟩
  sl_exec (disch := first | sl_exact hc0)
  sl_for (fun k _ => expandInv (F := F) c arg6 arg7 arg11 arg12 arg13 g11 g12 (arg13.view.writes (Elt F) f13 (tablePieces (k0_pay194 (arg4.view.readAt (Elt F) (Rect.unit (s := S128x448) ![0, 0] S128x448.size inb_S128x448_S128x448_0_0).toLoadRect (harg4.unread x4)) (arg14.view.readAt (Elt F) (Rect.unit (s := S448x448) ![0, 0] S448x448.size inb_S448x448_S448x448_0_0).toLoadRect (harg14.unread k0_pay191))) (k0_pay193 (arg4.view.readAt (Elt F) (Rect.unit (s := S128x448) ![0, 0] S128x448.size inb_S128x448_S128x448_0_0).toLoadRect (harg4.unread x4))) arg11 g11)) k) $$ [H6 H7 H11 H12 H13]
  · intro k acc
    exact expand_step c i arg1 harg1 arg2 harg2 arg3 harg3 arg4 harg4 arg5 harg5 arg6 harg6 arg7 harg7 arg8 harg8 arg9 harg9 arg10 harg10 arg11 harg11 arg12 harg12 arg13 harg13 arg14 harg14 g11 g12 _ k
  · unfold expandInv
    isplitl [H11]; · iexact H11
    isplitl [H12]; · iexact H12
    isplitl [H13]; · iexact H13
    isplitl [H6]
    · iexists _; isplitl [H6]; · iexact H6
      ipureintro; intro y hy; exact absurd hy (Nat.not_lt_zero _)
    iexists _; isplitl [H7]; · iexact H7
    ipureintro; intro y hy; exact absurd hy (Nat.not_lt_zero _)
  iintro %acc2 HI
  unfold expandInv
  icases HI with ⟨H11, H12, H13, ⟨%g6, H6, %h6⟩, ⟨%g7, H7, %h7⟩⟩
  sl_exec (disch := first | sl_exact hc0)
  sl_step
  iapply Hk
  have t1 : k0_t1_loop.trips = 128 := by decide +kernel
  have t2 : k0_t2_loop.trips = 14 := by decide +kernel
  have e2 : arg2.view.read (Elt F) (harg2.unread x2) = x2 := harg2.read_unread _
  have e3 : arg3.view.read (Elt F) (harg3.unread x3) = x3 := harg3.read_unread _
  have e4 : arg4.view.readAt (Elt F) (Rect.unit (s := S128x448) ![0, 0] S128x448.size inb_S128x448_S128x448_0_0).toLoadRect (harg4.unread x4) = x4 :=
    (View.readAt_full arg4.view _ inb_S128x448_S128x448_0_0).trans (harg4.read_unread _)
  have e14 : (arg14.view.readAt (Elt F) (Rect.unit (s := S448x448) ![0, 0] S448x448.size inb_S448x448_S448x448_0_0).toLoadRect (harg14.unread k0_pay191)) = (k0_pay191 : Vec F S448x448 .bf16) := (View.readAt_full arg14.view _ inb_S448x448_S448x448_0_0).trans (harg14.read_unread _)
  have e10 : arg10.view.read (Elt F) (harg10.unread x10) = x10 := harg10.read_unread _
  rw [e4, e14] at h6 h7
  have h11' : ∀ y : S512x128.Idx, arg11.view.read (Elt F) g11 y = winN (at2 x10) (fun j => startN (cntN x1) ((128 * (i 0).val) + j)) (y 0).val (y 1).val := by
    intro y
    have := h11 y (by show (y 0).val < 4 * k0_t1_loop.trips; rw [t1]; exact (y 0).isLt)
    rw [e10, e1] at this
    exact this
  have h12' : ∀ y : S128x128.Idx, arg12.view.read (Elt F) g12 y = cntN x2 ((128 * (i 0).val) + (y 0).val) := by
    intro y
    have := h12 y (by show (y 0).val < k0_t1_loop.trips; rw [t1]; exact (y 0).isLt)
    rw [e2] at this
    exact this
  have h8' : ∀ y : S128x128.Idx, arg8.view.read (Elt F) g8 y = cntN x3 ((128 * (i 0).val) + (y 0).val) := by
    intro y
    have := h8 y (by show (y 0).val < k0_t1_loop.trips; rw [t1]; exact (y 0).isLt)
    rw [e3] at this
    exact this
  have hacc' : acc = startN (cntN x1) ((128 * (i 0).val) + 128) := by
    refine hacc.trans ?_
    rw [e1]
    exact congrArg (fun n => startN (cntN x1) ((128 * (i 0).val) + n)) t1
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    funext y
    exact (h6 y (by show (y 1).val < 256 * k0_t2_loop.trips; rw [t2]; exact (y 1).isLt)).trans
      (rebuilt_of (128 * (i 0).val) x1 x2 x4 k0_pay191 x10 arg11 arg12 arg13 g11 g12 f13 h11' h12' _ _ (y 0).isLt (y 1).isLt)
  isplitl [H7]
  · iexists _; isplitr; swap; · iexact H7
    ipureintro
    funext y
    exact (h7 y (by show (y 0).val < 256 * k0_t2_loop.trips; rw [t2]; exact (y 0).isLt)).trans
      (rebuilt_of (128 * (i 0).val) x1 x2 x4 k0_pay191 x10 arg11 arg12 arg13 g11 g12 f13 h11' h12' _ _ (y 1).isLt (y 0).isLt)
  isplitl [H8]
  · iexists _; isplitr; swap; · iexact H8
    ipureintro; exact funext h8'
  isplitl [H9]
  · iexists _; isplitr; swap; · iexact H9
    ipureintro
    rw [← hacc']
    exact View.read_writes_full arg9.view _ inb_S1_S1_0 _ _
  isplitl [H10]
  · iexists _; isplitr; swap; · iexact H10
    ipureintro; exact e10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _; isplitr; swap; · iexact H14
  ipureintro; exact harg14.read_unread _
end Cert.KernelIdeal.Gen
-- ==== Proof.Rebuild.lean ====
module

public import proofs.«01_k».proof.Proof.Gen.KernelIdeal.Skeleton
public import proofs.«01_k».proof.Proof.Gen.KernelIdeal.Launch
public import proofs.«01_k».proof.Proof.First
public import proofs.«01_k».proof.Proof.Later
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_rebuild` (pipeline 0), at the entry contents `V` —  -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/
/-- Each window's current staging memref at point `t`, spelled as the pipeline passes it (`bodyAt0`), and its wholeness. -/
abbrev ms0_0 (t : Fin cfg0.N) : Memref sig .tc .smem S3x640 .i32 := win0_0.stage (cfg0.slots t 0)
/-- The staging memref of a window is a whole buffer. -/
abbrev hs0_0 (t : Fin cfg0.N) : (ms0_0 t).IsWhole := hstage0_0 ((cfg0.slots t 0).cast nbuf0_0)
/-- The staging memref of a window at a point. -/
abbrev ms0_1 (t : Fin cfg0.N) : Memref sig .tc .smem S3x640 .f32 := win0_1.stage (cfg0.slots t 1)
/-- The staging memref of a window is a whole buffer. -/
abbrev hs0_1 (t : Fin cfg0.N) : (ms0_1 t).IsWhole := hstage0_1 ((cfg0.slots t 1).cast nbuf0_1)
/-- The staging memref of a window at a point. -/
abbrev ms0_2 (t : Fin cfg0.N) : Memref sig .tc .smem S3x640 .f32 := win0_2.stage (cfg0.slots t 2)
/-- The staging memref of a window is a whole buffer. -/
abbrev hs0_2 (t : Fin cfg0.N) : (ms0_2 t).IsWhole := hstage0_2 ((cfg0.slots t 2).cast nbuf0_2)
/-- The staging memref of a window at a point. -/
abbrev ms0_3 (t : Fin cfg0.N) : Memref sig .tc .vmem S128x448 .i8 := win0_3.stage (cfg0.slots t 3)
/-- The staging memref of a window is a whole buffer. -/
abbrev hs0_3 (t : Fin cfg0.N) : (ms0_3 t).IsWhole := hstage0_3 ((cfg0.slots t 3).cast nbuf0_3)
/-- The staging memref of a window at a point. -/
abbrev ms0_4 (t : Fin cfg0.N) : Memref sig .tc .vmem S13440x128 .i8 := win0_4.stage (cfg0.slots t 4)
/-- The staging memref of a window is a whole buffer. -/
abbrev hs0_4 (t : Fin cfg0.N) : (ms0_4 t).IsWhole := hstage0_4 ((cfg0.slots t 4).cast nbuf0_4)
/-- The staging memref of a window at a point. -/
abbrev ms0_5 (t : Fin cfg0.N) : Memref sig .tc .vmem S128x3584 .bf16 := win0_5.stage (cfg0.slots t 5)
/-- The staging memref of a window is a whole buffer. -/
abbrev hs0_5 (t : Fin cfg0.N) : (ms0_5 t).IsWhole := hstage0_5 ((cfg0.slots t 5).cast nbuf0_5)
/-- The staging memref of a window at a point. -/
abbrev ms0_6 (t : Fin cfg0.N) : Memref sig .tc .vmem S3584x128 .bf16 := win0_6.stage (cfg0.slots t 6)
/-- The staging memref of a window is a whole buffer. -/
abbrev hs0_6 (t : Fin cfg0.N) : (ms0_6 t).IsWhole := hstage0_6 ((cfg0.slots t 6).cast nbuf0_6)
/-- The staging memref of a window at a point. -/
abbrev ms0_7 (t : Fin cfg0.N) : Memref sig .tc .vmem S128x128 .f32 := win0_7.stage (cfg0.slots t 7)
/-- The staging memref of a window is a whole buffer. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .smem S1 .i32 := Memref.whole cc0_scratch0
/-- A scratch operand of the region. -/
abbrev scM0_1 : Memref sig .tc .vmem S3360x128 .i32 := Memref.whole cc0_scratch1
/-- A scratch operand of the region. -/
abbrev scM0_2 : Memref sig .tc .vmem S512x128 .i32 := Memref.whole cc0_scratch2
/-- A scratch operand of the region. -/
abbrev scM0_3 : Memref sig .tc .vmem S128x128 .f32 := Memref.whole cc0_scratch3
/-- A scratch operand of the region. -/
abbrev scM0_4 : Memref sig .tc .vmem S128x512 .i32 := Memref.whole cc0_scratch4
/-- A scratch operand of the region. -/
abbrev scM0_5 : Memref sig .tc .vmem S448x448 .bf16 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ d, owns (c : Thread nD τ) scM0_0 fullShare d)) ∗ (∃ r, prngReg c r)) := by
  unfold Pipeline.ΦA; rw [scopedRest0_eq]; simp only [scM0_0, scM0_1, scM0_2, scM0_3, scM0_4, scM0_5, owns_whole]; try rfl

/-- The token the body starts at, for each point, is 128 times the point's number. -/
theorem coord0 (t : Fin cfg0.N) : (grid0.coords t 0).val = t.val := by
  have ht : t.val < 15 := Nat.lt_of_lt_of_eq t.isLt N_0
  have e : (grid0.coords t 0).val = t.val / 1 % 15 := Pipeline.Grid.coords_val t 0 (by decide) rfl
  rw [e]; omega

/-- The body starts the tokens over exactly at the first point. -/
theorem hcond0_0 : ∀ t : Fin cfg0.N, cond0_0 (grid0.coords t) ↔ t.val % 15 = 0 :=
  (fun t => by
    have ht : t.val < 15 := Nat.lt_of_lt_of_eq t.isLt N_0
    have e0 : (grid0.coords t 0).val = t.val / 1 % 15 := Pipeline.Grid.coords_val t 0 (by decide) rfl
    simp only [cond0_0, e0]
    word_cmp
   : ∀ t : Fin grid0.N, cond0_0 (grid0.coords t) ↔ t.val % 15 = 0)

/-- The first point. -/
abbrev p0 : Fin cfg0.N := ⟨0, Nat.lt_of_lt_of_eq (by decide) N_0.symm⟩
/-- The counts as every point finds them. -/
def cts0 (c : Dev nD) : IVec S3x640 32 := iblk0 V c 0 p0
/-- The codes as every point finds them. -/
def cod0 (c : Dev nD) : Vec F S13440x128 .i8 := iblk0 V c 4 p0
/-- The counts are one block. -/
theorem iblk0_cts (c : Dev nD) (t : Fin cfg0.N) : iblk0 V c 0 t = cts0 V c := rfl
/-- The code stream is one block. -/
theorem iblk0_cod (c : Dev nD) (t : Fin cfg0.N) : iblk0 V c 4 t = cod0 V c := rfl

/-- Every token's codes begin inside the code stream. -/
def Fits : Prop := ∀ c : Dev nD, ∀ n < 1920, (startN (cntN (cts0 V c)) n).toNat ≤ 1720320

/-- The rebuilt activation of the point's token `r` at channel `ch`. -/
def reb0 (c : Dev nD) (t : Fin cfg0.N) (r ch : ℕ) : F .bf16 :=
  rebuiltN (128 * t.val) (cts0 V c) (iblk0 V c 1 t) (iblk0 V c 3 t) k0_pay191 (k0_pay192 (cod0 V c)) r ch

/-- What the region holds before point `n`: anything before the first; then the words of the codes, the triangle, and where the next token's codes begin. -/
def PhiS (c : Dev nD) : (n : ℕ) → n ≤ cfg0.N → sProp 𝕄
  | 0, _ => Pipeline.ΦA spec0 c
  | n + 1, _ => iprop(iprop(owns (c : Thread nD τ) scM0_1 fullShare (k0_pay192 (cod0 V c)) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare k0_pay191 ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ owns (c : Thread nD τ) scM0_0 fullShare (fun _ => startN (cntN (cts0 V c)) (128 * (n + 1)))) ∗ (∃ r, prngReg c r))

/-- What is held before the first point. -/
theorem PhiS_zero (c : Dev nD) (n : ℕ) (h : n ≤ cfg0.N) (hz : n = 0) : PhiS V c n h = Pipeline.ΦA spec0 c := by
  subst hz; rfl

/-- What is held after a point. -/
theorem PhiS_succ (c : Dev nD) (n : ℕ) (hn : n < cfg0.N) : PhiS V c (n + 1) hn = iprop(iprop(owns (c : Thread nD τ) scM0_1 fullShare (k0_pay192 (cod0 V c)) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare k0_pay191 ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ owns (c : Thread nD τ) scM0_0 fullShare (fun _ => startN (cntN (cts0 V c)) (128 * (n + 1)))) ∗ (∃ r, prngReg c r)) := rfl

/-- What is held before a later point. -/
theorem PhiS_pos (c : Dev nD) (n : ℕ) (h : n ≤ cfg0.N) (hz : n ≠ 0) : PhiS V c n h = iprop(iprop(owns (c : Thread nD τ) scM0_1 fullShare (k0_pay192 (cod0 V c)) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare k0_pay191 ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ owns (c : Thread nD τ) scM0_0 fullShare (fun _ => startN (cntN (cts0 V c)) (128 * n))) ∗ (∃ r, prngReg c r)) := by
  cases n with
  | zero => exact absurd rfl hz
  | succ n => rfl

/-- The proof data of the first region: the arrays as it finds them, each input's buffer at its block, the outputs' at the rebuilt activations, their transposes and the gradients' scales. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (fun y => reb0 V c t (y 0).val (y 1).val : Vec F S128x3584 .bf16)
    | ⟨6, _⟩ => (fun y => reb0 V c t (y 1).val (y 0).val : Vec F S3584x128 .bf16)
    | ⟨7, _⟩ => (fun y => cntN (iblk0 V c 2 t) (128 * t.val + (y 0).val) : Vec F S128x128 .f32)
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
/-- An input block is left as it was. -/
theorem after0_1 (c : Dev nD) (t : Fin cfg0.N) : (dat0 V c).after 1 t = iblk0 V c 1 t := by dsimp only [dat0]
/-- An input block is left as it was. -/
theorem after0_2 (c : Dev nD) (t : Fin cfg0.N) : (dat0 V c).after 2 t = iblk0 V c 2 t := by dsimp only [dat0]
/-- An input block is left as it was. -/
theorem after0_3 (c : Dev nD) (t : Fin cfg0.N) : (dat0 V c).after 3 t = iblk0 V c 3 t := by dsimp only [dat0]
/-- An input block is left as it was. -/
theorem after0_4 (c : Dev nD) (t : Fin cfg0.N) : (dat0 V c).after 4 t = iblk0 V c 4 t := by dsimp only [dat0]
/-- The block of rebuilt activations that a point leaves. -/
theorem after0_5 (c : Dev nD) (t : Fin cfg0.N) : (dat0 V c).after 5 t = (fun y => reb0 V c t (y 0).val (y 1).val : Vec F S128x3584 .bf16) := by dsimp only [dat0]
/-- The block of transposed activations that a point leaves. -/
theorem after0_6 (c : Dev nD) (t : Fin cfg0.N) : (dat0 V c).after 6 t = (fun y => reb0 V c t (y 1).val (y 0).val : Vec F S3584x128 .bf16) := by dsimp only [dat0]
/-- The block of repeated gradient scales that a point leaves. -/
theorem after0_7 (c : Dev nD) (t : Fin cfg0.N) : (dat0 V c).after 7 t = (fun y => cntN (iblk0 V c 2 t) (128 * t.val + (y 0).val) : Vec F S128x128 .f32) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- An input block before a point is its part of the array. -/
theorem before0_1 (c : Dev nD) (t : Fin cfg0.N) (d) : (dat0 V c).before 1 t d = iblk0 V c 1 t :=
  before0_1_of V (dat0 V c) (A_eq0 V c 1) (after0_1 V c) t d
/-- An input block before a point is its part of the array. -/
theorem before0_2 (c : Dev nD) (t : Fin cfg0.N) (d) : (dat0 V c).before 2 t d = iblk0 V c 2 t :=
  before0_2_of V (dat0 V c) (A_eq0 V c 2) (after0_2 V c) t d
/-- An input block before a point is its part of the array. -/
theorem before0_3 (c : Dev nD) (t : Fin cfg0.N) (d) : (dat0 V c).before 3 t d = iblk0 V c 3 t :=
  before0_3_of V (dat0 V c) (A_eq0 V c 3) (after0_3 V c) t d
/-- An input block before a point is its part of the array. -/
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

/-- The invariant at a point's start. -/
theorem PhiS_castSucc (c : Dev nD) (t : Fin cfg0.N) : (dat0 V c).Φ t.castSucc = PhiS V c t.val (Nat.le_of_lt t.isLt) := by
  dsimp only [dat0]; exact Pipeline.Dat.Φ_castSucc (PhiS V c) t

set_option maxHeartbeats 4000000 in
/-- The body at any point: started over at the first, carried on at every other. -/
theorem sound_body0 (hV : Fits V) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6, after0_7]
  rw [show (dat0 V c).Φ t.succ = PhiS V c (t.val + 1) t.isLt from rfl, PhiS_succ]
  have hN : t.val < 15 := lt_of_lt_of_eq t.isLt (show cfg0.N = 15 from N_0)
  have hc := coord0 t
  unfold reb0
  rw [iblk0_cts, iblk0_cod, show 128 * (t.val + 1) = 128 * t.val + 128 from rfl, ← hc]
  by_cases hz : t.val = 0
  · rw [PhiS_castSucc V c t, PhiS_zero V c _ _ hz, PhiA0_eq]
    iintro ⟨⟨⟨HS1, HS2, HS3, HS4, HS5, HR5, HR6, HR7, HR8, HR9, HR10, HR11, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ _ _ _ _ _ _ _ _ _ _ _ _ ((hcond0_0 t).mpr (by omega)) (cts0 V c) (iblk0 V c 1 t) (iblk0 V c 2 t) (iblk0 V c 3 t) (cod0 V c) (hV c) (by omega) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, HS0, HS1, HS2, HS3, HS4, HS5⟩
    isplitl [HS1 HS2 HS3 HS4 HS5 HR5 HR6 HR7 HR8 HR9 HR10 HR11 HS0 Hg]
    · isplitl [HS1 HS2 HS3 HS4 HS5 HR5 HR6 HR7 HR8 HR9 HR10 HR11 HS0]
      · isplitl [HS1]; · iexact HS1
        isplitl [HS2]; · iexact HS2
        isplitl [HS3]; · iexact HS3
        isplitl [HS4]; · iexact HS4
        isplitl [HS5]; · iexact HS5
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

  · rw [PhiS_castSucc V c t, PhiS_pos V c _ _ hz, ← hc]
    iintro ⟨⟨⟨HS1, HS2, HS3, HS4, HS5, HR5, HR6, HR7, HR8, HR9, HR10, HR11, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ _ _ _ _ _ _ _ _ _ _ _ _ (fun h => absurd ((hcond0_0 t).mp h) (by omega)) (cts0 V c) (iblk0 V c 1 t) (iblk0 V c 2 t) (iblk0 V c 3 t) (cod0 V c) (k0_pay192 (cod0 V c)) (hV c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, HS0, HS1, HS2, HS3, HS4, HS5⟩
    isplitl [HS1 HS2 HS3 HS4 HS5 HR5 HR6 HR7 HR8 HR9 HR10 HR11 HS0 Hg]
    · isplitl [HS1 HS2 HS3 HS4 HS5 HR5 HR6 HR7 HR8 HR9 HR10 HR11 HS0]
      · isplitl [HS1]; · iexact HS1
        isplitl [HS2]; · iexact HS2
        isplitl [HS3]; · iexact HS3
        isplitl [HS4]; · iexact HS4
        isplitl [HS5]; · iexact HS5
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (hV : Fits V) (c : Dev nD) : BodyObligation (dat0 (F := F) V c) (defs₀ (F := F)) Variants.none () Set.univ := fun t => by
  rw [bigSep_W0, bigSep_W0, defs₀_row0]
  exact triple_restated (sound_body0 V hV c t) rfl .rfl fun _ => .rfl

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the carried contents are forgotten. -/
theorem hout0 (c : Dev nD) : (dat0 V c).Φ (Fin.last cfg0.N) ⊢ Pipeline.ΦA spec0 c := by
  rw [show (dat0 V c).Φ (Fin.last cfg0.N) = PhiS V c cfg0.N (Nat.le_refl _) from rfl,
    PhiS_pos V c _ _ (by have : cfg0.N = 15 := N_0; omega), PhiA0_eq]
  iintro ⟨⟨HS1, HS2, HS3, HS4, HS5, HR5, HR6, HR7, HR8, HR9, HR10, HR11, HS0⟩, Hg⟩
  isplitl [HS1 HS2 HS3 HS4 HS5 HR5 HR6 HR7 HR8 HR9 HR10 HR11 HS0]
  · isplitl [HS1]; · iexists _; iexact HS1
    isplitl [HS2]; · iexact HS2
    isplitl [HS3]; · iexact HS3
    isplitl [HS4]; · iexact HS4
    isplitl [HS5]; · iexists _; iexact HS5
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    iexists _; iexact HS0
  iexact Hg

end Regions

end Cert.KernelIdeal.Gen

end
-- ==== Proof.Weight.lean ====
module

public import proofs.«01_k».proof.Proof.Gen.KernelIdeal.Skeleton
public import proofs.«01_k».proof.Proof.Gen.KernelIdeal.Launch

public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the contents a region is entered at
variable (V : (c : Dev nD) → (b : Ref sig .tc) → Buf (Elt F) ((c : Thread nD τ).loc b))

/-! # REGION 1 of @main: custom_call 1, `cc1_weight_grad` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 3, through which its contents are stated (`View.read_writes_of_cover`: the
    choice does not matter). -/
abbrev VO1_3 : View sig .tc .vmem S3584x512 .f32 := (Memref.whole cc1_stg3_0 : Memref sig .tc .vmem S3584x512 .f32).view
/-- Each window's current staging memref at point `t`, spelled as the pipeline passes it (`bodyAt1`), and its wholeness. -/
abbrev ms1_0 (t : Fin cfg1.N) : Memref sig .tc .vmem S3584x1920 .bf16 := win1_0.stage (cfg1.slots t 0)
/-- The staging memref of a window is a whole buffer. -/
abbrev hs1_0 (t : Fin cfg1.N) : (ms1_0 t).IsWhole := hstage1_0 ((cfg1.slots t 0).cast nbuf1_0)
/-- The staging memref of a window at a point. -/
abbrev ms1_1 (t : Fin cfg1.N) : Memref sig .tc .vmem S1920x512 .fp8e5m2 := win1_1.stage (cfg1.slots t 1)
/-- The staging memref of a window is a whole buffer. -/
abbrev hs1_1 (t : Fin cfg1.N) : (ms1_1 t).IsWhole := hstage1_1 ((cfg1.slots t 1).cast nbuf1_1)
/-- The staging memref of a window at a point. -/
abbrev ms1_2 (t : Fin cfg1.N) : Memref sig .tc .vmem S1920x128 .f32 := win1_2.stage (cfg1.slots t 2)
/-- The staging memref of a window is a whole buffer. -/
abbrev hs1_2 (t : Fin cfg1.N) : (ms1_2 t).IsWhole := hstage1_2 ((cfg1.slots t 2).cast nbuf1_2)
/-- The staging memref of a window at a point. -/
abbrev ms1_3 (t : Fin cfg1.N) : Memref sig .tc .vmem S3584x512 .f32 := win1_3.stage (cfg1.slots t 3)
/-- The staging memref of a window is a whole buffer. -/
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S1920x512 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ d, owns (c : Thread nD τ) scM1_0 fullShare d) ∗ (∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S3584x1920 .bf16) (harg1 : arg1.IsWhole) (arg2 : Memref sig .tc .vmem S1920x512 .fp8e5m2) (harg2 : arg2.IsWhole) (arg3 : Memref sig .tc .vmem S1920x128 .f32) (harg3 : arg3.IsWhole) (arg4 : Memref sig .tc .vmem S3584x512 .f32) (harg4 : arg4.IsWhole) (arg5 : Memref sig .tc .vmem S1920x512 .bf16) (harg5 : arg5.IsWhole)
    (x0 : Vec F S3584x1920 .bf16) (x1 : Vec F S1920x512 .fp8e5m2) (x2 : Vec F S1920x128 .f32) :
    Σ' (L3 : List (View.Piece (Elt F) S3584x512 .f32)), { LT0 : List (View.Piece (Elt F) S1920x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0)) -∗ K ⟨⟩))
          ⊢ wp frame (wpE (defs₀ (F := F)) Variants.none c none) E (cc1_weight_grad i arg1 harg1 arg2 harg2 arg3 harg3 arg4 harg4 arg5 harg5) K } := by
  refine ⟨?_, ?_, fun E K => ?run⟩
  case run =>
    simp only [cc1_weight_grad_eq_skeleton]; unfold cc1_weight_grad_skel
    simp only [k1_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

/-- The run's pieces for output 3 tile its block (1 store of `S3584x512`, checked by the kernel's evaluation: Lib/Ring.lean `Piece.tiledL`, linear in the pieces, through a loop's `@[irreducible]` trip theorem too), so they cover it. -/
theorem cover1_A_3 (c : Dev nD) (i : grid1.Coords) (arg1 : Memref sig .tc .vmem S3584x1920 .bf16) (harg1 : arg1.IsWhole) (arg2 : Memref sig .tc .vmem S1920x512 .fp8e5m2) (harg2 : arg2.IsWhole) (arg3 : Memref sig .tc .vmem S1920x128 .f32) (harg3 : arg3.IsWhole) (arg4 : Memref sig .tc .vmem S3584x512 .f32) (harg4 : arg4.IsWhole) (arg5 : Memref sig .tc .vmem S1920x512 .bf16) (harg5 : arg5.IsWhole)
    (x0 : Vec F S3584x1920 .bf16) (x1 : Vec F S1920x512 .fp8e5m2) (x2 : Vec F S1920x128 .f32) (y : S3584x512.Idx) :
    ∃ pc ∈ (kernelRun1_A c i arg1 harg1 arg2 harg2 arg3 harg3 arg4 harg4 arg5 harg5 x0 x1 x2).1, y ∈ pc.1.set :=
  View.cover_of_tiledL (kernelRun1_A c i arg1 harg1 arg2 harg2 arg3 harg3 arg4 harg4 arg5 harg5 x0 x1 x2).1 S3584x512.size (by sl_kernel_rfl) y

/-- What the run leaves in output 3's staging buffer: its pieces read back over junk. -/
def out1_A_3 (c : Dev nD) (i : grid1.Coords) (arg1 : Memref sig .tc .vmem S3584x1920 .bf16) (harg1 : arg1.IsWhole) (arg2 : Memref sig .tc .vmem S1920x512 .fp8e5m2) (harg2 : arg2.IsWhole) (arg3 : Memref sig .tc .vmem S1920x128 .f32) (harg3 : arg3.IsWhole) (arg4 : Memref sig .tc .vmem S3584x512 .f32) (harg4 : arg4.IsWhole) (arg5 : Memref sig .tc .vmem S1920x512 .bf16) (harg5 : arg5.IsWhole)
    (x0 : Vec F S3584x1920 .bf16) (x1 : Vec F S1920x512 .fp8e5m2) (x2 : Vec F S1920x128 .f32) : Vec F S3584x512 .f32 :=
  VO1_3.read (Elt F) (VO1_3.writes (Elt F) VO1_3.junk (kernelRun1_A c i arg1 harg1 arg2 harg2 arg3 harg3 arg4 harg4 arg5 harg5 x0 x1 x2).1)

/-! ## What the outputs hold after each point -/

/-- What the outputs' staging buffers hold after the body at point `t`: the run's contents at
    the point's memrefs and input blocks. -/
def outsAt1 (c : Dev nD) (t : Fin cfg1.N) : Vec F S3584x512 .f32 :=
  out1_A_3 c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- An input block is left as it was. -/
theorem after1_1 (c : Dev nD) (t : Fin cfg1.N) : (dat1 V c).after 1 t = iblk1 V c 1 t := by dsimp only [dat1]
/-- An input block is left as it was. -/
theorem after1_2 (c : Dev nD) (t : Fin cfg1.N) : (dat1 V c).after 2 t = iblk1 V c 2 t := by dsimp only [dat1]
/-- The block of the product that a point leaves. -/
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- An input block before a point is its part of the array. -/
theorem before1_1 (c : Dev nD) (t : Fin cfg1.N) (d) : (dat1 V c).before 1 t d = iblk1 V c 1 t :=
  before1_1_of V (dat1 V c) (A_eq1 V c 1) (after1_1 V c) t d
/-- An input block before a point is its part of the array. -/
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  unfold out1_A_3
  iintro ⟨⟨⟨HR0, HR1, HR2, HR3, HR4, HR5, HR6, HR7, HR8, HR9, HR10, HR11, HR12, HR13, HS0, HR15, HR16, HR17, HR18⟩, Hg⟩, Ho, ⟨%d0, H0⟩, ⟨%d1, H1⟩, ⟨%d2, H2⟩, ⟨%d3, H3⟩⟩
  iapply ((kernelRun1_A c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%fT0, HS0⟩⟩
  isplitl [HR0 HR1 HR2 HR3 HR4 HR5 HR6 HR7 HR8 HR9 HR10 HR11 HR12 HR13 HS0 HR15 HR16 HR17 HR18 Hg]
  · isplitl [HR0 HR1 HR2 HR3 HR4 HR5 HR6 HR7 HR8 HR9 HR10 HR11 HR12 HR13 HS0 HR15 HR16 HR17 HR18]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HS0]
      · iexists _; unfold owns; iexists _; isplitr
        swap; · iexact HS0
        ipureintro; rfl
      isplitl [HR15]
      · iexact HR15
      isplitl [HR16]
      · iexact HR16
      isplitl [HR17]
      · iexact HR17
      iexact HR18
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Whole.lean ====
module

public import proofs.«01_k».proof.Proof.Gen.KernelIdeal.Skeleton
public import proofs.«01_k».proof.Proof.Gen.KernelIdeal.Launch
public import proofs.«01_k».proof.Proof.Rebuild
public import proofs.«01_k».proof.Proof.Weight
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Words
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
/-- A stretch of host operations writes none of the arguments. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
/-- A stretch of host operations writes none of the arguments. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5]
/-- A stretch of host operations writes none of the arguments. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are as they were at this stage. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as they were at this stage. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- What a region leaves in its arrays. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A region leaves the other arrays as they were. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as they were at this stage. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- What a region does not touch is as before it. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are as they were at this stage. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- What a region leaves in its arrays. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A region leaves the other arrays as they were. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as they were at this stage. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- What a region does not touch is as before it. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments are as they were at this stage. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

/-- The argument is as it was at the end. -/
theorem W5_main_arg0 (c : Dev nD) : W5 m ρ c (Proc.devRef .tc main_arg0) = m ((c : Thread nD τ).loc main_arg0) :=
  W5_args m ρ c main_arg0 (by decide)
/-- The argument is as it was at the end. -/
theorem W5_main_arg1 (c : Dev nD) : W5 m ρ c (Proc.devRef .tc main_arg1) = m ((c : Thread nD τ).loc main_arg1) :=
  W5_args m ρ c main_arg1 (by decide)
/-- The argument is as it was at the end. -/
theorem W5_main_arg2 (c : Dev nD) : W5 m ρ c (Proc.devRef .tc main_arg2) = m ((c : Thread nD τ).loc main_arg2) :=
  W5_args m ρ c main_arg2 (by decide)
/-- The argument is as it was at the end. -/
theorem W5_main_arg3 (c : Dev nD) : W5 m ρ c (Proc.devRef .tc main_arg3) = m ((c : Thread nD τ).loc main_arg3) :=
  W5_args m ρ c main_arg3 (by decide)
/-- The argument is as it was at the end. -/
theorem W5_main_arg4 (c : Dev nD) : W5 m ρ c (Proc.devRef .tc main_arg4) = m ((c : Thread nD τ).loc main_arg4) :=
  W5_args m ρ c main_arg4 (by decide)
/-- The argument is as it was at the end. -/
theorem W5_main_arg5 (c : Dev nD) : W5 m ρ c (Proc.devRef .tc main_arg5) = m ((c : Thread nD τ).loc main_arg5) :=
  W5_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- No ranking function is needed. -/
abbrev 𝒱₀ : Variants := Variants.none
/-- No core owes another anything: no level is assigned. -/
abbrev L : GSem nD τ sig → Finset Unit := fun _ => ∅
/-- All counters are at one level. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 (hV : Fits (V1 m ρ)) : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) hV c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := hin0 (V1 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ (Pipeline.ΦA spec0 c : sProp 𝕄) := hout0 (V1 m ρ) c
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs (hV : Fits (V1 m ρ)) : List (Pipeline.Seg (pcfgs (F := F)) adm (pdats m ρ) () defs₀ 𝒱₀ L lv) :=
  [ .host (hseg hostOps0 hostOps0_sub hostOps0_fresh (W0 m ρ)),
    .region (reg0 m ρ hV),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (hV : Fits (V1 m ρ)) (c : Dev nD) : main (F := F) c = Pipeline.Seg.run (segs m ρ hV) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory in which every token's codes begin inside the stream, every execution ends, the arguments as launched, the two results at the last boundary's contents and every counter at zero. -/
theorem run_all (hV : Fits (V1 m ρ)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v4) = W5 m ρ c (Proc.devRef .tc main_v4)
      ∧ r.2.mem ((c.tc : Thread nD τ).loc main_v5) = W5 m ρ c (Proc.devRef .tc main_v5))
      ∧ r.2.sem = fun _ => 0) :=
  Pipeline.θ_run_regions_kit_sems (pcfgs (F := F)) adm (pdats m ρ) () cellOf_inj emb₁ defs₀ 𝒱₀ L lv m ρ main (segs m ρ hV)
    (fun c Q => by rw [main_run m ρ hV c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       h c _ (mem_uc main_v4 (by decide)), h c _ (mem_uc main_v5 (by decide))⟩), funext fun g => hz g (.inr (no_unscoped g.2))⟩)

end Cert.KernelIdeal.Gen

end
-- ==== Proof.Entry.lean ====
/- What the first call finds, from the arguments: the counts fit the stream wherever the precondition holds. -/
module

public import proofs.«01_k».proof.Proof.Whole
public import proofs.«01_k».proof.Proof.Marks
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Words

namespace Cert.KernelIdeal.Entry

open Cert.KernelIdeal Cert.KernelIdeal.Gen

variable {F : FTy → Type} [FloatOps F]
variable (m : (ℓ : Loc nD τ sig) → Buf (Elt F) ℓ) (ρ : Dev nD → PrngReg)
variable (V : (c : Dev nD) → (b : Ref sig .tc) → Buf (Elt F) ((c : Thread nD τ).loc b))

/-- The index maps of the first call's windows at every step: only the mask's block and the results' blocks move. -/
theorem idx0 : ∀ t : Fin cfg0.N, win0_0.index t = ![0, 0] ∧ win0_1.index t = ![0, 0] ∧ win0_2.index t = ![0, 0]
    ∧ win0_3.index t = ![t.val, 0] ∧ win0_4.index t = ![0, 0] ∧ win0_5.index t = ![t.val, 0] ∧ win0_6.index t = ![0, t.val]
    ∧ win0_7.index t = ![t.val, 0] :=
  (by decide +kernel : ∀ t : Fin grid0.N, _)

/-- The counts the first call sees are the array it is given. -/
theorem cts_eq (c : Dev nD) : cts0 V c = V c main_arg2 := by
  refine funext fun x => ?_
  unfold cts0
  blk_ext [iblk0, idx0 p0]

/-- The activations' scales likewise. -/
theorem xs_eq (c : Dev nD) (t : Fin cfg0.N) : iblk0 V c 1 t = V c main_arg3 := by
  refine funext fun x => ?_
  blk_ext [iblk0, idx0 t]

/-- The gradient's scales likewise. -/
theorem gs_eq (c : Dev nD) (t : Fin cfg0.N) : iblk0 V c 2 t = V c main_arg5 := by
  refine funext fun x => ?_
  blk_ext [iblk0, idx0 t]

/-- The stream of codes likewise. -/
theorem cod_eq (c : Dev nD) : cod0 V c = V c main_v1 := by
  refine funext fun x => ?_
  unfold cod0
  blk_ext [iblk0, idx0 p0]

/-- Row `r` of a step's mask block is the row of its token. -/
theorem mask_at (c : Dev nD) (t : Fin cfg0.N) (r : Fin 128) (l : Fin 448) :
    iblk0 V c 3 t (ix2 r l) = V c main_v0 (ix2 (⟨128 * t.val + r.val, by have := t.isLt; change t.val < 15 at this; omega⟩ : Fin 1920) l) := by
  blk_ext [iblk0, idx0 t]

/-- Where the precondition holds, the codes of every token begin inside the stream. -/
theorem fits (h : ∀ c : Dev nD, ∀ n < 1920, (cntN (m ((c : Thread nD τ).loc main_arg2) : IVec S3x640 32) n).toNat ≤ 896) : Fits (V1 m ρ) := by
  intro c n hn
  have e : cts0 (V1 m ρ) c = m ((c : Thread nD τ).loc main_arg2) := by
    rw [cts_eq]
    exact W1_args m ρ c main_arg2 (by simp [argRefs])
  rw [e, startN_toNat _ n (by omega) (h c)]
  have := sumN_le _ n (by omega) (h c)
  omega

end Cert.KernelIdeal.Entry

end
-- ==== Proof.Code2.lean ====
module

public import proofs.«01_k».proof.Proof.Code

@[expose] public section

noncomputable section

namespace Cert.Words

open Idealize.ShloMosaic

/-- The words a group is cut from, by the group's first row of bytes. -/
theorem groupS_eq (a0 a1 a2 : BitVec 32) : ∀ b < 12, groupS (BitVec.ofNat 32 b) a0 a1 a2
    = (((if b / 4 = 0 then a0 else if b / 4 = 1 then a1 else a2) >>> (8 * (b % 4)))
      ||| (((if b / 4 = 0 then a1 else a2) <<< 1) <<< (31 - 8 * (b % 4)))) := by
  intro b hb
  interval_cases b <;> rfl

/-- A byte of a lane of a group is the byte of the window as many rows of bytes below the group's first. -/
theorem groupS_byte (a0 a1 a2 : BitVec 32) (byte : ℕ → BitVec 8) (h0 : ∀ i < 4, (a0 >>> (8 * i)).setWidth 8 = byte i)
    (h1 : ∀ i < 4, (a1 >>> (8 * i)).setWidth 8 = byte (4 + i)) (h2 : ∀ i < 4, (a2 >>> (8 * i)).setWidth 8 = byte (8 + i))
    (b j : ℕ) (hb : b < 12) (hj : j < 4) (hbj : b + j < 12) :
    (groupS (BitVec.ofNat 32 b) a0 a1 a2 >>> (8 * j)).setWidth 8 = byte (b + j) := by
  rw [groupS_eq _ _ _ _ hb, two_words _ _ _ (Nat.mod_lt _ (by decide)) _ hj]
  split
  · next h =>
    split
    · rw [h0 _ h]; congr 1; omega
    · split
      · rw [h1 _ h]; congr 1; omega
      · rw [h2 _ h]; congr 1; omega
  · next h =>
    split
    · rw [h1 _ (by omega)]; congr 1; omega
    · rw [h2 _ (by omega)]; congr 1; omega

/-- The code of a channel: the byte of the window at the channel's rank past the token's start, zero where the mask bit is off. -/
theorem codeN_eq (m : ℕ → BitVec 8) (off : ℕ) (hoff : off ≤ 1536) (W win : ℕ → ℕ → BitVec 32) (r : ℕ) (byte : ℕ → BitVec 8)
    (hW : ∀ c < 448, W r c = BitVec.ofNat 32 (256 * (rankN m (8 * c) + off) + (m c).toNat))
    (hwin : ∀ q < 3, ∀ l < 128, ∀ i < 4, ((win (4 * r + q) l) >>> (8 * i)).setWidth 8 = byte (128 * (4 * q + i) + l))
    (ch : ℕ) (hch : ch < 3584) (hin : (m (ch / 8)).getLsbD (ch % 8) = true → rankN m ch + off < 1536) :
    (codeN W win r ch).setWidth 8 = if (m (ch / 8)).getLsbD (ch % 8) then byte (rankN m ch + off) else 0#8 := by
  have hR := rankN_le m (8 * (ch / 8))
  have hM := (m (ch / 8)).isLt
  unfold codeN codeS
  rw [hW _ (show ch / 8 < 448 by omega), kept_eq m _ ch (by omega)]
  by_cases hk : (m (ch / 8)).getLsbD (ch % 8) = true
  · have hlt := hin hk
    rw [hk, if_pos rfl]
    have hc0 := rankN_le m (8 * (32 * (ch / 256)))
    have hM0 := (m (32 * (ch / 256))).isLt
    have hlo : rankN m (8 * (32 * (ch / 256))) ≤ rankN m ch := rankN_mono m (by omega)
    have hhi : rankN m ch ≤ rankN m (8 * (32 * (ch / 256))) + ch % 256 := by
      have := rankN_add_le m (8 * (32 * (ch / 256))) (ch % 256)
      rwa [show 8 * (32 * (ch / 256)) + ch % 256 = ch by omega] at this
    have hbase : baseN W r ch = BitVec.ofNat 32 ((rankN m (8 * (32 * (ch / 256))) + off) / 128) := by
      unfold baseN
      rw [hW _ (show 32 * (ch / 256) < 448 by omega)]
      refine (shrsi_ofNat _ 15 (by omega) (by omega)).trans (congrArg _ ?_)
      omega
    rw [hbase]
    generalize hX : rankN m (8 * (32 * (ch / 256))) + off = X at *
    rw [posS_eq m off ch (X / 128) hch (by omega) (by omega) (by omega)]
    generalize hp : rankN m ch + off - 128 * (X / 128) = p at *
    have hp5 : p < 512 := by omega
    rw [pos_low _ hp5, pos_byte _ hp5]
    unfold takeN
    rw [take_low _ (by omega)]
    show (Scalar.select (BitVec.ofBool true) (IntOp.shrui .vector _ _) 0#32).setWidth 8 = _
    have hj : p / 128 < 4 := by omega
    have hs : ∀ g : BitVec 32, IntOp.shrui .vector g (BitVec.ofNat 32 (8 * (p / 128))) = g >>> (8 * (p / 128)) := by
      intro g
      have ht : (BitVec.ofNat 32 (8 * (p / 128))).toNat = 8 * (p / 128) := by rw [BitVec.toNat_ofNat, Nat.mod_eq_of_lt (by omega)]
      unfold IntOp.shrui
      rw [if_pos (by omega)]
      show g >>> (BitVec.ofNat 32 (8 * (p / 128))).toNat = _
      rw [ht]
    rw [hs]
    have hl : p % 128 < 128 := by omega
    have hg := groupS_byte (win (4 * r) (p % 128)) (win (4 * r + 1) (p % 128)) (win (4 * r + 2) (p % 128)) (fun j => byte (128 * j + p % 128))
      (fun i hi => by simpa using hwin 0 (by omega) _ hl i hi) (fun i hi => hwin 1 (by omega) _ hl i hi) (fun i hi => hwin 2 (by omega) _ hl i hi)
      (X / 128) (p / 128) (by omega) hj (by omega)
    refine (show (Scalar.select (BitVec.ofBool true) _ 0#32).setWidth 8 = _ from congrArg (BitVec.setWidth 8) (if_pos rfl)).trans (hg.trans ?_)
    congr 1
    omega
  · rw [Bool.not_eq_true] at hk
    rw [hk]
    rfl

end Cert.Words

end
-- ==== Proof.Decoded.lean ====
/- The first call's values: the table of ranks, the window of words, and the code that each channel takes. -/
module

public import proofs.«01_k».proof.Proof.Entry
public import proofs.«01_k».proof.Proof.Code2
public import Idealize.ShloMosaic.Lib.BitcastFour
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Words

namespace Cert.KernelIdeal.Decoded

open Cert.KernelIdeal Cert.KernelIdeal.Gen

/-- A byte of a word of codes is the code in that row of bytes. -/
theorem word_byte (cod : Vec Ideal S13440x128 .i8) (R l i : ℕ) (hR : R < 3360) (hl : l < 128) (hi : i < 4) :
    ((at2 (k0_pay192 (F := Ideal) cod) R l) >>> (8 * i)).setWidth 8 = (cod (ix2 (⟨4 * R + i, by omega⟩ : Fin 13440) (⟨l, hl⟩ : Fin 128)) : BitVec 8) := by
  rw [at2_ix2 _ R l hR hl]
  have e : k0_pay192 (F := Ideal) cod = bitcast S3360x128 32 (cod : IVec S13440x128 8) bitcasts_S13440x128_w8_S3360x128_w32 := by
    funext y
    pointwise [k0_pay192]
  rw [e]
  apply BitVec.eq_of_getLsbD_eq
  intro q hq
  rw [BitVec.getLsbD_setWidth, BitVec.getLsbD_ushiftRight,
    bitcast_8_32_getLsbD_ix2 _ _ _ _ (8 * i + q) (by omega) (⟨4 * R + i, by omega⟩ : Fin 13440) (by show 4 * R + i = 4 * R + (8 * i + q) / 8; omega)]
  rw [show (8 * i + q) % 8 = q by omega]
  simp [hq]
  rfl

/-- A mask byte in the table. -/
theorem mask_word (x4 : Vec Ideal S128x448 .i8) (r c : ℕ) (hr : r < 128) (hc : c < 448) :
    at2 (k0_pay193 (F := Ideal) x4) r c = ((x4 (ix2 ⟨r, hr⟩ ⟨c, hc⟩) : BitVec 8)).setWidth 32 := by
  rw [at2_ix2 _ r c hr hc]
  pointwise [k0_pay193]
  rfl

/-- The kept channels of a whole byte, counted by the machine word. -/
theorem ctpop_full : ∀ M < 256, IntOp.ctpop (BitVec.ofNat 32 M) = BitVec.ofNat 32 (popN M 8) := by
  unfold popN; decide +kernel

/-- A byte keeps at most eight channels. -/
theorem popN_le : ∀ M < 256, popN M 8 ≤ 8 := by
  unfold popN; decide +kernel

/-- The rank of a byte's first channel is the sum of the set bits of the bytes before. -/
theorem rankN_bytes (m : ℕ → BitVec 8) : ∀ c, rankN m (8 * c) = ∑ x ∈ Finset.range c, popN (m x).toNat 8
  | 0 => rfl
  | c + 1 => by
    rw [Finset.sum_range_succ, ← rankN_bytes m c, ← rankN_byte m c 8 (le_refl 8)]
    congr 1

/-- The same over all 448 bytes, those from the byte on counted as nothing. -/
theorem rankN_fin (m : ℕ → BitVec 8) (c : ℕ) (hc : c ≤ 448) :
    ∑ x : Fin 448, (if x.val < c then popN (m x.val).toNat 8 else 0) = rankN m (8 * c) := by
  rw [rankN_bytes, Fin.sum_univ_eq_sum_range (fun x => if x < c then popN (m x).toNat 8 else 0), ← Finset.sum_filter]
  refine Finset.sum_congr (Finset.ext fun n => ?_) fun _ _ => rfl
  rw [Finset.mem_filter, Finset.mem_range, Finset.mem_range]
  omega

/-- A sum of natural numbers among the extended reals. -/
theorem sum_nat {ι : Type} (t : ι → ℕ) (S : Finset ι) : ∑ x ∈ S, (((t x : ℕ) : ℝ) : EReal) = (((∑ x ∈ S, t x : ℕ) : ℝ) : EReal) := by
  induction S using Finset.cons_induction with
  | empty => simp
  | cons a S ha ih => rw [Finset.sum_cons, Finset.sum_cons, ih, Nat.cast_add, EReal.coe_add]

/-- A small natural number converted to a word. -/
theorem fptosi_nat (n : ℕ) (hn : n < 2 ^ 31) : Idealize.ShloMosaic.Ideal.fptosi 32 (((n : ℕ) : ℝ) : EReal) = BitVec.ofNat 32 n := by
  unfold Idealize.ShloMosaic.Ideal.fptosi
  rw [Idealize.ShloMosaic.Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by
    norm_num; omega
  rw [e]
  rfl

/-- How many channels the bytes before a byte keep, as the product with the triangle computes it. -/
theorem before_word (x4 : Vec Ideal S128x448 .i8) (m : ℕ → BitVec 8) (r c : ℕ) (hr : r < 128) (hc : c < 448)
    (hm : ∀ k : Fin 448, (x4 (ix2 ⟨r, hr⟩ k) : BitVec 8) = m k.val) :
    at2 (k0_pay194 (F := Ideal) x4 (k0_pay191 (F := Ideal))) r c = BitVec.ofNat 32 (rankN m (8 * c)) := by
  rw [at2_ix2 _ r c hr hc]
  pointwise [k0_pay194, k0_pay193, k0_pay191]
  have hs : ∀ x : Fin 448, (Scalar.select (IntOp.cmpi CmpIPredicate.slt (BitVec.ofNat 32 x.val) (BitVec.ofNat 32 c))
      (FloatOps.sitofp (F := Idealize.ShloMosaic.Ideal) FTy.f32 (IntOp.ctpop (BitVec.setWidth 32 (x4 (ix2 ⟨r, hr⟩ x) : BitVec 8)))) 0 : EReal)
        = (((if x.val < c then popN (m x.val).toNat 8 else 0 : ℕ) : ℝ) : EReal) := by
    intro x
    have hM := (m x.val).isLt
    have hx := x.isLt
    have hlt : (BitVec.ofNat 32 x.val).slt (BitVec.ofNat 32 c) = decide (x.val < c) := by
      rw [BitVec.slt_eq_decide, BitVec.toInt_eq_toNat_cond, BitVec.toInt_eq_toNat_cond, BitVec.toNat_ofNat, BitVec.toNat_ofNat,
        Nat.mod_eq_of_lt (by omega), Nat.mod_eq_of_lt (by omega), if_pos (by omega), if_pos (by omega)]
      simp
    rw [hm x, show BitVec.setWidth 32 (m x.val) = BitVec.ofNat 32 (m x.val).toNat by simp, ctpop_full _ hM]
    show (if BitVec.ofBool ((BitVec.ofNat 32 x.val).slt (BitVec.ofNat 32 c)) = 1 then _ else _) = _
    rw [hlt]
    have hp := popN_le _ hM
    by_cases h : x.val < c
    · simp only [h, decide_true, if_true]
      show (((BitVec.ofNat 32 (popN (m x.val).toNat 8)).toInt : ℝ) : EReal) = _
      rw [BitVec.toInt_eq_toNat_cond, BitVec.toNat_ofNat, Nat.mod_eq_of_lt (by omega), if_pos (by omega)]
      simp
    · simp [h]
  refine Eq.trans (congrArg (Idealize.ShloMosaic.Ideal.fptosi 32) ((Finset.sum_congr rfl fun x _ => hs x).trans (sum_nat _ _))) ?_
  rw [rankN_fin m c (by omega)]
  have := rankN_le m (8 * c)
  exact fptosi_nat _ (by omega)

end Cert.KernelIdeal.Decoded

end
-- ==== Proof.Read.lean ====
/- The rebuilt entry: the code at the token's start plus the channel's rank, where its mask bit is on. -/
module

public import proofs.«01_k».proof.Proof.Decoded

@[expose] public section

set_option maxRecDepth 16384

noncomputable section

open Idealize.ShloMosaic Idealize.ShloMosaic.TcCoe Idealize.SL.Sem
open Idealize.ShloMosaic.Pipeline (Dat)
open Cert.Words

namespace Cert.KernelIdeal.Decoded

open Cert.KernelIdeal Cert.KernelIdeal.Gen

/-- A rank above its mask byte in one word. -/
theorem tab_word (a b : ℕ) (ha : a < 2 ^ 20) (hb : b < 256) :
    IntOp.ori (IntOp.shli .vector (BitVec.ofNat 32 a) 8#32) (BitVec.ofNat 32 b) = BitVec.ofNat 32 (256 * a + b) := by
  have h : IntOp.shli .vector (BitVec.ofNat 32 a) 8#32 = BitVec.ofNat 32 a <<< 8 := rfl
  rw [h]
  show BitVec.ofNat 32 a <<< 8 ||| BitVec.ofNat 32 b = _
  apply BitVec.eq_of_toNat_eq
  rw [BitVec.toNat_or, BitVec.toNat_shiftLeft, BitVec.toNat_ofNat, BitVec.toNat_ofNat, BitVec.toNat_ofNat, Nat.mod_eq_of_lt (by omega : a < 2 ^ 32),
    Nat.mod_eq_of_lt (by omega : b < 2 ^ 32), Nat.mod_eq_of_lt (by rw [Nat.shiftLeft_eq]; omega), ← Nat.shiftLeft_add_eq_or_of_lt (by omega : b < 2 ^ 8),
    Nat.mod_eq_of_lt (by omega), Nat.shiftLeft_eq]
  omega

/-- The rebuilt activation of a token at a channel: its scale times the code of the channel's rank, or times the zero code where the mask bit is off. -/
theorem rebuilt_eq (T r : ℕ) (hr : r < 128) (hT : T + r < 1920) (x1 : IVec S3x640 32) (x2 : FVec Ideal S3x640 .f32) (x4 : Vec Ideal S128x448 .i8)
    (cod : Vec Ideal S13440x128 .i8) (m : ℕ → BitVec 8) (hm : ∀ k : Fin 448, (x4 (ix2 ⟨r, hr⟩ k) : BitVec 8) = m k.val)
    (hcnt : ∀ n < 1920, (cntN x1 n).toNat ≤ 896) (hrank : rankN m 3584 ≤ (cntN x1 (T + r)).toNat)
    (xb : ℕ → BitVec 8) (hcod : ∀ (R : Fin 13440) (l : Fin 128), (cod (ix2 R l) : BitVec 8) = xb (128 * R.val + l.val)) (ch : ℕ) (hch : ch < 3584) :
    rebuiltN (F := Ideal) T x1 x2 x4 (k0_pay191 (F := Ideal)) (k0_pay192 (F := Ideal) cod) r ch
      = ((FloatOps.ofBits (F := Ideal) .fp8e4m3 (if (m (ch / 8)).getLsbD (ch % 8) then xb (sumN (cntN x1) (T + r) + rankN m ch) else 0#8) : EReal)
          * (cntN x2 (T + r) : EReal) : EReal) := by
  have hs := startN_toNat (cntN x1) (T + r) (by omega) hcnt
  have hle := sumN_le (cntN x1) (T + r) (by omega) hcnt
  have hle' := sumN_le (cntN x1) (T + r + 1) (by omega) hcnt
  have hc := hcnt (T + r) hT
  rw [sumN_succ] at hle'
  have hf : firstN (startN (cntN x1) (T + r)) = min (sumN (cntN x1) (T + r) / 512) 3357 := by unfold firstN; rw [hs]
  obtain ⟨S, hS⟩ : ∃ S, sumN (cntN x1) (T + r) = S := ⟨_, rfl⟩
  obtain ⟨f, hf'⟩ : ∃ f, firstN (startN (cntN x1) (T + r)) = f := ⟨_, rfl⟩
  rw [hS] at hle hle' hf
  rw [hf'] at hf
  have hq : ∀ q < 3, ∀ l, winW T x1 (k0_pay192 (F := Ideal) cod) (4 * r + q) l = at2 (k0_pay192 (F := Ideal) cod) (f + q) l := by
    intro q hq l
    unfold winW winN
    rw [show (4 * r + q) % 4 = q by omega, show (4 * r + q) / 4 = r by omega, if_pos hq, hf']
  have h3 : ∀ l, winW T x1 (k0_pay192 (F := Ideal) cod) (4 * r + 3) l = BitVec.ofNat 32 (S - 512 * f) := by
    intro l
    unfold winW winN
    rw [show (4 * r + 3) % 4 = 3 by omega, show (4 * r + 3) / 4 = r by omega, if_neg (by omega), hf']
    show startN (cntN x1) (T + r) - _ = _
    rw [startN_eq, hS]
    exact subi_ofNat S (512 * f) (by omega)
  have hin : (m (ch / 8)).getLsbD (ch % 8) = true → rankN m ch + (S - 512 * f) < 1536 := by
    intro hb
    have h1 : rankN m (ch + 1) = rankN m ch + 1 := by
      rw [rankN_succ]; unfold bitN; rw [if_pos hb]
    have h2 := rankN_mono m (show ch + 1 ≤ 3584 by omega)
    omega
  have key := codeN_eq m (S - 512 * f) (by omega) (tabW (F := Ideal) T x1 x4 (k0_pay191 (F := Ideal)) (k0_pay192 (F := Ideal) cod))
    (winW T x1 (k0_pay192 (F := Ideal) cod)) r (fun p => xb (512 * f + p))
    (by
      intro c hc
      have hrk := rankN_le m (8 * c)
      unfold tabW tabN
      rw [h3, before_word x4 m r c hr hc hm, mask_word x4 r c hr hc, hm ⟨c, hc⟩, show BitVec.setWidth 32 (m c) = BitVec.ofNat 32 (m c).toNat by simp]
      show IntOp.ori (IntOp.shli .vector (BitVec.ofNat 32 _ + BitVec.ofNat 32 _) _) _ = _
      rw [← BitVec.ofNat_add]
      exact tab_word _ _ (by omega) (m c).isLt)
    (by
      intro q hq' l hl i hi
      rw [hq q hq', word_byte cod (f + q) l i (by omega) hl hi, hcod]
      congr 1
      show 128 * (4 * (f + q) + i) + l = _
      omega)
    ch hch hin
  have e : (if (m (ch / 8)).getLsbD (ch % 8) then xb (S + rankN m ch) else 0#8)
      = if (m (ch / 8)).getLsbD (ch % 8) then xb (512 * f + (rankN m ch + (S - 512 * f))) else 0#8 := by
    congr 2
    omega
  unfold rebuiltN expandN
  rw [hS, e, ← key]
  rfl

end Cert.KernelIdeal.Decoded

end
-- ==== Proof.Product.lean ====
/- The weight-gradient product: the value that the tiled kernel's result array ends with. -/
module

public import proofs.«01_k».proof.Proof.Weight
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Product

open Cert.KernelIdeal Cert.KernelIdeal.Gen

variable (V : (c : Dev nD) → (b : Ref sig .tc) → Buf (Elt Ideal) ((c : Thread nD τ).loc b))

/-- The index maps of the four windows at every grid point: only the gradient's and the result's column block move. -/
theorem idx : ∀ t : Fin cfg1.N, win1_0.index t = ![0, 0] ∧ win1_1.index t = ![0, t.val] ∧ win1_2.index t = ![0, 0]
    ∧ win1_3.index t = ![0, t.val] :=
  (by decide +kernel : ∀ t : Fin grid1.N, _)

/-- The product payload at an index: a row of the left block against a column of the right one. -/
theorem pay1_apply (A : Vec Ideal S3584x1920 .bf16) (B : Vec Ideal S1920x512 .bf16) (r : Fin 3584) (n : Fin 512) :
    k1_pay1 (F := Ideal) (k1_pay7 A) B (ix2 r n) = ∑ k : Fin 1920, (A (ix2 r k) : EReal) * B (ix2 k n) := by
  pointwise [k1_pay1, k1_pay7]

/-- The scaling payloads at an index (all four are the same function). -/
theorem pay3_apply (X : Vec Ideal S1920x128 .f32) (D : Vec Ideal S1920x128 .fp8e5m2) (y : S1920x128.Idx) :
    k1_pay3 (F := Ideal) X D y = (D y : EReal) * X y := by
  pointwise [k1_pay3, k1_pay2]

/-- What the scratch holds when the product loads it: the gradient's block, every row scaled by its token's scale. -/
theorem scaled_apply (X : Vec Ideal S1920x128 .f32) (D : Vec Ideal S1920x512 .fp8e5m2) (s : Fin 1920 → EReal)
    (hX : ∀ (k : Fin 1920) (l : Fin 128), (X (ix2 k l) : EReal) = s k) (k : Fin 1920) (n : Fin 512) :
    View.canon (Val := Elt Ideal) (s := S1920x512) (e := .bf16)
        [⟨Rect.unit ![0, 384] ![1920, 128] inb_S1920x512_S1920x128_0_384,
            k1_pay6 (F := Ideal) X (View.ld D (Rect.unit ![0, 384] ![1920, 128] inb_S1920x512_S1920x128_0_384))⟩,
          ⟨Rect.unit ![0, 256] ![1920, 128] inb_S1920x512_S1920x128_0_256,
            k1_pay5 X (View.ld D (Rect.unit ![0, 256] ![1920, 128] inb_S1920x512_S1920x128_0_256))⟩,
          ⟨Rect.unit ![0, 128] ![1920, 128] inb_S1920x512_S1920x128_0_128,
            k1_pay4 X (View.ld D (Rect.unit ![0, 128] ![1920, 128] inb_S1920x512_S1920x128_0_128))⟩,
          ⟨Rect.unit ![0, 0] ![1920, 128] inb_S1920x512_S1920x128_0_0,
            k1_pay3 X (View.ld D (Rect.unit ![0, 0] ![1920, 128] inb_S1920x512_S1920x128_0_0))⟩]
        (ix2 k n)
      = ((D (ix2 k n) : EReal) * s k : EReal) := by
  canon_tiles x h
  all_goals
    refine (pay3_apply X _ x).trans ?_
    idx_vars x
    have hk : x0 = k := Fin.ext h0.symm
    subst hk
    rw [hX]
    congr 1
    rw [View.ld_apply]
    blk_ext [Rect.idx_unit_val]

/-- The result array as a function of the three arrays that the launch reads. -/
def G (A : Vec Ideal S3584x1920 .bf16) (D : Vec Ideal S1920x18944 .fp8e5m2) (s : Fin 1920 → EReal) : Vec Ideal S3584x18944 .f32 :=
  fun i => (∑ k : Fin 1920, (A (ix2 (i 0) k) : EReal) * ((D (ix2 k (i 1)) : EReal) * s k) : EReal)

/-- The result array after the run. -/
theorem final (c : Dev nD) (s : Fin 1920 → EReal)
    (hX : ∀ (k : Fin 1920) (l : Fin 128), (V c main_v2_2 (ix2 k l) : EReal) = s k) :
    (dat1 V c).arrAt 3 cfg1.N = G (V c main_v2_1) (V c main_v3) s := by
  refine (dat1 V c).arrAt_eq_of_covers 3 _ (by decide +kernel) fun t _ y => ?_
  blk_simp
  rw [after1_3]
  unfold outsAt1 out1_A_3
  frame_out
  rw [View.readCov_eq_canon']
  idx_vars y
  refine (pay1_apply _ _ y0 y1).trans ?_
  refine Finset.sum_congr rfl fun k _ => ?_
  refine congrArg₂ (fun a b : EReal => a * b) ?_ ?_
  · blk_ext [iblk1, idx t]
  · refine Eq.trans ?_ ((scaled_apply (iblk1 V c 2 t) (iblk1 V c 1 t) s ?_ k y1).trans ?_)
    · congr 1
      blk_ext [Rect.idx_unit_val]
    · intro k l
      refine Eq.trans ?_ (hX k l)
      blk_ext [iblk1, idx t]
    · refine congrArg₂ (fun a b : EReal => a * b) ?_ rfl
      blk_ext [iblk1, idx t]

end Cert.KernelIdeal.Product

end
-- ==== Proof.Goal.lean ====
/- The two results as functions of the arguments. -/
module

public import proofs.«01_k».proof.Proof.Marks

@[expose] public section

noncomputable section

namespace Cert.Words

open Idealize.ShloMosaic

/-- The place in the stream of the code of token `n`'s channel `ch`, where the channel is kept. -/
def placeN (M : (⟨3, ![3, 640, 448]⟩ : Shape).Idx → BitVec 8) (C : (⟨2, ![3, 640]⟩ : Shape).Idx → BitVec 32) (n ch : ℕ) : ℕ :=
  sumN (cntN C) n + rankN (markN M n) ch

/-- The rebuilt activation of token `n` at channel `ch`. -/
def recN (M : (⟨3, ![3, 640, 448]⟩ : Shape).Idx → BitVec 8) (X : (⟨1, ![1720320]⟩ : Shape).Idx → BitVec 8)
    (C : (⟨2, ![3, 640]⟩ : Shape).Idx → BitVec 32) (xs : (⟨2, ![3, 640]⟩ : Shape).Idx → EReal) (n ch : ℕ) : EReal :=
  (FloatOps.ofBits (F := Ideal) .fp8e4m3 (if (markN M n (ch / 8)).getLsbD (ch % 8) then X (ix1 (Fin.ofNat 1720320 (placeN M C n ch))) else 0#8) : EReal)
    * cntN xs n

/-- The weight gradient: rebuilt activations against scaled output gradients, summed over the tokens. -/
def dWN (M : (⟨3, ![3, 640, 448]⟩ : Shape).Idx → BitVec 8) (X : (⟨1, ![1720320]⟩ : Shape).Idx → BitVec 8)
    (C : (⟨2, ![3, 640]⟩ : Shape).Idx → BitVec 32) (xs : (⟨2, ![3, 640]⟩ : Shape).Idx → EReal) (D : (⟨3, ![3, 640, 18944]⟩ : Shape).Idx → EReal)
    (gs : (⟨2, ![3, 640]⟩ : Shape).Idx → EReal) (i : (⟨2, ![3584, 18944]⟩ : Shape).Idx) : EReal :=
  ∑ k : Fin 1920, recN M X C xs k.val (i 0).val
    * (D (ix3 (⟨k.val / 640, by omega⟩ : Fin 3) (⟨k.val % 640, by omega⟩ : Fin 640) (i 1)) * cntN gs k.val)

/-- The rebuilt activations by batch, position and channel. -/
def xN (M : (⟨3, ![3, 640, 448]⟩ : Shape).Idx → BitVec 8) (X : (⟨1, ![1720320]⟩ : Shape).Idx → BitVec 8)
    (C : (⟨2, ![3, 640]⟩ : Shape).Idx → BitVec 32) (xs : (⟨2, ![3, 640]⟩ : Shape).Idx → EReal) (i : (⟨3, ![3, 640, 3584]⟩ : Shape).Idx) : EReal :=
  recN M X C xs (640 * (i 0).val + (i 1).val) (i 2).val

/-- Every token stores at least its kept channels and at most 896 codes. -/
def CountsFit (M : (⟨3, ![3, 640, 448]⟩ : Shape).Idx → BitVec 8) (C : (⟨2, ![3, 640]⟩ : Shape).Idx → BitVec 32) : Prop :=
  ∀ n < 1920, rankN (markN M n) 3584 ≤ (cntN C n).toNat ∧ (cntN C n).toNat ≤ 896

/-- The zero code is zero. -/
theorem zero_code : (FloatOps.ofBits (F := Ideal) .fp8e4m3 0#8 : EReal) = 0 := by
  exact Ideal.ofBits_zero .fp8e4m3

/-- A token's codes lie in the stream. -/
theorem placeN_lt (M : (⟨3, ![3, 640, 448]⟩ : Shape).Idx → BitVec 8) (C : (⟨2, ![3, 640]⟩ : Shape).Idx → BitVec 32) (h : CountsFit M C)
    (n ch : ℕ) (hn : n < 1920) (hch : ch < 3584) (hb : (markN M n (ch / 8)).getLsbD (ch % 8) = true) : placeN M C n ch < 1720320 := by
  have h1 : rankN (markN M n) (ch + 1) = rankN (markN M n) ch + 1 := by
    rw [rankN_succ]; unfold bitN; rw [if_pos hb]
  have h2 := rankN_mono (markN M n) (show ch + 1 ≤ 3584 by omega)
  have h3 := sumN_le (cntN C) (n + 1) (by omega) fun i hi => (h i hi).2
  have h4 := h n hn
  rw [sumN_succ] at h3
  unfold placeN
  omega

/-- Any place is small. -/
theorem placeN_small (M : (⟨3, ![3, 640, 448]⟩ : Shape).Idx → BitVec 8) (C : (⟨2, ![3, 640]⟩ : Shape).Idx → BitVec 32) (h : CountsFit M C)
    (n ch : ℕ) (hn : n < 1920) (hch : ch < 3584) : placeN M C n ch < 2 ^ 31 := by
  have h2 := rankN_le (markN M n) ch
  have h3 := sumN_le (cntN C) n (by omega) fun i hi => (h i hi).2
  unfold placeN
  omega

end Cert.Words

end
-- ==== Proof.Ends.lean ====
/- What the two calls leave in the result arrays, as functions of the arguments. -/
module

public import proofs.«01_k».proof.Proof.Read
public import proofs.«01_k».proof.Proof.Product
public import proofs.«01_k».proof.Proof.Goal

@[expose] public section

set_option maxRecDepth 16384

noncomputable section

open Idealize.ShloMosaic Idealize.ShloMosaic.TcCoe Idealize.SL.Sem
open Idealize.ShloMosaic.Pipeline (Dat)
open Cert.Words

namespace Cert.KernelIdeal.Ends

open Cert.KernelIdeal Cert.KernelIdeal.Gen Cert.KernelIdeal.Entry Cert.KernelIdeal.Decoded

variable (m : (ℓ : Loc nD τ sig) → Buf (Elt Ideal) ℓ) (ρ : Dev nD → PrngReg)

/-- A table of mask bytes, flattened over tokens, at an entry. -/
theorem mask_cast (X : (⟨3, ![3, 640, 448]⟩ : Shape).Idx → BitVec 8) (h : (⟨3, ![3, 640, 448]⟩ : Shape).ShapeCasts ⟨2, ![1920, 448]⟩) (n : Fin 1920) (k : Fin 448) :
    shapeCast (⟨2, ![1920, 448]⟩ : Shape) X h (ix2 n k) = markN X n.val k.val := by
  rw [shapeCast_apply _ _ _ (ix3 (Fin.ofNat 3 (n.val / 640)) (Fin.ofNat 640 (n.val % 640)) (Fin.ofNat 448 k.val)) (by
    have := n.isLt; have := k.isLt
    rw [Shape.rowMajor_val_three, Shape.rowMajor_val_two]; simp [ix2, ix3]; omega)]
  rfl

/-- A stream of bytes in rows of 128, at an entry. -/
theorem code_cast (X : (⟨1, ![1720320]⟩ : Shape).Idx → BitVec 8) (h : (⟨1, ![1720320]⟩ : Shape).ShapeCasts ⟨2, ![13440, 128]⟩) (R : Fin 13440) (l : Fin 128) :
    shapeCast (⟨2, ![13440, 128]⟩ : Shape) X h (ix2 R l) = X (ix1 (Fin.ofNat 1720320 (128 * R.val + l.val))) := by
  rw [shapeCast_apply _ _ _ (ix1 (Fin.ofNat 1720320 (128 * R.val + l.val))) (by
    have := R.isLt; have := l.isLt
    rw [Shape.rowMajor_val_one, Shape.rowMajor_val_two]; simp [ix2, ix1]; omega)]

/-- The output gradients, flattened over tokens, at an entry. -/
theorem dy_cast {α : Type} (X : (⟨3, ![3, 640, 18944]⟩ : Shape).Idx → α) (h : (⟨3, ![3, 640, 18944]⟩ : Shape).ShapeCasts ⟨2, ![1920, 18944]⟩) (n : Fin 1920) (k : Fin 18944) :
    shapeCast (⟨2, ![1920, 18944]⟩ : Shape) X h (ix2 n k) = X (ix3 (⟨n.val / 640, by omega⟩ : Fin 3) (⟨n.val % 640, by omega⟩ : Fin 640) k) :=
  shapeCast_apply _ _ _ (ix3 (⟨n.val / 640, by omega⟩ : Fin 3) (⟨n.val % 640, by omega⟩ : Fin 640) k) (by
    have := n.isLt; have := k.isLt
    rw [Shape.rowMajor_val_three, Shape.rowMajor_val_two]; simp [ix2, ix3]; omega)

/-- Activations by token, taken by batch and position, at an entry. -/
theorem rec_cast {α : Type} (X : (⟨2, ![1920, 3584]⟩ : Shape).Idx → α) (h : (⟨2, ![1920, 3584]⟩ : Shape).ShapeCasts ⟨3, ![3, 640, 3584]⟩) (a : Fin 3) (b : Fin 640) (k : Fin 3584) :
    shapeCast (⟨3, ![3, 640, 3584]⟩ : Shape) X h (ix3 a b k) = X (ix2 (⟨640 * a.val + b.val, by omega⟩ : Fin 1920) k) :=
  shapeCast_apply _ _ _ (ix2 (⟨640 * a.val + b.val, by omega⟩ : Fin 1920) k) (by
    have := a.isLt; have := b.isLt; have := k.isLt
    rw [Shape.rowMajor_val_three, Shape.rowMajor_val_two]; simp [ix2, ix3]; omega)

/-- The mask that the first call is given. -/
theorem mask_entry (c : Dev nD) (n : Fin 1920) (k : Fin 448) :
    (V1 m ρ c main_v0 (ix2 n k) : BitVec 8) = markN (m ((c : Thread nD τ).loc main_arg0)) n.val k.val := by
  unfold V1 W1
  entry_read
  exact mask_cast _ _ n k

/-- The stream of codes that the first call is given. -/
theorem code_entry (c : Dev nD) (R : Fin 13440) (l : Fin 128) :
    (V1 m ρ c main_v1 (ix2 R l) : BitVec 8) = (m ((c : Thread nD τ).loc main_arg1) : (⟨1, ![1720320]⟩ : Shape).Idx → BitVec 8) (ix1 (Fin.ofNat 1720320 (128 * R.val + l.val))) := by
  unfold V1 W1
  entry_read
  exact code_cast _ _ R l

/-- The arrays that the first call is given as they are. -/
theorem arg_entry (c : Dev nD) (b : Ref sig .tc) (hb : b ∈ argRefs) : V1 m ρ c b = m ((c : Thread nD τ).loc b) := W1_args m ρ c b hb

/-- A step's rebuilt entry. -/
theorem reb_eq (c : Dev nD) (hok : CountsFit (m ((c : Thread nD τ).loc main_arg0)) (m ((c : Thread nD τ).loc main_arg2))) (t : Fin cfg0.N) (r ch : ℕ)
    (hr : r < 128) (hch : ch < 3584) :
    reb0 (V1 m ρ) c t r ch = (recN (m ((c : Thread nD τ).loc main_arg0)) (m ((c : Thread nD τ).loc main_arg1)) (m ((c : Thread nD τ).loc main_arg2))
      (m ((c : Thread nD τ).loc main_arg3)) (128 * t.val + r) ch : EReal) := by
  have ht : t.val < 15 := t.isLt
  unfold reb0
  rw [cts_eq, xs_eq, cod_eq, arg_entry m ρ c main_arg2 (by simp [argRefs]), arg_entry m ρ c main_arg3 (by simp [argRefs])]
  exact rebuilt_eq (128 * t.val) r hr (by omega) _ _ _ _ (markN (m ((c : Thread nD τ).loc main_arg0)) (128 * t.val + r))
    (fun k => (mask_at (V1 m ρ) c t ⟨r, hr⟩ k).trans (mask_entry m ρ c _ k)) (fun n hn => (hok n hn).2) (hok _ (by omega)).1
    (fun p => (m ((c : Thread nD τ).loc main_arg1) : (⟨1, ![1720320]⟩ : Shape).Idx → BitVec 8) (ix1 (Fin.ofNat 1720320 p)))
    (fun R l => code_entry m ρ c R l) ch hch

/-- The rebuilt activations after the first call. -/
theorem rec_final (c : Dev nD) (hok : CountsFit (m ((c : Thread nD τ).loc main_arg0)) (m ((c : Thread nD τ).loc main_arg2))) :
    (dat0 (V1 m ρ) c).arrAt 5 cfg0.N = fun i : S1920x3584.Idx => (recN (m ((c : Thread nD τ).loc main_arg0)) (m ((c : Thread nD τ).loc main_arg1)) (m ((c : Thread nD τ).loc main_arg2))
      (m ((c : Thread nD τ).loc main_arg3)) (i 0).val (i 1).val : EReal) := by
  refine (dat0 (V1 m ρ) c).arrAt_eq_of_covers 5 _ (by decide +kernel) fun t _ y => ?_
  blk_simp
  rw [after0_5]
  idx_vars y
  rw [(idx0 t).2.2.2.2.2.1]
  rw [reb_eq m ρ c hok t y0.val y1.val y0.isLt y1.isLt]
  show recN _ _ _ _ _ _ = recN _ _ _ _ (t.val * 128 + y0.val) (0 * 3584 + y1.val)
  rw [Nat.mul_comm, Nat.zero_mul, Nat.zero_add]

/-- The same by channel and token. -/
theorem recT_final (c : Dev nD) (hok : CountsFit (m ((c : Thread nD τ).loc main_arg0)) (m ((c : Thread nD τ).loc main_arg2))) :
    (dat0 (V1 m ρ) c).arrAt 6 cfg0.N = fun i : S3584x1920.Idx => (recN (m ((c : Thread nD τ).loc main_arg0)) (m ((c : Thread nD τ).loc main_arg1)) (m ((c : Thread nD τ).loc main_arg2))
      (m ((c : Thread nD τ).loc main_arg3)) (i 1).val (i 0).val : EReal) := by
  refine (dat0 (V1 m ρ) c).arrAt_eq_of_covers 6 _ (by decide +kernel) fun t _ y => ?_
  blk_simp
  rw [after0_6]
  idx_vars y
  rw [(idx0 t).2.2.2.2.2.2.1]
  rw [reb_eq m ρ c hok t y1.val y0.val y1.isLt y0.isLt]
  show recN _ _ _ _ _ _ = recN _ _ _ _ (t.val * 128 + y1.val) (0 * 3584 + y0.val)
  rw [Nat.mul_comm, Nat.zero_mul, Nat.zero_add]

/-- The gradient's scales after the first call, a row for each token. -/
theorem gs_final (c : Dev nD) :
    (dat0 (V1 m ρ) c).arrAt 7 cfg0.N = fun i : S1920x128.Idx => (cntN (m ((c : Thread nD τ).loc main_arg5) : (⟨2, ![3, 640]⟩ : Shape).Idx → EReal) (i 0).val : EReal) := by
  refine (dat0 (V1 m ρ) c).arrAt_eq_of_covers 7 _ (by decide +kernel) fun t _ y => ?_
  blk_simp
  rw [after0_7]
  idx_vars y
  rw [(idx0 t).2.2.2.2.2.2.2, gs_eq, arg_entry m ρ c main_arg5 (by simp [argRefs])]
  show cntN _ _ = cntN _ (t.val * 128 + y0.val)
  rw [Nat.mul_comm]

/-- The output gradients that the second call is given. -/
theorem dy_entry (c : Dev nD) (n : Fin 1920) (k : Fin 18944) :
    (V3 m ρ c main_v3 (ix2 n k) : EReal) = (m ((c : Thread nD τ).loc main_arg4) : (⟨3, ![3, 640, 18944]⟩ : Shape).Idx → EReal)
      (ix3 (⟨n.val / 640, by omega⟩ : Fin 3) (⟨n.val % 640, by omega⟩ : Fin 640) k) := by
  have e : W2 m ρ c (Proc.devRef .tc main_arg4) = m ((c : Thread nD τ).loc main_arg4) := W2_args m ρ c main_arg4 (by simp [argRefs])
  unfold V3 W3
  entry_read
  rw [e]
  exact dy_cast _ _ n k

/-- The weight gradient at the end. -/
theorem dW_end (c : Dev nD) (hok : CountsFit (m ((c : Thread nD τ).loc main_arg0)) (m ((c : Thread nD τ).loc main_arg2))) :
    W5 m ρ c (Proc.devRef .tc main_v4) = dWN (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  have h6 : V3 m ρ c main_v2_1 = _ := (W3_of m ρ c main_v2_1 (by decide)).trans ((W2_arr m ρ c 6).trans (recT_final m ρ c hok))
  have h7 : V3 m ρ c main_v2_2 = _ := (W3_of m ρ c main_v2_2 (by decide)).trans ((W2_arr m ρ c 7).trans (gs_final m ρ c))
  refine (W5_of m ρ c main_v4 (by decide)).trans ((W4_arr m ρ c 3).trans ((Product.final (V3 m ρ) c
    (fun k => (cntN (m ((c : Thread nD τ).loc main_arg5) : (⟨2, ![3, 640]⟩ : Shape).Idx → EReal) k.val : EReal)) ?_).trans ?_))
  · intro k l
    rw [h7]
    rfl
  · refine funext fun (i : S3584x18944.Idx) => ?_
    idx_vars i
    refine Finset.sum_congr rfl fun k _ => ?_
    refine congrArg₂ (fun a b : EReal => a * b) ?_ (congrArg₂ (fun a b : EReal => a * b) ?_ rfl)
    · rw [h6]
      rfl
    · exact dy_entry m ρ c k i1

/-- The rebuilt activations at the end. -/
theorem x_end (c : Dev nD) (hok : CountsFit (m ((c : Thread nD τ).loc main_arg0)) (m ((c : Thread nD τ).loc main_arg2))) :
    W5 m ρ c (Proc.devRef .tc main_v5) = xN (m ((c : Thread nD τ).loc main_arg0)) (m ((c : Thread nD τ).loc main_arg1)) (m ((c : Thread nD τ).loc main_arg2))
      (m ((c : Thread nD τ).loc main_arg3)) := by
  have h5 : W4 m ρ c (Proc.devRef .tc main_v2_0) = _ := (W4_of m ρ c main_v2_0 (by decide +kernel)).trans
    ((W3_of m ρ c main_v2_0 (by decide)).trans ((W2_arr m ρ c 5).trans (rec_final m ρ c hok)))
  refine funext fun (i : S3x640x3584.Idx) => ?_
  idx_vars i
  unfold W5
  entry_read
  rw [h5]
  exact rec_cast _ _ i0 i1 i2

end Cert.KernelIdeal.Ends

end
-- ==== Proof.Cumsum.lean ====
/- Running sums along the second axis of a matrix. -/
module

public import Idealize.ShloMosaic.Lib.Routing.OpsOne

@[expose] public section

namespace Cert.Cumsum

open Idealize.ShloMosaic Idealize.ShloMosaic.ValueIdx Idealize.ShloMosaic.Routing

/-- A row of one line has as many elements as columns. -/
theorem numel_row (N : Nat) : (⟨2, ![1, N]⟩ : Shape).numel = N := numel2 N

/-- The running sums along the second axis: where entry `(c, i)` holds `f c i`, entry `(c, j)` of the result holds `f c 0 + … + f c j`. -/
theorem cumsum_cols {R Rm1 C : Nat} (hR : Rm1 + 1 = R) (x : IVec (shape2 C R) 32) (f : Nat → Nat → Nat)
    (hx : ∀ (c : Fin C) (i : Fin R), x (ix2 c i) = BitVec.ofNat 32 (f c.val i.val)) (init : IVec shape0 32) (hinit : init ix0 = 0#32)
    (h : (shape2 C R).ReduceWindows (![1, R] : Fin 2 → Nat) ![1, 1] ![0, Rm1] ![0, 0] (shape2 C R)) (hu : 0 < shape0.numel) (c : Fin C) (j : Fin R) :
    Host.reduceWindow IntOp.addi ![1, R] ![1, 1] ![0, Rm1] ![0, 0] x init h hu (ix2 c j)
      = BitVec.ofNat 32 ((List.range (j.val + 1)).map fun i => f c.val i).sum := by
  subst hR
  have hv : init (Shape.Idx.first hu) = BitVec.ofNat 32 0 := (congrArg init (eq_ix0 _)).trans hinit
  have hj := j.isLt
  have hc := c.isLt
  unfold Host.reduceWindow
  refine (foldl_addi_ofNat _ _ (fun n => if Rm1 ≤ j.val + n.val then f c.val (j.val + n.val - Rm1) else 0) (fun n _ => ?_) _ 0 hv).trans ?_
  · have hw1 : ((shape2 1 (Rm1 + 1)).rowMajor.symm n 1).val = n.val := by rw [symm2]; rfl
    have hw0 : ((shape2 1 (Rm1 + 1)).rowMajor.symm n 0).val = 0 := by rw [symm2]; rfl
    have hn : n.val < Rm1 + 1 := (n.cast (numel2 _)).isLt
    dsimp only
    split
    · next hin =>
      have h0 := hin 1
      change Rm1 ≤ j.val * 1 + ((shape2 1 (Rm1 + 1)).rowMajor.symm n 1).val
        ∧ j.val * 1 + ((shape2 1 (Rm1 + 1)).rowMajor.symm n 1).val - Rm1 < Rm1 + 1 at h0
      rw [hw1] at h0
      rw [if_pos (by omega)]
      refine (congrArg x (funext fun a => Fin.ext ?_)).trans (hx c ⟨j.val + n.val - Rm1, by omega⟩)
      match a with
      | ⟨1, _⟩ =>
        show j.val * 1 + ((shape2 1 (Rm1 + 1)).rowMajor.symm n 1).val - Rm1 = j.val + n.val - Rm1
        rw [hw1, Nat.mul_one]
      | ⟨0, _⟩ =>
        show c.val * 1 + ((shape2 1 (Rm1 + 1)).rowMajor.symm n 0).val - 0 = c.val
        rw [hw0]
        omega
    · next hin =>
      rw [if_neg fun hle => hin fun a => by
        match a with
        | ⟨1, _⟩ =>
          show Rm1 ≤ j.val * 1 + ((shape2 1 (Rm1 + 1)).rowMajor.symm n 1).val
            ∧ j.val * 1 + ((shape2 1 (Rm1 + 1)).rowMajor.symm n 1).val - Rm1 < Rm1 + 1
          rw [hw1]
          omega
        | ⟨0, _⟩ =>
          show 0 ≤ c.val * 1 + ((shape2 1 (Rm1 + 1)).rowMajor.symm n 0).val ∧ c.val * 1 + ((shape2 1 (Rm1 + 1)).rowMajor.symm n 0).val - 0 < C
          rw [hw0]
          omega]
      exact hv
  · rw [map_finRange_val (shape2 1 (Rm1 + 1)).numel (fun n => if Rm1 ≤ j.val + n then f c.val (j.val + n - Rm1) else 0),
      numel2, sum_window (fun i => f c.val i) Rm1 j.val (by omega), Nat.zero_add]

end Cert.Cumsum
-- ==== Proof.Source.lean ====
/- What the reference's host operations compute: mask bits, places in the stream, and the codes read there. -/
module

public import proofs.«01_k».proof.Proof.Gen.ReferenceIdeal.Frame
public import proofs.«01_k».proof.Proof.Goal
public import proofs.«01_k».proof.Proof.Cumsum
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Words

namespace Cert.ReferenceIdeal.Source

open Cert.ReferenceIdeal Cert.ReferenceIdeal.Gen

variable (m : (ℓ : Loc nD τ sig) → Buf (Elt Ideal) ℓ)

/-- The mask bits as the reference takes them. -/
def bits (M : IVec S3x640x448 8) : IVec S1920x3584 32 :=
  shapeCast S1920x3584 (andi (Host.shrsi (broadcastInDim S3x640x448x8 ![0, 1, 2, 3] bcast_S3x640x448x1_S3x640x448x8_0_1_2_3
      (extui 32 (broadcastInDim S3x640x448x1 ![0, 1, 2] bcast_S3x640x448_S3x640x448x1_0_1_2 M) natLt_8_32))
    (broadcastInDim S3x640x448x8 ![0, 1, 2, 3] bcast_S1x1x1x8_S3x640x448x8_0_1_2_3 (broadcastInDim S1x1x1x8 ![3] bcast_S8_S1x1x1x8_3 (iotaInDim S8 32 0))))
    (broadcastInDim S3x640x448x8 ![] bcast_S_S3x640x448x8 (constantI S_ 32 1#32))) shapeCasts_S3x640x448x8_S1920x3584

/-- The counts in one row. -/
def row (C : IVec S3x640 32) : IVec S1920 32 := shapeCast S1920 C shapeCasts_S3x640_S1920

/-- Where each token's codes begin. -/
def starts (C : IVec S3x640 32) : IVec S1920 32 :=
  subi (Host.reduceWindow IntOp.addi ![1920] ![1] ![1919] ![0] (row C) (broadcastInDim S_ ![] bcast_S_S_ (constantI S_ 32 0#32))
    reduceWindows_S1920_S1920_w1920s1p1919_0 h_S_) (row C)

/-- Each channel's rank among its token's kept channels. -/
def ranks (M : IVec S3x640x448 8) : IVec S1920x3584 32 :=
  subi (Host.reduceWindow IntOp.addi ![1, 3584] ![1, 1] ![0, 3583] ![0, 0] (bits M) (broadcastInDim S_ ![] bcast_S_S_ (constantI S_ 32 0#32))
    reduceWindows_S1920x3584_S1920x3584_w1s1p0_0_w3584s1p3583_0 h_S_) (bits M)

/-- The places in the stream. -/
def places (M : IVec S3x640x448 8) (C : IVec S3x640 32) : IVec S1920x3584 32 :=
  addi (broadcastInDim S1920x3584 ![0, 1] bcast_S1920x1_S1920x3584_0_1 (broadcastInDim S1920x1 ![0] bcast_S1920_S1920x1_0 (starts C))) (ranks M)

/-- The codes read at the places. -/
def codes (M : IVec S3x640x448 8) (X : IVec S1720320 8) (C : IVec S3x640 32) : IVec S1920x3584 8 :=
  Host.gather gather_S1720320_S1920x3584x1_S1920x3584_n_0_n_n_0_2_1 X (broadcastInDim S1920x3584x1 ![0, 1] bcast_S1920x3584_S1920x3584x1_0_1
    (select (cmpi .slt (places M C) (broadcastInDim S1920x3584 ![] bcast_S_S1920x3584 (constantI S_ 32 0#32)))
      (addi (places M C) (broadcastInDim S1920x3584 ![] bcast_S_S1920x3584 (constantI S_ 32 1720320#32))) (places M C)))

/-- A device's buffers. -/
local notation "Bufs" => Valuation τ sig (Elt Ideal)

/-- What the first stretch of operations leaves. -/
theorem st0_bits (σ : Bufs) : StableHlo.after (hostOps0 (F := Ideal)) σ (Proc.devRef .tc main_v9) = bits (σ (Proc.devRef .tc main_arg0)) := by
  entry_read
  rfl
/-- The first stretch: the counts in one row. -/
theorem st0_row (σ : Bufs) : StableHlo.after (hostOps0 (F := Ideal)) σ (Proc.devRef .tc main_v10) = row (σ (Proc.devRef .tc main_arg2)) := by
  entry_read
  rfl
/-- This stretch leaves the array as it was. -/
theorem st0_arg1 (σ : Bufs) : StableHlo.after (hostOps0 (F := Ideal)) σ (Proc.devRef .tc main_arg1) = σ (Proc.devRef .tc main_arg1) := by
  entry_read
  rfl
/-- The second: running sums of the counts. -/
theorem st1_v11 (σ : Bufs) : StableHlo.after (hostOps0_1 (F := Ideal)) σ (Proc.devRef .tc main_v11)
    = Host.reduceWindow IntOp.addi ![1920] ![1] ![1919] ![0] (σ (Proc.devRef .tc main_v10) : IVec S1920 32) (broadcastInDim S_ ![] bcast_S_S_ (constantI S_ 32 0#32))
      reduceWindows_S1920_S1920_w1920s1p1919_0 h_S_ := by
  entry_read
  simp only [StableHlo.TRef.toBuf, StableHlo.TRef.ofBuf, cast_eq]
/-- This stretch leaves the array as it was. -/
theorem st1_v9 (σ : Bufs) : StableHlo.after (hostOps0_1 (F := Ideal)) σ (Proc.devRef .tc main_v9) = σ (Proc.devRef .tc main_v9) := by
  entry_read
  rfl
/-- This stretch leaves the array as it was. -/
theorem st1_v10 (σ : Bufs) : StableHlo.after (hostOps0_1 (F := Ideal)) σ (Proc.devRef .tc main_v10) = σ (Proc.devRef .tc main_v10) := by
  entry_read
  rfl
/-- This stretch leaves the array as it was. -/
theorem st1_arg1 (σ : Bufs) : StableHlo.after (hostOps0_1 (F := Ideal)) σ (Proc.devRef .tc main_arg1) = σ (Proc.devRef .tc main_arg1) := by
  entry_read
  rfl
/-- The third: where each token's codes begin. -/
theorem st2_v12 (σ : Bufs) : StableHlo.after (hostOps0_2 (F := Ideal)) σ (Proc.devRef .tc main_v12)
    = subi (σ (Proc.devRef .tc main_v11) : IVec S1920 32) (σ (Proc.devRef .tc main_v10)) := by
  entry_read
  rfl
/-- This stretch leaves the array as it was. -/
theorem st2_v9 (σ : Bufs) : StableHlo.after (hostOps0_2 (F := Ideal)) σ (Proc.devRef .tc main_v9) = σ (Proc.devRef .tc main_v9) := by
  entry_read
  rfl
/-- This stretch leaves the array as it was. -/
theorem st2_arg1 (σ : Bufs) : StableHlo.after (hostOps0_2 (F := Ideal)) σ (Proc.devRef .tc main_arg1) = σ (Proc.devRef .tc main_arg1) := by
  entry_read
  rfl
/-- The fourth: running sums of the mask bits. -/
theorem st3_v13 (σ : Bufs) : StableHlo.after (hostOps0_3 (F := Ideal)) σ (Proc.devRef .tc main_v13)
    = Host.reduceWindow IntOp.addi ![1, 3584] ![1, 1] ![0, 3583] ![0, 0] (σ (Proc.devRef .tc main_v9) : IVec S1920x3584 32) (broadcastInDim S_ ![] bcast_S_S_ (constantI S_ 32 0#32))
      reduceWindows_S1920x3584_S1920x3584_w1s1p0_0_w3584s1p3583_0 h_S_ := by
  entry_read
  simp only [StableHlo.TRef.toBuf, StableHlo.TRef.ofBuf, cast_eq]
/-- This stretch leaves the array as it was. -/
theorem st3_v9 (σ : Bufs) : StableHlo.after (hostOps0_3 (F := Ideal)) σ (Proc.devRef .tc main_v9) = σ (Proc.devRef .tc main_v9) := by
  entry_read
  rfl
/-- This stretch leaves the array as it was. -/
theorem st3_v12 (σ : Bufs) : StableHlo.after (hostOps0_3 (F := Ideal)) σ (Proc.devRef .tc main_v12) = σ (Proc.devRef .tc main_v12) := by
  entry_read
  rfl
/-- This stretch leaves the array as it was. -/
theorem st3_arg1 (σ : Bufs) : StableHlo.after (hostOps0_3 (F := Ideal)) σ (Proc.devRef .tc main_arg1) = σ (Proc.devRef .tc main_arg1) := by
  entry_read
  rfl

/-- The places from the starts, the running sums of the mask bits and the bits. -/
def placesOf (s : IVec S1920 32) (r b : IVec S1920x3584 32) : IVec S1920x3584 32 :=
  addi (broadcastInDim S1920x3584 ![0, 1] bcast_S1920x1_S1920x3584_0_1 (broadcastInDim S1920x1 ![0] bcast_S1920_S1920x1_0 s)) (subi r b)

/-- The fifth: the codes read at the places. -/
theorem st4_v24 (σ : Bufs) : StableHlo.after (hostOps0_4 (F := Ideal)) σ (Proc.devRef .tc main_v24)
    = Host.gather gather_S1720320_S1920x3584x1_S1920x3584_n_0_n_n_0_2_1 (σ (Proc.devRef .tc main_arg1) : IVec S1720320 8) (broadcastInDim S1920x3584x1 ![0, 1] bcast_S1920x3584_S1920x3584x1_0_1
    (select (cmpi .slt (placesOf (σ (Proc.devRef .tc main_v12)) (σ (Proc.devRef .tc main_v13)) (σ (Proc.devRef .tc main_v9))) (broadcastInDim S1920x3584 ![] bcast_S_S1920x3584 (constantI S_ 32 0#32)))
      (addi (placesOf (σ (Proc.devRef .tc main_v12)) (σ (Proc.devRef .tc main_v13)) (σ (Proc.devRef .tc main_v9))) (broadcastInDim S1920x3584 ![] bcast_S_S1920x3584 (constantI S_ 32 1720320#32)))
      (placesOf (σ (Proc.devRef .tc main_v12)) (σ (Proc.devRef .tc main_v13)) (σ (Proc.devRef .tc main_v9))))) := by
  entry_read
  rfl

/-- The mask bits that the reference reads. -/
theorem V_bits (c : Dev nD) : V m c main_v9 = bits (m ((c : Thread nD τ).loc main_arg0)) := by
  entry_read
  rfl

/-- One list of operations after another. -/
theorem after_app (l₁ l₂ : List (HloOp τ sig (Elt Ideal))) (σ : Bufs) : StableHlo.after (l₁ ++ l₂) σ = StableHlo.after l₂ (StableHlo.after l₁ σ) := by
  induction l₁ generalizing σ with
  | nil => rfl
  | cons op l ih => exact ih _

/-- The stretches one after another. -/
theorem V_eq (c : Dev nD) (b : Ref sig .tc) : V m c b = StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) (fun b => m (c, b)))))) (Proc.devRef .tc b) := by
  show StableHlo.after (List.flatten [hostOps0, hostOps0_1, hostOps0_2, hostOps0_3, hostOps0_4]) _ _ = _
  simp only [List.flatten_cons, List.flatten_nil, List.append_nil, after_app]

/-- The codes that the reference reads. -/
theorem V_codes (c : Dev nD) : V m c main_v24 = codes (m ((c : Thread nD τ).loc main_arg0)) (m ((c : Thread nD τ).loc main_arg1)) (m ((c : Thread nD τ).loc main_arg2)) := by
  rw [V_eq, st4_v24, st3_v13, st3_v12, st3_v9, st3_arg1, st2_v12, st2_v9, st2_arg1, st1_v11, st1_v10, st1_v9, st1_arg1, st0_bits, st0_row, st0_arg1]
  rfl

/-- A mask bit at an entry. -/
theorem bits_apply (M : IVec S3x640x448 8) (n : Fin 1920) (ch : Fin 3584) : bits M (ix2 n ch) = BitVec.ofNat 32 (bitN (markN M n.val) ch.val) := by
  have hn := n.isLt
  have hch := ch.isLt
  unfold bits
  rw [shapeCast_apply _ _ _ (ix4 (Fin.ofNat 3 (n.val / 640)) (Fin.ofNat 640 (n.val % 640)) (Fin.ofNat 448 (ch.val / 8)) (⟨ch.val % 8, by omega⟩ : Fin 8)) (by
    rw [Shape.rowMajor_val_four, Shape.rowMajor_val_two]; simp [ix4, ix2]; omega)]
  pointwise
  exact host_mark _ _ (by omega)

/-- The count of a token. -/
theorem row_apply (C : IVec S3x640 32) (n : Fin 1920) : row C (ix1 n) = cntN C n.val := by
  have hn := n.isLt
  unfold row
  rw [shapeCast_apply _ _ _ (ix2 (Fin.ofNat 3 (n.val / 640)) (Fin.ofNat 640 (n.val % 640))) (by
    rw [Shape.rowMajor_val_two, Shape.rowMajor_val_one]; simp [ix1, ix2]; omega)]
  rfl

/-- A sum over a list of numbers from zero on is a sum over a range. -/
theorem sum_list (f : ℕ → ℕ) : ∀ n, ((List.range n).map f).sum = ∑ i ∈ Finset.range n, f i
  | 0 => rfl
  | n + 1 => by rw [List.range_succ, List.map_append, List.sum_append, sum_list f n, Finset.sum_range_succ]; simp

/-- Where a token's codes begin. -/
theorem starts_apply (C : IVec S3x640 32) (n : Fin 1920) : starts C (ix1 n) = BitVec.ofNat 32 (sumN (cntN C) n.val) := by
  unfold starts
  refine (congrArg₂ IntOp.subi (Idealize.ShloMosaic.Routing.cumsum1 (N := 1920) (Nm1 := 1919) rfl (row C) (fun i => (cntN C i).toNat)
    (fun i => (row_apply C i).trans (by simp)) _ rfl _ _ n) (row_apply C n)).trans ?_
  rw [sum_list, Finset.sum_range_succ, BitVec.ofNat_add]
  show _ + BitVec.ofNat 32 (cntN C n.val).toNat - cntN C n.val = _
  rw [BitVec.ofNat_toNat, BitVec.setWidth_eq, BitVec.add_sub_cancel]
  rfl

/-- A channel's rank. -/
theorem ranks_apply (M : IVec S3x640x448 8) (n : Fin 1920) (ch : Fin 3584) : ranks M (ix2 n ch) = BitVec.ofNat 32 (rankN (markN M n.val) ch.val) := by
  unfold ranks
  refine (congrArg₂ IntOp.subi (Cert.Cumsum.cumsum_cols (R := 3584) (Rm1 := 3583) (C := 1920) rfl (bits M) (fun n i => bitN (markN M n) i)
    (fun n i => bits_apply M n i) _ rfl _ _ n ch) (bits_apply M n ch)).trans ?_
  rw [sum_list, Finset.sum_range_succ, BitVec.ofNat_add]
  show _ + _ - _ = _
  rw [BitVec.add_sub_cancel]
  rfl

/-- A place in the stream. -/
theorem places_apply (M : IVec S3x640x448 8) (C : IVec S3x640 32) (n : Fin 1920) (ch : Fin 3584) :
    places M C (ix2 n ch) = BitVec.ofNat 32 (placeN M C n.val ch.val) := by
  unfold places placeN
  pointwise
  rw [starts_apply, ranks_apply, BitVec.ofNat_add]
  rfl

/-- The index read for a place: the place itself. -/
theorem wrap_apply (M : IVec S3x640x448 8) (C : IVec S3x640 32) (hok : CountsFit M C) (n : Fin 1920) (ch : Fin 3584) :
    (broadcastInDim S1920x3584x1 ![0, 1] bcast_S1920x3584_S1920x3584x1_0_1
      (select (cmpi .slt (places M C) (broadcastInDim S1920x3584 ![] bcast_S_S1920x3584 (constantI S_ 32 0#32)))
        (addi (places M C) (broadcastInDim S1920x3584 ![] bcast_S_S1920x3584 (constantI S_ 32 1720320#32))) (places M C))) (ix3 n ch 0)
      = BitVec.ofNat 32 (placeN M C n.val ch.val) := by
  have hlt := placeN_small M C hok n.val ch.val n.isLt ch.isLt
  pointwise
  rw [places_apply]
  have hs : (BitVec.ofNat 32 (placeN M C n.val ch.val)).slt 0#32 = false := by
    rw [BitVec.slt_eq_decide, BitVec.toInt_eq_toNat_cond, BitVec.toNat_ofNat, Nat.mod_eq_of_lt (by omega), if_pos (by omega)]; simp
  show (if BitVec.ofBool ((BitVec.ofNat 32 (placeN M C n.val ch.val)).slt 0#32) = 1 then _ else _) = _
  rw [hs]
  rfl

/-- The code read for a kept channel. -/
theorem codes_apply (M : IVec S3x640x448 8) (X : IVec S1720320 8) (C : IVec S3x640 32) (hok : CountsFit M C) (n : Fin 1920) (ch : Fin 3584)
    (hb : (markN M n.val (ch.val / 8)).getLsbD (ch.val % 8) = true) : codes M X C (ix2 n ch) = X (ix1 (Fin.ofNat 1720320 (placeN M C n.val ch.val))) := by
  have hlt := placeN_lt M C hok n.val ch.val n.isLt ch.isLt hb
  have hp : (BitVec.ofNat 32 (placeN M C n.val ch.val)).toInt = placeN M C n.val ch.val := by
    rw [BitVec.toInt_eq_toNat_cond, BitVec.toNat_ofNat, Nat.mod_eq_of_lt (by omega), if_pos (by omega)]
  have ht : ValueIdx.takeIdx (ix2 n ch : (⟨2, ![1920, 3584]⟩ : Shape).Idx) = ix3 n ch (0 : Fin 1) := by
    funext a
    match a with
    | ⟨0, _⟩ => rfl
    | ⟨1, _⟩ => rfl
    | ⟨2, _⟩ => rfl
  unfold codes
  refine (ValueIdx.gather_take_apply (by decide) gather_S1720320_S1920x3584x1_S1920x3584_n_0_n_n_0_2_1.wf X _ (ix2 n ch)).trans ?_
  refine congrArg (fun k : Fin 1720320 => X (ix1 k)) (Fin.ext ?_)
  dsimp only
  rw [ht, wrap_apply M C hok n ch, hp, Fin.val_ofNat, Nat.mod_eq_of_lt hlt, Int.toNat_natCast]
  omega

end Cert.ReferenceIdeal.Source

end
-- ==== Proof.RefEnds.lean ====
/- What the reference leaves in its result arrays, as functions of the arguments. -/
module

public import proofs.«01_k».proof.Proof.Source

@[expose] public section

set_option maxRecDepth 16384

noncomputable section

open Idealize.ShloMosaic Idealize.ShloMosaic.TcCoe Idealize.SL.Sem
open Idealize.ShloMosaic.Pipeline (Dat)
open Cert.Words

namespace Cert.ReferenceIdeal.Ends

open Cert.ReferenceIdeal Cert.ReferenceIdeal.Gen Cert.ReferenceIdeal.Source

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0, 0] :=
  (by decide +kernel : ∀ t : Fin grid0.N, _)

/-- The activations' scales in a column. -/
theorem xs_entry (c : Dev nD) (n : Fin 1920) : (V m c main_v25 (ix2 n 0) : EReal) = cntN (m ((c : Thread nD τ).loc main_arg3) : (⟨2, ![3, 640]⟩ : Shape).Idx → EReal) n.val := by
  have hn := n.isLt
  entry_read
  refine (shapeCast_apply _ _ _ (ix2 (Fin.ofNat 3 (n.val / 640)) (Fin.ofNat 640 (n.val % 640))) ?_).trans rfl
  show (Shape.rowMajor (⟨2, ![3, 640]⟩ : Shape) _).val = (Shape.rowMajor (⟨2, ![1920, 1]⟩ : Shape) _).val
  rw [Shape.rowMajor_val_two, Shape.rowMajor_val_two]; simp [ix2]; omega

/-- The fifth stretch: the gradient scales with a column of their own. -/
theorem st4_v26 (σ : Valuation τ sig (Elt Ideal)) : StableHlo.after (hostOps0_4 (F := Ideal)) σ (Proc.devRef .tc main_v26)
    = broadcastInDim S3x640x1 ![0, 1] bcast_S3x640_S3x640x1_0_1 (StableHlo.after (hostOps0_4 (F := Ideal)) σ (Proc.devRef .tc main_arg5)) := by
  entry_read
  rfl

/-- The gradient scales that the reference reads. -/
theorem V_v26 (c : Dev nD) : V m c main_v26 = broadcastInDim S3x640x1 ![0, 1] bcast_S3x640_S3x640x1_0_1 (m ((c : Thread nD τ).loc main_arg5)) := by
  rw [V_eq, st4_v26, ← V_main_arg5 m c, V_eq m c main_arg5]

/-- The gradient's scales with a trailing unit axis. -/
theorem gs_entry (c : Dev nD) (a : Fin 3) (b : Fin 640) : (V m c main_v26 (ix3 a b 0) : EReal) = (m ((c : Thread nD τ).loc main_arg5) (ix2 a b) : EReal) := by
  rw [V_v26]
  pointwise

/-- The rebuilt activations of the body at an entry. -/
theorem rec_apply (M : IVec S3x640x448 8) (X : IVec S1720320 8) (C : IVec S3x640 32) (hok : CountsFit M C) (S : Vec Ideal S1920x1 .f32)
    (xs : (⟨2, ![3, 640]⟩ : Shape).Idx → EReal) (hS : ∀ n : Fin 1920, (S (ix2 n 0) : EReal) = cntN xs n.val) (n : Fin 1920) (ch : Fin 3584) :
    (k0_pay1 (F := Ideal) (codes M X C) (bits M) S (ix2 n ch) : EReal) = recN M X C xs n.val ch.val := by
  pointwise [k0_pay1]
  unfold recN
  rw [bits_apply, hS]
  unfold bitN
  by_cases hb : (markN M n.val (ch.val / 8)).getLsbD (ch.val % 8) = true
  · rw [if_pos hb, if_pos hb, codes_apply M X C hok n ch hb]
    rfl
  · rw [if_neg hb, if_neg hb, zero_code, zero_mul]
    rfl

/-- The body's product at an entry. -/
theorem dW_apply (K : IVec S1920x3584 8) (B : IVec S1920x3584 32) (S : Vec Ideal S1920x1 .f32) (D : Vec Ideal S3x640x18944 .fp8e5m2) (Gs : Vec Ideal S3x640x1 .f32)
    (gs : (⟨2, ![3, 640]⟩ : Shape).Idx → EReal) (hG : ∀ (a : Fin 3) (b : Fin 640), (Gs (ix3 a b 0) : EReal) = gs (ix2 a b)) (i : Fin 3584) (j : Fin 18944) :
    (k0_pay2 (F := Ideal) K B S D Gs (ix2 i j) : EReal) = ∑ k : Fin 1920, (k0_pay1 (F := Ideal) K B S (ix2 k i) : EReal)
      * ((D (ix3 (⟨k.val / 640, by omega⟩ : Fin 3) (⟨k.val % 640, by omega⟩ : Fin 640) j) : EReal) * cntN gs k.val) := by
  have hc : ∀ k : Fin 1920, cntN gs k.val = gs (ix2 (⟨k.val / 640, by omega⟩ : Fin 3) (⟨k.val % 640, by omega⟩ : Fin 640)) := by
    intro k
    have := k.isLt
    unfold cntN at2
    congr 2
    · exact Fin.ext (Nat.mod_eq_of_lt (by omega))
    · exact Fin.ext (Nat.mod_eq_of_lt (by omega))
  refine Eq.trans ?_ (Finset.sum_congr rfl fun k _ => congrArg₂ (fun a b : EReal => a * b) rfl
    (congrArg₂ (fun a b : EReal => a * b) rfl ((hG _ _).trans (hc k).symm)))
  generalize hP : k0_pay1 (F := Ideal) K B S = P
  unfold k0_pay2
  rw [hP]
  pointwise

/-- The body's rebuilt activations by batch and position. -/
theorem x_apply (K : IVec S1920x3584 8) (B : IVec S1920x3584 32) (S : Vec Ideal S1920x1 .f32) (a : Fin 3) (b : Fin 640) (j : Fin 3584) :
    (k0_pay3 (F := Ideal) K B S (ix3 a b j) : EReal) = k0_pay1 (F := Ideal) K B S (ix2 (⟨640 * a.val + b.val, by omega⟩ : Fin 1920) j) := by
  unfold k0_pay3
  exact shapeCast_apply _ _ _ (ix2 (⟨640 * a.val + b.val, by omega⟩ : Fin 1920) j) (by
    have := a.isLt; have := b.isLt; have := j.isLt
    rw [Shape.rowMajor_val_three, Shape.rowMajor_val_two]; simp [ix2, ix3]; omega)

/-- The mask bits as the reference reads them. -/
theorem h0 (c : Dev nD) : iblk m c 0 t0_0 = V m c main_v9 := by
  refine funext fun x => ?_
  blk_ext [iblk, idx t0_0]
/-- The codes as the reference reads them. -/
theorem h1 (c : Dev nD) : iblk m c 1 t0_0 = V m c main_v24 := by
  refine funext fun x => ?_
  blk_ext [iblk, idx t0_0]
/-- The activation scales as the reference reads them. -/
theorem h2 (c : Dev nD) : iblk m c 2 t0_0 = V m c main_v25 := by
  refine funext fun x => ?_
  blk_ext [iblk, idx t0_0]
/-- The gradient as the reference reads it. -/
theorem h3 (c : Dev nD) : iblk m c 3 t0_0 = m ((c : Thread nD τ).loc main_arg4) := by
  refine Eq.trans ?_ (V_main_arg4 m c)
  refine funext fun x => ?_
  blk_ext [iblk, idx t0_0]
/-- The gradient scales as the reference reads them. -/
theorem h4 (c : Dev nD) : iblk m c 4 t0_0 = V m c main_v26 := by
  refine funext fun x => ?_
  blk_ext [iblk, idx t0_0]

/-- The weight gradient at the end. -/
theorem dW_final (c : Dev nD) (hok : CountsFit (m ((c : Thread nD τ).loc main_arg0)) (m ((c : Thread nD τ).loc main_arg2))) :
    (dats m 0 c).arrAt 5 (cfgs 0).N = dWN (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_after_last 5 t0_0 (by decide +kernel) _ fun j => ?_
  blk_simp
  rw [after0_5]
  frame_out
  rw [h0, h1, h2, h3, h4, V_bits, V_codes]
  idx_vars j
  refine (dW_apply _ _ _ _ _ _ (gs_entry m c) j0 j1).trans ?_
  refine Finset.sum_congr rfl fun k _ => ?_
  rw [rec_apply _ _ _ hok _ _ (xs_entry m c) k j0]
  rfl

/-- The rebuilt activations at the end. -/
theorem x_final (c : Dev nD) (hok : CountsFit (m ((c : Thread nD τ).loc main_arg0)) (m ((c : Thread nD τ).loc main_arg2))) :
    (dats m 0 c).arrAt 6 (cfgs 0).N = xN (m ((c : Thread nD τ).loc main_arg0)) (m ((c : Thread nD τ).loc main_arg1)) (m ((c : Thread nD τ).loc main_arg2))
      (m ((c : Thread nD τ).loc main_arg3)) := by
  refine (dats m 0 c).arrAt_eq_of_after_last 6 t0_0 (by decide +kernel) _ fun j => ?_
  blk_simp
  rw [after0_6]
  frame_out
  rw [h0, h1, h2, V_bits, V_codes]
  idx_vars j
  refine (x_apply _ _ _ j0 j1 j2).trans ?_
  rw [rec_apply _ _ _ hok _ _ (xs_entry m c) _ j2]
  rfl

end Cert.ReferenceIdeal.Ends

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_counted
public import proofs.«01_k».proof.Proof.Same
public import proofs.«01_k».proof.Proof.Marks
public import proofs.«01_k».proof.Proof.Entry
public import proofs.«01_k».proof.Proof.Whole
public import proofs.«01_k».proof.Proof.Ends
public import proofs.«01_k».proof.Proof.RefEnds
public import Idealize.ShloMosaic.Adequacy
public import Idealize.ShloMosaic.Init

@[expose] public section

noncomputable section

namespace Cert.Proof

open Idealize.ShloMosaic Idealize.SL.Sem Cert.Kernel Cert.Words

/-- Where the kernel's precondition holds, the codes of every token begin inside the stream. -/
theorem fits_kernel (m : (ℓ : Loc Cert.Kernel.nD Cert.Kernel.τ Cert.Kernel.sig) → Buf (Elt Bits) ℓ) (g : Dev Cert.Kernel.nD → PrngReg)
    (hp : Cert.Pre_Kernel m) : Cert.KernelIdeal.Gen.Fits (F := Bits) (Cert.KernelIdeal.Gen.V1 (F := Bits) m g) :=
  Cert.KernelIdeal.Entry.fits m g fun c n hn => (Cert.Pre_counted.counted_token _ _ _ _ _ _ (hp c) n hn).2

/-- The kernel runs from every memory where the precondition holds, leaves its arguments as they were, and ends with every counter at zero. -/
theorem frame_kernel : Cert.quiescent_Kernel := by
  intro m g hp
  have h := Cert.KernelIdeal.Gen.run_all (F := Bits) m g (fits_kernel m g hp)
  rw [Cert.Same.same_main, Cert.Same.same_defs]
  refine (θ_run _ _ _).mono (fun r h => ⟨fun c => ?_, h.2⟩) h
  obtain ⟨h0, h1, h2, h3, h4, h5, -, -⟩ := h.1 c
  exact ⟨h0, h1, h2, h3, h4, h5⟩

/-- Where the precondition holds, the codes of every token begin inside the stream, at the ideal reading. -/
theorem fits_ideal (m : (ℓ : Loc Cert.KernelIdeal.nD Cert.KernelIdeal.τ Cert.KernelIdeal.sig) → Buf (Elt Ideal) ℓ) (g : Dev Cert.KernelIdeal.nD → PrngReg)
    (hp : Cert.Pre_KernelIdeal m) : Cert.KernelIdeal.Gen.Fits (Cert.KernelIdeal.Gen.V1 m g) :=
  Cert.KernelIdeal.Entry.fits m g fun c n hn => (Cert.Pre_counted.counted_token _ _ _ _ _ _ (hp c) n hn).2

/-- The idealized kernel runs, leaves its arguments as they were, and ends with every counter at zero. -/
theorem frame_ideal : Cert.quiescent_KernelIdeal := by
  intro m g hp
  refine (θ_run _ _ _).mono (fun r h => ⟨fun c => ?_, h.2⟩) (Cert.KernelIdeal.Gen.run_all m g (fits_ideal m g hp))
  obtain ⟨h0, h1, h2, h3, h4, h5, -, -⟩ := h.1 c
  exact ⟨h0, h1, h2, h3, h4, h5⟩

/-- The kernel and the reference end with equal results: both end with the sums and the rebuilt activations stated for token, channel and column. -/
theorem equal_results : Cert.algebraic_KernelIdeal_ReferenceIdeal := by
  intro m g m' g' hp hag
  refine ⟨fun c => Cert.KernelIdeal.Gen.W5 m g c (Proc.devRef .tc Cert.KernelIdeal.main_v4),
    fun c => Cert.KernelIdeal.Gen.W5 m g c (Proc.devRef .tc Cert.KernelIdeal.main_v5), ?_, ?_⟩
  · refine (θ_run _ _ _).mono (fun r h c => ?_) (Cert.KernelIdeal.Gen.run_all m g (fits_ideal m g hp))
    obtain ⟨h0, h1, h2, h3, h4, h5, h6, h7⟩ := h.1 c
    exact ⟨h6, h7, h0, h1, h2, h3, h4, h5⟩
  · refine (θ_run _ _ _).mono (fun r h c => ?_)
      (θ_run_and (Cert.ReferenceIdeal.Gen.run_main m' g') (Cert.ReferenceIdeal.Gen.unchanged m' g'))
    have hok : CountsFit (m ((c.tc : Thread Cert.KernelIdeal.nD Cert.KernelIdeal.τ).loc Cert.KernelIdeal.main_arg0))
        (m ((c.tc : Thread Cert.KernelIdeal.nD Cert.KernelIdeal.τ).loc Cert.KernelIdeal.main_arg2)) :=
      fun n hn => Cert.Pre_counted.counted_token _ _ _ _ _ _ (hp c) n hn
    obtain ⟨h0, h1, h2, h3, h4, h5⟩ := hag c
    have hok' : CountsFit (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2)) := by
      rw [h0, h2]; exact hok
    refine ⟨((h.1 c).1 5).trans ?_, ((h.1 c).1 6).trans ?_, h.2 c⟩
    · refine (Cert.ReferenceIdeal.Ends.dW_final m' c hok').trans ?_
      refine Eq.trans ?_ (Cert.KernelIdeal.Ends.dW_end m g c hok).symm
      rw [h0, h1, h2, h3, h4, h5]
    · refine (Cert.ReferenceIdeal.Ends.x_final m' c hok').trans ?_
      refine Eq.trans ?_ (Cert.KernelIdeal.Ends.x_end m g c hok).symm
      rw [h0, h1, h2, h3]

/-- The frames, the idealization and the algebraic claim together. -/
theorem claim : Cert.Claim := ⟨Cert.Kernel.Gen.facts, Cert.KernelIdeal.Gen.facts, Cert.ReferenceIdeal.Gen.facts, Cert.Pre_counted.Gen.facts,
  frame_kernel, frame_ideal, fun m g _ => Cert.ReferenceIdeal.Gen.frame m g, trivial, equal_results⟩

end Cert.Proof

end
